-- ==== Defs.lean ====
def Pre_Kernel [hPre_in_pool : Cert.Pre_in_pool.Facts] (m : (ℓ : Loc Cert.Kernel.nD Cert.Kernel.τ Cert.Kernel.sig) → Buf (Elt Bits) ℓ) : Prop :=
  ∀ c : Dev Cert.Kernel.nD,
    (Cert.Pre_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_pool : Cert.Pre_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_pool : Cert.Pre_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_pool : Cert.Pre_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_pool : Cert.Pre_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_pool : Cert.Pre_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_global_div" .f32 0x39C30C31#32 ((2688⁻¹ : ℝ) : EReal)

def algebraic_KernelIdeal_ReferenceIdeal [hKernelIdeal : Cert.KernelIdeal.Facts] [hReferenceIdeal : Cert.ReferenceIdeal.Facts] [hPre_in_pool : Cert.Pre_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_0) = v0 c
          ∧ r.2.mem ((c.tc : Thread Cert.ReferenceIdeal.nD Cert.ReferenceIdeal.τ).loc Cert.ReferenceIdeal.main_v16_1) = v1 c
          ∧ r.2.mem ((c.tc : Thread Cert.ReferenceIdeal.nD Cert.ReferenceIdeal.τ).loc Cert.ReferenceIdeal.main_v16_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_pool : Cert.Pre_in_pool.Facts),
    quiescent_Kernel (hKernel := hKernel) (hPre_in_pool := hPre_in_pool)
    ∧ quiescent_KernelIdeal (hKernelIdeal := hKernelIdeal) (hPre_in_pool := hPre_in_pool)
    ∧ quiescent_ReferenceIdeal (hReferenceIdeal := hReferenceIdeal) (hPre_in_pool := hPre_in_pool)
    ∧ preserves_Kernel_KernelIdeal
    ∧ algebraic_KernelIdeal_ReferenceIdeal (hKernelIdeal := hKernelIdeal) (hReferenceIdeal := hReferenceIdeal) (hPre_in_pool := hPre_in_pool)
-- ==== Pre_in_pool.lean ====
abbrev S75x32x112x128 : Shape := ⟨4, ![75, 32, 112, 128]⟩
abbrev S75x32x112 : Shape := ⟨3, ![75, 32, 112]⟩
abbrev S3x20 : Shape := ⟨2, ![3, 20]⟩
abbrev S_ : Shape := ⟨0, ![]⟩

class Facts : Prop where
  bcast_S_S3x20 : S_.BroadcastsInDim S3x20 (![] : Fin 0 → Fin S3x20.rank)
  reducesTo_S3x20_S_d0_1 : S3x20.ReducesTo [0, 1] S_
  h_S_ : 0 < S_.numel

variable [Facts]

def fn {F : FTy → Type} [FloatOps F] (main_arg0 : FVec F S75x32x112x128 .fp8e4m3) (main_arg1 : FVec F S75x32x112 .f32) (main_arg2 : IVec S3x20 32) : IVec S_ 1 :=
  let main_c : IVec S_ 32 := constantI S_ 32 0#32
  let main_v0 : IVec S3x20 32 := broadcastInDim S3x20 ![] bcast_S_S3x20 main_c
  let main_v1 : IVec S3x20 1 := cmpi .sge main_arg2 main_v0
  let main_c_0 : IVec S_ 32 := constantI S_ 32 75#32
  let main_v2 : IVec S3x20 32 := broadcastInDim S3x20 ![] bcast_S_S3x20 main_c_0
  let main_v3 : IVec S3x20 1 := cmpi .slt main_arg2 main_v2
  let main_v4 : IVec S3x20 1 := andi main_v1 main_v3
  let main_c_1 : IVec S_ 1 := constantI S_ 1 1#1
  let main_v5 : IVec S_ 1 := (fun x v => Host.reduce IntOp.andi x v reducesTo_S3x20_S_d0_1 h_S_) main_v4 main_c_1
  main_v5
-- ==== Kernel.lean ====
abbrev S75x32x112x128 : Shape := ⟨4, ![75, 32, 112, 128]⟩
abbrev S75x32x112 : Shape := ⟨3, ![75, 32, 112]⟩
abbrev S3x20 : Shape := ⟨2, ![3, 20]⟩
abbrev S256x256 : Shape := ⟨2, ![256, 256]⟩
abbrev S_ : Shape := ⟨0, ![]⟩
abbrev S3x112x64x640 : Shape := ⟨4, ![3, 112, 64, 640]⟩
abbrev S3x112x8x640 : Shape := ⟨4, ![3, 112, 8, 640]⟩
abbrev S3x112 : Shape := ⟨2, ![3, 112]⟩
abbrev S1x16x64x640 : Shape := ⟨4, ![1, 16, 64, 640]⟩
abbrev S1x16x8x640 : Shape := ⟨4, ![1, 16, 8, 640]⟩
abbrev S2x640x16x128 : Shape := ⟨4, ![2, 640, 16, 128]⟩
abbrev S3x640x112 : Shape := ⟨3, ![3, 640, 112]⟩
abbrev S5x112x128 : Shape := ⟨3, ![5, 112, 128]⟩
abbrev S5x256x256 : Shape := ⟨3, ![5, 256, 256]⟩
abbrev S4x8x640 : Shape := ⟨3, ![4, 8, 640]⟩
abbrev S2 : Shape := ⟨1, ![2]⟩
abbrev S1x1 : Shape := ⟨2, ![1, 1]⟩
abbrev S1x32x112 : Shape := ⟨3, ![1, 32, 112]⟩
abbrev S32x112 : Shape := ⟨2, ![32, 112]⟩
abbrev S1 : Shape := ⟨1, ![1]⟩
abbrev S1x32x16x128 : Shape := ⟨4, ![1, 32, 16, 128]⟩
abbrev S32x16x128 : Shape := ⟨3, ![32, 16, 128]⟩
abbrev S1x128x112 : Shape := ⟨3, ![1, 128, 112]⟩
abbrev S128x112 : Shape := ⟨2, ![128, 112]⟩
abbrev S112x128 : Shape := ⟨2, ![112, 128]⟩
abbrev S1x112x128 : Shape := ⟨3, ![1, 112, 128]⟩
abbrev S1x112 : Shape := ⟨2, ![1, 112]⟩
abbrev S3x1 : Shape := ⟨2, ![3, 1]⟩
abbrev S8x128 : Shape := ⟨2, ![8, 128]⟩
abbrev S1x32x1x128 : Shape := ⟨4, ![1, 32, 1, 128]⟩
abbrev S32x128 : Shape := ⟨2, ![32, 128]⟩
abbrev S128x128 : Shape := ⟨2, ![128, 128]⟩
abbrev S128x256 : Shape := ⟨2, ![128, 256]⟩
abbrev S1x256x256 : Shape := ⟨3, ![1, 256, 256]⟩
abbrev S2x16x8x256 : Shape := ⟨4, ![2, 16, 8, 256]⟩
abbrev S2x8x256 : Shape := ⟨3, ![2, 8, 256]⟩
abbrev S1x8x128 : Shape := ⟨3, ![1, 8, 128]⟩
abbrev S1x1x128 : Shape := ⟨3, ![1, 1, 128]⟩
abbrev S1x128 : Shape := ⟨2, ![1, 128]⟩
abbrev S128 : Shape := ⟨1, ![128]⟩
abbrev S1x1x8x128 : Shape := ⟨4, ![1, 1, 8, 128]⟩
abbrev S16x128 : Shape := ⟨2, ![16, 128]⟩
abbrev S16x8x128 : Shape := ⟨3, ![16, 8, 128]⟩
abbrev S16x1x128 : Shape := ⟨3, ![16, 1, 128]⟩
abbrev S64x128 : Shape := ⟨2, ![64, 128]⟩
abbrev S1x1x64x128 : Shape := ⟨4, ![1, 1, 64, 128]⟩

abbrev nBuf : Space → Nat
  | .hbm => 42
  | .vmem => 13
  | .smem => 1
  | _ => 0

abbrev bufTy : (tb : Table) → Fin (tcTables nBuf tb) → BufTy
  | .hbm, ⟨0, _⟩ => ⟨S75x32x112x128, .fp8e4m3⟩
  | .hbm, ⟨1, _⟩ => ⟨S75x32x112, .f32⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S_, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .fp8e4m3⟩
  | .hbm, ⟨31, _⟩ => ⟨S256x256, .i32⟩
  | .hbm, ⟨32, _⟩ => ⟨S256x256, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S256x256, .i1⟩
  | .hbm, ⟨37, _⟩ => ⟨S256x256, .f32⟩
  | .hbm, ⟨38, _⟩ => ⟨S256x256, .fp8e4m3⟩
  | .hbm, ⟨39, _⟩ => ⟨S3x112x64x640, .i8⟩
  | .hbm, ⟨40, _⟩ => ⟨S3x112x8x640, .fp8e4m3⟩
  | .hbm, ⟨41, _⟩ => ⟨S3x112, .f32⟩
  | .local _ .vmem, ⟨0, _⟩ => ⟨S256x256, .fp8e4m3⟩
  | .local _ .vmem, ⟨1, _⟩ => ⟨S256x256, .fp8e4m3⟩
  | .local _ .vmem, ⟨2, _⟩ => ⟨S1x16x64x640, .i8⟩
  | .local _ .vmem, ⟨3, _⟩ => ⟨S1x16x64x640, .i8⟩
  | .local _ .vmem, ⟨4, _⟩ => ⟨S1x16x8x640, .fp8e4m3⟩
  | .local _ .vmem, ⟨5, _⟩ => ⟨S1x16x8x640, .fp8e4m3⟩
  | .local _ .vmem, ⟨6, _⟩ => ⟨S3x112, .f32⟩
  | .local _ .vmem, ⟨7, _⟩ => ⟨S2x640x16x128, .fp8e4m3⟩
  | .local _ .vmem, ⟨8, _⟩ => ⟨S3x640x112, .f32⟩
  | .local _ .vmem, ⟨9, _⟩ => ⟨S5x112x128, .f32⟩
  | .local _ .vmem, ⟨10, _⟩ => ⟨S5x256x256, .fp8e4m3⟩
  | .local _ .vmem, ⟨11, _⟩ => ⟨S4x8x640, .f32⟩
  | .local _ .vmem, ⟨12, _⟩ => ⟨S4x8x640, .f32⟩
  | .local _ .smem, ⟨0, _⟩ => ⟨S3x20, .i32⟩
  | _, _ => ⟨S75x32x112x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_cst_5 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![3, 7], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

@[reducible] def k0_t1_loop : Scf.Loop 32 :=
  let c0_i32_12 : BitVec 32 := 0#32
  let c60_i32 : BitVec 32 := 60#32
  let v20 : BitVec 32 := Scalar.addi c0_i32_12 c60_i32
  let c1_i32_13 : BitVec 32 := 1#32
  ⟨c0_i32_12, v20, c1_i32_13⟩
def k0_off1 (k0_t1 : Fin k0_t1_loop.trips) : Fin 2 → Nat :=
  let c0_i32_12 : BitVec 32 := 0#32
  let c1_i32_13 : BitVec 32 := 1#32
  let arg18 : BitVec 32 := Scf.iv c0_i32_12 c1_i32_13 k0_t1
  let c20_i32_19 : BitVec 32 := 20#32
  let v22 : BitVec 32 := Scalar.divsi arg18 c20_i32_19
  let v24 : Index := Scalar.indexCast v22
  let c20_i32_20 : BitVec 32 := 20#32
  let v23 : BitVec 32 := Scalar.remsi arg18 c20_i32_20
  let v25 : Index := Scalar.indexCast v23
  ![v24.toNat, v25.toNat]
def k0_off2 (k0_t1 : Fin k0_t1_loop.trips) : Fin 3 → Nat :=
  let c0_i32_12 : BitVec 32 := 0#32
  let c1_i32_13 : BitVec 32 := 1#32
  let arg18 : BitVec 32 := Scf.iv c0_i32_12 c1_i32_13 k0_t1
  let c20_i32_19 : BitVec 32 := 20#32
  let v22 : BitVec 32 := Scalar.divsi arg18 c20_i32_19
  let c20_i32_20 : BitVec 32 := 20#32
  let v23 : BitVec 32 := Scalar.remsi arg18 c20_i32_20
  let c32_i32 : BitVec 32 := 32#32
  let v27 : BitVec 32 := Scalar.muli v23 c32_i32
  let c0_i32_21 : BitVec 32 := 0#32
  ![v22.toNat, v27.toNat, 0]
def k0_off3 (v26 : BitVec 32) : Fin 3 → Nat :=
  let c0_i32_22 : BitVec 32 := 0#32
  let c0_i32_23 : BitVec 32 := 0#32
  ![v26.toNat, 0, 0]

def k0_chk1 (i : grid0.Coords) (v26 : BitVec 32) : Prop :=
  (∀ (k0_h1 : k0_cond1 i = 1#1), ∀ a, (k0_off3 v26) a + S1x32x112.size a ≤ S75x32x112.size a)
theorem k0_off3_inb : ∀ (i : grid0.Coords) (v26 : BitVec 32) (k0_hw1 : k0_chk1 i v26), ∀ (k0_h1 : k0_cond1 i = 1#1), ∀ a, (k0_off3 v26) a + S1x32x112.size a ≤ S75x32x112.size a := fun i v26 k0_hw1 k0_h1 => k0_hw1 k0_h1

@[reducible] def k0_t2_loop : Scf.Loop 32 :=
  let c0_i32_15 : BitVec 32 := 0#32
  let c20_i32_16 : BitVec 32 := 20#32
  let v21 : BitVec 32 := Scalar.addi c0_i32_15 c20_i32_16
  let c1_i32_17 : BitVec 32 := 1#32
  ⟨c0_i32_15, v21, c1_i32_17⟩
def k0_off4 (k0_t2 : Fin k0_t2_loop.trips) : Fin 2 → Nat :=
  let c0 : Index := 0#32
  let c0_i32_15 : BitVec 32 := 0#32
  let c1_i32_17 : BitVec 32 := 1#32
  let arg18 : BitVec 32 := Scf.iv c0_i32_15 c1_i32_17 k0_t2
  let v23 : Index := Scalar.indexCast arg18
  ![0, v23.toNat]
def k0_off5 (k0_t2 : Fin k0_t2_loop.trips) : Fin 4 → Nat :=
  let c0_i32_21 : BitVec 32 := 0#32
  let c0_i32_15 : BitVec 32 := 0#32
  let c1_i32_17 : BitVec 32 := 1#32
  let arg18 : BitVec 32 := Scf.iv c0_i32_15 c1_i32_17 k0_t2
  let c32_i32 : BitVec 32 := 32#32
  let v26 : BitVec 32 := Scalar.muli arg18 c32_i32
  let c0_i32_23 : BitVec 32 := 0#32
  let c0_i32_24 : BitVec 32 := 0#32
  ![0, v26.toNat, 0, 0]
def k0_off6 (v24 : BitVec 32) : Fin 4 → Nat :=
  let c0_i32_25 : BitVec 32 := 0#32
  let c0_i32_19 : BitVec 32 := 0#32
  let c7_i32_20 : BitVec 32 := 7#32
  let v22 : BitVec 32 := Scalar.remsi c0_i32_19 c7_i32_20
  let c16_i32 : BitVec 32 := 16#32
  let v25 : BitVec 32 := Scalar.muli v22 c16_i32
  let c0_i32_26 : BitVec 32 := 0#32
  ![v24.toNat, 0, v25.toNat, 0]

def k0_chk2 (i : grid0.Coords) (v24 : BitVec 32) : Prop :=
  (∀ (k0_h1 : k0_cond1 i = 1#1), ∀ a, (k0_off6 v24) a + S1x32x16x128.size a ≤ S75x32x112x128.size a) ∧
  (∀ (k0_h1 : k0_cond1 i = 1#1), ∀ (hinb : ∀ a, (k0_off6 v24) a + S1x32x16x128.size a ≤ S75x32x112x128.size a), (Rect.unit (s := S75x32x112x128) (k0_off6 v24) S1x32x16x128.size hinb).WholeWords (EltTy.packing .fp8e4m3))
theorem k0_off6_inb : ∀ (i : grid0.Coords) (v24 : BitVec 32) (k0_hw2 : k0_chk2 i v24), ∀ (k0_h1 : k0_cond1 i = 1#1), ∀ a, (k0_off6 v24) a + S1x32x16x128.size a ≤ S75x32x112x128.size a := fun i v24 k0_hw2 k0_h1 => k0_hw2.1 k0_h1
theorem k0_off6_wordsfp8e4m3 : ∀ (i : grid0.Coords) (v24 : BitVec 32) (k0_hw2 : k0_chk2 i v24), ∀ (k0_h1 : k0_cond1 i = 1#1), (Rect.unit (s := S75x32x112x128) (k0_off6 v24) S1x32x16x128.size (k0_off6_inb i v24 k0_hw2 k0_h1)).WholeWords (EltTy.packing .fp8e4m3) := fun i v24 k0_hw2 k0_h1 => k0_hw2.2 k0_h1 (k0_off6_inb i v24 k0_hw2 k0_h1)

def k0_cond2 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.addi v1 c1_i32
  let c21_i32 : BitVec 32 := 21#32
  let v7 : BitVec 1 := Scalar.cmpi .slt v6 c21_i32
  let v8 : BitVec 32 := Scalar.extui v7
  let c0_i32_1 : BitVec 32 := 0#32
  let v9 : BitVec 1 := Scalar.cmpi .ne v8 c0_i32_1
  v9

@[reducible] def k0_t3_loop : Scf.Loop 32 :=
  let c0_i32_12 : BitVec 32 := 0#32
  let c20_i32_13 : BitVec 32 := 20#32
  let v20 : BitVec 32 := Scalar.addi c0_i32_12 c20_i32_13
  let c1_i32_14 : BitVec 32 := 1#32
  ⟨c0_i32_12, v20, c1_i32_14⟩
def k0_off7 (i : grid0.Coords) (k0_t3 : Fin k0_t3_loop.trips) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_16 : BitVec 32 := 1#32
  let v21 : BitVec 32 := Scalar.addi v1 c1_i32_16
  let c0_i32_19 : BitVec 32 := 0#32
  let v24 : BitVec 1 := Scalar.cmpi .sgt v21 c0_i32_19
  let v25 : BitVec 32 := Scalar.extui v24
  let c0_i32_20 : BitVec 32 := 0#32
  let v26 : BitVec 1 := Scalar.cmpi .slt v21 c0_i32_20
  let v27 : BitVec 32 := Scalar.extui v26
  let v28 : BitVec 32 := Scalar.subi v25 v27
  let c7_i32_18 : BitVec 32 := 7#32
  let c0_i32_21 : BitVec 32 := 0#32
  let v29 : BitVec 1 := Scalar.cmpi .sgt c7_i32_18 c0_i32_21
  let v30 : BitVec 32 := Scalar.extui v29
  let c0_i32_22 : BitVec 32 := 0#32
  let v31 : BitVec 1 := Scalar.cmpi .slt c7_i32_18 c0_i32_22
  let v32 : BitVec 32 := Scalar.extui v31
  let v33 : BitVec 32 := Scalar.subi v30 v32
  let v34 : BitVec 1 := Scalar.cmpi .ne v28 v33
  let v35 : BitVec 32 := Scalar.remsi v21 c7_i32_18
  let c0_i32_23 : BitVec 32 := 0#32
  let v36 : BitVec 1 := Scalar.cmpi .ne v35 c0_i32_23
  let v37 : BitVec 1 := Scalar.andi v34 v36
  let v23 : BitVec 32 := Scalar.divsi v21 c7_i32_18
  let c1_i32_24 : BitVec 32 := 1#32
  let v38 : BitVec 32 := Scalar.subi v23 c1_i32_24
  let v39 : BitVec 32 := Scalar.select v37 v38 v23
  let v41 : Index := Scalar.indexCast v39
  let c0_i32_12 : BitVec 32 := 0#32
  let c1_i32_14 : BitVec 32 := 1#32
  let arg18 : BitVec 32 := Scf.iv c0_i32_12 c1_i32_14 k0_t3
  let v42 : Index := Scalar.indexCast arg18
  ![v41.toNat, v42.toNat]
def k0_off8 (i : grid0.Coords) : Fin 1 → Nat :=
  let c1_i32_17 : BitVec 32 := 1#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32 : BitVec 32 := 2#32
  let v2 : BitVec 32 := Scalar.remsi v1 c2_i32
  let v22 : BitVec 32 := Scalar.subi c1_i32_17 v2
  ![v22.toNat]
def k0_off9 (i : grid0.Coords) (k0_t3 : Fin k0_t3_loop.trips) : Fin 4 → Nat :=
  let c1_i32_17 : BitVec 32 := 1#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32 : BitVec 32 := 2#32
  let v2 : BitVec 32 := Scalar.remsi v1 c2_i32
  let v22 : BitVec 32 := Scalar.subi c1_i32_17 v2
  let c0_i32_12 : BitVec 32 := 0#32
  let c1_i32_14 : BitVec 32 := 1#32
  let arg18 : BitVec 32 := Scf.iv c0_i32_12 c1_i32_14 k0_t3
  let c32_i32 : BitVec 32 := 32#32
  let v45 : BitVec 32 := Scalar.muli arg18 c32_i32
  let c0_i32_26 : BitVec 32 := 0#32
  let c0_i32_27 : BitVec 32 := 0#32
  ![v22.toNat, v45.toNat, 0, 0]
def k0_off10 (i : grid0.Coords) (v43 : BitVec 32) : Fin 4 → Nat :=
  let c0_i32_28 : BitVec 32 := 0#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_16 : BitVec 32 := 1#32
  let v21 : BitVec 32 := Scalar.addi v1 c1_i32_16
  let c7_i32_25 : BitVec 32 := 7#32
  let v40 : BitVec 32 := Scalar.remsi v21 c7_i32_25
  let c16_i32 : BitVec 32 := 16#32
  let v44 : BitVec 32 := Scalar.muli v40 c16_i32
  let c0_i32_29 : BitVec 32 := 0#32
  ![v43.toNat, 0, v44.toNat, 0]

def k0_chk3 (i : grid0.Coords) (v43 : BitVec 32) : Prop :=
  (∀ (k0_h2 : k0_cond2 i = 1#1), ∀ a, (k0_off10 i v43) a + S1x32x16x128.size a ≤ S75x32x112x128.size a) ∧
  (∀ (k0_h2 : k0_cond2 i = 1#1), ∀ (hinb : ∀ a, (k0_off10 i v43) a + S1x32x16x128.size a ≤ S75x32x112x128.size a), (Rect.unit (s := S75x32x112x128) (k0_off10 i v43) S1x32x16x128.size hinb).WholeWords (EltTy.packing .fp8e4m3))
theorem k0_off10_inb : ∀ (i : grid0.Coords) (v43 : BitVec 32) (k0_hw3 : k0_chk3 i v43), ∀ (k0_h2 : k0_cond2 i = 1#1), ∀ a, (k0_off10 i v43) a + S1x32x16x128.size a ≤ S75x32x112x128.size a := fun i v43 k0_hw3 k0_h2 => k0_hw3.1 k0_h2
theorem k0_off10_wordsfp8e4m3 : ∀ (i : grid0.Coords) (v43 : BitVec 32) (k0_hw3 : k0_chk3 i v43), ∀ (k0_h2 : k0_cond2 i = 1#1), (Rect.unit (s := S75x32x112x128) (k0_off10 i v43) S1x32x16x128.size (k0_off10_inb i v43 k0_hw3 k0_h2)).WholeWords (EltTy.packing .fp8e4m3) := fun i v43 k0_hw3 k0_h2 => k0_hw3.2 k0_h2 (k0_off10_inb i v43 k0_hw3 k0_h2)

def k0_cond3 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32_2 : BitVec 32 := 0#32
  let v10 : BitVec 1 := Scalar.cmpi .eq v1 c0_i32_2
  let v11 : BitVec 32 := Scalar.extui v10
  let c0_i32_3 : BitVec 32 := 0#32
  let v12 : BitVec 1 := Scalar.cmpi .ne v11 c0_i32_3
  v12

@[reducible] def k0_t4_loop : Scf.Loop 32 :=
  let c0_i32_12 : BitVec 32 := 0#32
  let c60_i32 : BitVec 32 := 60#32
  let v20 : BitVec 32 := Scalar.addi c0_i32_12 c60_i32
  let c1_i32_13 : BitVec 32 := 1#32
  ⟨c0_i32_12, v20, c1_i32_13⟩
def k0_off11 (k0_t4 : Fin k0_t4_loop.trips) : Fin 2 → Nat :=
  let c0_i32_12 : BitVec 32 := 0#32
  let c1_i32_13 : BitVec 32 := 1#32
  let arg18 : BitVec 32 := Scf.iv c0_i32_12 c1_i32_13 k0_t4
  let c20_i32_15 : BitVec 32 := 20#32
  let v21 : BitVec 32 := Scalar.divsi arg18 c20_i32_15
  let v23 : Index := Scalar.indexCast v21
  let c20_i32_16 : BitVec 32 := 20#32
  let v22 : BitVec 32 := Scalar.remsi arg18 c20_i32_16
  let v24 : Index := Scalar.indexCast v22
  ![v23.toNat, v24.toNat]
def k0_off12 (k0_t4 : Fin k0_t4_loop.trips) : Fin 3 → Nat :=
  let c0_i32_12 : BitVec 32 := 0#32
  let c1_i32_13 : BitVec 32 := 1#32
  let arg18 : BitVec 32 := Scf.iv c0_i32_12 c1_i32_13 k0_t4
  let c20_i32_15 : BitVec 32 := 20#32
  let v21 : BitVec 32 := Scalar.divsi arg18 c20_i32_15
  let c20_i32_16 : BitVec 32 := 20#32
  let v22 : BitVec 32 := Scalar.remsi arg18 c20_i32_16
  let c32_i32 : BitVec 32 := 32#32
  let v26 : BitVec 32 := Scalar.muli v22 c32_i32
  let c0_i32_17 : BitVec 32 := 0#32
  ![v21.toNat, v26.toNat, 0]
def k0_off13 (v25 : BitVec 32) : Fin 3 → Nat :=
  let c0_i32_18 : BitVec 32 := 0#32
  let c0_i32_19 : BitVec 32 := 0#32
  ![v25.toNat, 0, 0]

def k0_chk4 (i : grid0.Coords) (v25 : BitVec 32) : Prop :=
  (∀ (k0_h3 : k0_cond3 i = 1#1), ∀ a, (k0_off13 v25) a + S1x32x112.size a ≤ S75x32x112.size a)
theorem k0_off13_inb : ∀ (i : grid0.Coords) (v25 : BitVec 32) (k0_hw4 : k0_chk4 i v25), ∀ (k0_h3 : k0_cond3 i = 1#1), ∀ a, (k0_off13 v25) a + S1x32x112.size a ≤ S75x32x112.size a := fun i v25 k0_hw4 k0_h3 => k0_hw4 k0_h3

def k0_cond4 (i : grid0.Coords) : BitVec 1 :=
  let arg1 : BitVec 32 := BitVec.ofNat 32 (i 1).val
  let c0_i32_4 : BitVec 32 := 0#32
  let v13 : BitVec 1 := Scalar.cmpi .eq arg1 c0_i32_4
  let v14 : BitVec 32 := Scalar.extui v13
  let c0_i32_5 : BitVec 32 := 0#32
  let v15 : BitVec 1 := Scalar.cmpi .ne v14 c0_i32_5
  v15

@[reducible] def k0_t5_loop : Scf.Loop 32 :=
  let c0_i32_12 : BitVec 32 := 0#32
  let c5_i32 : BitVec 32 := 5#32
  let v20 : BitVec 32 := Scalar.addi c0_i32_12 c5_i32
  let c1_i32_13 : BitVec 32 := 1#32
  ⟨c0_i32_12, v20, c1_i32_13⟩
def k0_mult1 (k0_t5 : Fin k0_t5_loop.trips) : BitVec 32 :=
  let c0_i32_12 : BitVec 32 := 0#32
  let c1_i32_13 : BitVec 32 := 1#32
  let arg18 : BitVec 32 := Scf.iv c0_i32_12 c1_i32_13 k0_t5
  let c128_i32 : BitVec 32 := 128#32
  let v21 : BitVec 32 := Scalar.muli arg18 c128_i32
  v21
def k0_off14 (i : grid0.Coords) (k0_t5 : Fin k0_t5_loop.trips) : Fin 3 → Nat :=
  let arg0 : BitVec 32 := BitVec.ofNat 32 (i 0).val
  let v23 : Index := Scalar.indexCast arg0
  let c0_i32_12 : BitVec 32 := 0#32
  let c1_i32_13 : BitVec 32 := 1#32
  let arg18 : BitVec 32 := Scf.iv c0_i32_12 c1_i32_13 k0_t5
  let c128_i32 : BitVec 32 := 128#32
  let v21 : BitVec 32 := Scalar.muli arg18 c128_i32
  let v22 : BitVec 32 := v21
  let v24 : Index := Scalar.indexCast v22
  let c0 : Index := 0#32
  ![v23.toNat, v24.toNat, 0]
def k0_off15 (k0_t5 : Fin k0_t5_loop.trips) : Fin 3 → Nat :=
  let c0_i32_12 : BitVec 32 := 0#32
  let c1_i32_13 : BitVec 32 := 1#32
  let arg18 : BitVec 32 := Scf.iv c0_i32_12 c1_i32_13 k0_t5
  let v28 : Index := Scalar.indexCast arg18
  let c0_15 : Index := 0#32
  let c0_16 : Index := 0#32
  ![v28.toNat, 0, 0]
@[reducible] def k0_t6_loop : Scf.Loop 32 :=
  let c0_i32_6 : BitVec 32 := 0#32
  let c20_i32 : BitVec 32 := 20#32
  let v16 : BitVec 32 := Scalar.addi c0_i32_6 c20_i32
  let c1_i32_7 : BitVec 32 := 1#32
  ⟨c0_i32_6, v16, c1_i32_7⟩
def k0_off16 (i : grid0.Coords) (k0_t6 : Fin k0_t6_loop.trips) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32_13 : BitVec 32 := 0#32
  let v21 : BitVec 1 := Scalar.cmpi .sgt v1 c0_i32_13
  let v22 : BitVec 32 := Scalar.extui v21
  let c0_i32_14 : BitVec 32 := 0#32
  let v23 : BitVec 1 := Scalar.cmpi .slt v1 c0_i32_14
  let v24 : BitVec 32 := Scalar.extui v23
  let v25 : BitVec 32 := Scalar.subi v22 v24
  let c7_i32_12 : BitVec 32 := 7#32
  let c0_i32_15 : BitVec 32 := 0#32
  let v26 : BitVec 1 := Scalar.cmpi .sgt c7_i32_12 c0_i32_15
  let v27 : BitVec 32 := Scalar.extui v26
  let c0_i32_16 : BitVec 32 := 0#32
  let v28 : BitVec 1 := Scalar.cmpi .slt c7_i32_12 c0_i32_16
  let v29 : BitVec 32 := Scalar.extui v28
  let v30 : BitVec 32 := Scalar.subi v27 v29
  let v31 : BitVec 1 := Scalar.cmpi .ne v25 v30
  let v32 : BitVec 32 := Scalar.remsi v1 c7_i32_12
  let c0_i32_17 : BitVec 32 := 0#32
  let v33 : BitVec 1 := Scalar.cmpi .ne v32 c0_i32_17
  let v34 : BitVec 1 := Scalar.andi v31 v33
  let v20 : BitVec 32 := Scalar.divsi v1 c7_i32_12
  let c1_i32_18 : BitVec 32 := 1#32
  let v35 : BitVec 32 := Scalar.subi v20 c1_i32_18
  let v36 : BitVec 32 := Scalar.select v34 v35 v20
  let v38 : Index := Scalar.indexCast v36
  let c0_i32_6 : BitVec 32 := 0#32
  let c1_i32_7 : BitVec 32 := 1#32
  let arg18 : BitVec 32 := Scf.iv c0_i32_6 c1_i32_7 k0_t6
  let v39 : Index := Scalar.indexCast arg18
  ![v38.toNat, v39.toNat]
def k0_off17 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off18 (i : grid0.Coords) (k0_t6 : Fin k0_t6_loop.trips) : Fin 4 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_6 : BitVec 32 := 0#32
  let c1_i32_7 : BitVec 32 := 1#32
  let arg18 : BitVec 32 := Scf.iv c0_i32_6 c1_i32_7 k0_t6
  let c32_i32 : BitVec 32 := 32#32
  let v42 : BitVec 32 := Scalar.muli arg18 c32_i32
  let c0_i32_20 : BitVec 32 := 0#32
  let c0_i32_21 : BitVec 32 := 0#32
  ![v2.toNat, v42.toNat, 0, 0]
def k0_off19 (i : grid0.Coords) (v40 : BitVec 32) : Fin 4 → Nat :=
  let c0_i32_22 : BitVec 32 := 0#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_19 : BitVec 32 := 7#32
  let v37 : BitVec 32 := Scalar.remsi v1 c7_i32_19
  let c16_i32 : BitVec 32 := 16#32
  let v41 : BitVec 32 := Scalar.muli v37 c16_i32
  let c0_i32_23 : BitVec 32 := 0#32
  ![v40.toNat, 0, v41.toNat, 0]

def k0_chk5 (i : grid0.Coords) (v40 : BitVec 32) : Prop :=
  (∀ a, (k0_off19 i v40) a + S1x32x16x128.size a ≤ S75x32x112x128.size a) ∧
  (∀ (hinb : ∀ a, (k0_off19 i v40) a + S1x32x16x128.size a ≤ S75x32x112x128.size a), (Rect.unit (s := S75x32x112x128) (k0_off19 i v40) S1x32x16x128.size hinb).WholeWords (EltTy.packing .fp8e4m3))
theorem k0_off19_inb : ∀ (i : grid0.Coords) (v40 : BitVec 32) (k0_hw5 : k0_chk5 i v40), ∀ a, (k0_off19 i v40) a + S1x32x16x128.size a ≤ S75x32x112x128.size a := fun i v40 k0_hw5 => k0_hw5.1
theorem k0_off19_wordsfp8e4m3 : ∀ (i : grid0.Coords) (v40 : BitVec 32) (k0_hw5 : k0_chk5 i v40), (Rect.unit (s := S75x32x112x128) (k0_off19 i v40) S1x32x16x128.size (k0_off19_inb i v40 k0_hw5)).WholeWords (EltTy.packing .fp8e4m3) := fun i v40 k0_hw5 => k0_hw5.2 (k0_off19_inb i v40 k0_hw5)

@[reducible] def k0_t7_loop : Scf.Loop 32 :=
  let c0_i32_9 : BitVec 32 := 0#32
  let c4_i32 : BitVec 32 := 4#32
  let v19 : BitVec 32 := Scalar.addi c0_i32_9 c4_i32
  let c1_i32_10 : BitVec 32 := 1#32
  ⟨c0_i32_9, v19, c1_i32_10⟩
@[reducible] def k0_t8_loop : Scf.Loop 32 :=
  let c0_i32_15 : BitVec 32 := 0#32
  let c5_i32 : BitVec 32 := 5#32
  let v24 : BitVec 32 := Scalar.addi c0_i32_15 c5_i32
  let c1_i32_16 : BitVec 32 := 1#32
  ⟨c0_i32_15, v24, c1_i32_16⟩
def k0_off20 (i : grid0.Coords) (k0_t7 : Fin k0_t7_loop.trips) (k0_t8 : Fin k0_t8_loop.trips) (c0_i32_87 : BitVec 32) (c0_i32_89 : BitVec 32) : Fin 4 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32 : BitVec 32 := 2#32
  let v2 : BitVec 32 := Scalar.remsi v1 c2_i32
  let v163 : Index := Scalar.indexCast v2
  let c0_i32_15 : BitVec 32 := 0#32
  let c1_i32_16 : BitVec 32 := 1#32
  let arg19 : BitVec 32 := Scf.iv c0_i32_15 c1_i32_16 k0_t8
  let c128_i32 : BitVec 32 := 128#32
  let v159 : BitVec 32 := Scalar.muli arg19 c128_i32
  let v160 : BitVec 32 := Scalar.addi v159 c0_i32_87
  let v164 : Index := Scalar.indexCast v160
  let c0_i32_9 : BitVec 32 := 0#32
  let c1_i32_10 : BitVec 32 := 1#32
  let arg18 : BitVec 32 := Scf.iv c0_i32_9 c1_i32_10 k0_t7
  let c4_i32_88 : BitVec 32 := 4#32
  let v161 : BitVec 32 := Scalar.muli arg18 c4_i32_88
  let v162 : BitVec 32 := Scalar.addi v161 c0_i32_89
  let v165 : Index := Scalar.indexCast v162
  let c0_90 : Index := 0#32
  ![v163.toNat, v164.toNat, v165.toNat, 0]
def k0_off21 (k0_t8 : Fin k0_t8_loop.trips) : Fin 3 → Nat :=
  let c0_i32_15 : BitVec 32 := 0#32
  let c1_i32_16 : BitVec 32 := 1#32
  let arg19 : BitVec 32 := Scf.iv c0_i32_15 c1_i32_16 k0_t8
  let v286 : Index := Scalar.indexCast arg19
  let c0_139 : Index := 0#32
  let c0_140 : Index := 0#32
  ![v286.toNat, 0, 0]
def k0_off22 (i : grid0.Coords) (k0_t7 : Fin k0_t7_loop.trips) (k0_t8 : Fin k0_t8_loop.trips) (c0_i32_147 : BitVec 32) : Fin 3 → Nat :=
  let c0_i32_15 : BitVec 32 := 0#32
  let c1_i32_16 : BitVec 32 := 1#32
  let arg19 : BitVec 32 := Scf.iv c0_i32_15 c1_i32_16 k0_t8
  let v302 : Index := Scalar.indexCast arg19
  let arg1 : BitVec 32 := BitVec.ofNat 32 (i 1).val
  let c16_i32_145 : BitVec 32 := 16#32
  let v298 : BitVec 32 := Scalar.muli arg1 c16_i32_145
  let c0_i32_9 : BitVec 32 := 0#32
  let c1_i32_10 : BitVec 32 := 1#32
  let arg18 : BitVec 32 := Scf.iv c0_i32_9 c1_i32_10 k0_t7
  let c4_i32_146 : BitVec 32 := 4#32
  let v299 : BitVec 32 := Scalar.muli arg18 c4_i32_146
  let v300 : BitVec 32 := Scalar.addi v298 v299
  let v301 : BitVec 32 := Scalar.addi v300 c0_i32_147
  let v303 : Index := Scalar.indexCast v301
  let c0_148 : Index := 0#32
  ![v302.toNat, v303.toNat, 0]
def k0_mult2 (k0_t8 : Fin k0_t8_loop.trips) : BitVec 32 :=
  let c0_i32_15 : BitVec 32 := 0#32
  let c1_i32_16 : BitVec 32 := 1#32
  let arg19 : BitVec 32 := Scf.iv c0_i32_15 c1_i32_16 k0_t8
  let c128_i32_149 : BitVec 32 := 128#32
  let v309 : BitVec 32 := Scalar.muli arg19 c128_i32_149
  v309
def k0_off23 (k0_t8 : Fin k0_t8_loop.trips) : Fin 3 → Nat :=
  let c0_150 : Index := 0#32
  let c0_151 : Index := 0#32
  let c0_i32_15 : BitVec 32 := 0#32
  let c1_i32_16 : BitVec 32 := 1#32
  let arg19 : BitVec 32 := Scf.iv c0_i32_15 c1_i32_16 k0_t8
  let c128_i32_149 : BitVec 32 := 128#32
  let v309 : BitVec 32 := Scalar.muli arg19 c128_i32_149
  let v310 : BitVec 32 := v309
  let v311 : Index := Scalar.indexCast v310
  ![0, 0, v311.toNat]
def k0_mult3 (k0_t8 : Fin k0_t8_loop.trips) : BitVec 32 :=
  let c0_i32_15 : BitVec 32 := 0#32
  let c1_i32_16 : BitVec 32 := 1#32
  let arg19 : BitVec 32 := Scf.iv c0_i32_15 c1_i32_16 k0_t8
  let c128_i32_156 : BitVec 32 := 128#32
  let v329 : BitVec 32 := Scalar.muli arg19 c128_i32_156
  v329
def k0_off24 (k0_t8 : Fin k0_t8_loop.trips) : Fin 3 → Nat :=
  let c1 : Index := 1#32
  let c0_157 : Index := 0#32
  let c0_i32_15 : BitVec 32 := 0#32
  let c1_i32_16 : BitVec 32 := 1#32
  let arg19 : BitVec 32 := Scf.iv c0_i32_15 c1_i32_16 k0_t8
  let c128_i32_156 : BitVec 32 := 128#32
  let v329 : BitVec 32 := Scalar.muli arg19 c128_i32_156
  let v330 : BitVec 32 := v329
  let v331 : Index := Scalar.indexCast v330
  ![1, 0, v331.toNat]
def k0_mult4 (k0_t8 : Fin k0_t8_loop.trips) : BitVec 32 :=
  let c0_i32_15 : BitVec 32 := 0#32
  let c1_i32_16 : BitVec 32 := 1#32
  let arg19 : BitVec 32 := Scf.iv c0_i32_15 c1_i32_16 k0_t8
  let c128_i32_162 : BitVec 32 := 128#32
  let v349 : BitVec 32 := Scalar.muli arg19 c128_i32_162
  v349
def k0_off25 (k0_t8 : Fin k0_t8_loop.trips) : Fin 3 → Nat :=
  let c2 : Index := 2#32
  let c0_163 : Index := 0#32
  let c0_i32_15 : BitVec 32 := 0#32
  let c1_i32_16 : BitVec 32 := 1#32
  let arg19 : BitVec 32 := Scf.iv c0_i32_15 c1_i32_16 k0_t8
  let c128_i32_162 : BitVec 32 := 128#32
  let v349 : BitVec 32 := Scalar.muli arg19 c128_i32_162
  let v350 : BitVec 32 := v349
  let v351 : Index := Scalar.indexCast v350
  ![2, 0, v351.toNat]
def k0_mult5 (k0_t8 : Fin k0_t8_loop.trips) : BitVec 32 :=
  let c0_i32_15 : BitVec 32 := 0#32
  let c1_i32_16 : BitVec 32 := 1#32
  let arg19 : BitVec 32 := Scf.iv c0_i32_15 c1_i32_16 k0_t8
  let c128_i32_168 : BitVec 32 := 128#32
  let v369 : BitVec 32 := Scalar.muli arg19 c128_i32_168
  v369
def k0_off26 (k0_t8 : Fin k0_t8_loop.trips) : Fin 3 → Nat :=
  let c3 : Index := 3#32
  let c0_169 : Index := 0#32
  let c0_i32_15 : BitVec 32 := 0#32
  let c1_i32_16 : BitVec 32 := 1#32
  let arg19 : BitVec 32 := Scf.iv c0_i32_15 c1_i32_16 k0_t8
  let c128_i32_168 : BitVec 32 := 128#32
  let v369 : BitVec 32 := Scalar.muli arg19 c128_i32_168
  let v370 : BitVec 32 := v369
  let v371 : Index := Scalar.indexCast v370
  ![3, 0, v371.toNat]
@[reducible] def k0_t9_loop : Scf.Loop 32 :=
  let c0_i32_29 : BitVec 32 := 0#32
  let c5_i32_30 : BitVec 32 := 5#32
  let v58 : BitVec 32 := Scalar.addi c0_i32_29 c5_i32_30
  let c1_i32_31 : BitVec 32 := 1#32
  ⟨c0_i32_29, v58, c1_i32_31⟩
def k0_mult6 (k0_t9 : Fin k0_t9_loop.trips) : BitVec 32 :=
  let c0_i32_29 : BitVec 32 := 0#32
  let c1_i32_31 : BitVec 32 := 1#32
  let arg19 : BitVec 32 := Scf.iv c0_i32_29 c1_i32_31 k0_t9
  let c128_i32 : BitVec 32 := 128#32
  let v159 : BitVec 32 := Scalar.muli arg19 c128_i32
  v159
def k0_off27 (k0_t9 : Fin k0_t9_loop.trips) : Fin 3 → Nat :=
  let c0_87 : Index := 0#32
  let c0_88 : Index := 0#32
  let c0_i32_29 : BitVec 32 := 0#32
  let c1_i32_31 : BitVec 32 := 1#32
  let arg19 : BitVec 32 := Scf.iv c0_i32_29 c1_i32_31 k0_t9
  let c128_i32 : BitVec 32 := 128#32
  let v159 : BitVec 32 := Scalar.muli arg19 c128_i32
  let v160 : BitVec 32 := v159
  let v161 : Index := Scalar.indexCast v160
  ![0, 0, v161.toNat]
def k0_off28 (k0_t7 : Fin k0_t7_loop.trips) (k0_t9 : Fin k0_t9_loop.trips) : Fin 4 → Nat :=
  let c0_90 : Index := 0#32
  let c0_i32_9 : BitVec 32 := 0#32
  let c1_i32_10 : BitVec 32 := 1#32
  let arg18 : BitVec 32 := Scf.iv c0_i32_9 c1_i32_10 k0_t7
  let c4_i32_18 : BitVec 32 := 4#32
  let v26 : BitVec 32 := Scalar.muli arg18 c4_i32_18
  let c0_i32_19 : BitVec 32 := 0#32
  let v27 : BitVec 32 := Scalar.addi v26 c0_i32_19
  let v168 : Index := Scalar.indexCast v27
  let c0_91 : Index := 0#32
  let c0_i32_29 : BitVec 32 := 0#32
  let c1_i32_31 : BitVec 32 := 1#32
  let arg19 : BitVec 32 := Scf.iv c0_i32_29 c1_i32_31 k0_t9
  let c128_i32 : BitVec 32 := 128#32
  let v159 : BitVec 32 := Scalar.muli arg19 c128_i32
  let v160 : BitVec 32 := v159
  let v169 : Index := Scalar.indexCast v160
  ![0, v168.toNat, 0, v169.toNat]
def k0_off29 (i : grid0.Coords) (k0_t7 : Fin k0_t7_loop.trips) (k0_t9 : Fin k0_t9_loop.trips) : Fin 3 → Nat :=
  let c0_i32_29 : BitVec 32 := 0#32
  let c1_i32_31 : BitVec 32 := 1#32
  let arg19 : BitVec 32 := Scf.iv c0_i32_29 c1_i32_31 k0_t9
  let v178 : Index := Scalar.indexCast arg19
  let arg1 : BitVec 32 := BitVec.ofNat 32 (i 1).val
  let c16_i32_92 : BitVec 32 := 16#32
  let v176 : BitVec 32 := Scalar.muli arg1 c16_i32_92
  let c0_i32_9 : BitVec 32 := 0#32
  let c1_i32_10 : BitVec 32 := 1#32
  let arg18 : BitVec 32 := Scf.iv c0_i32_9 c1_i32_10 k0_t7
  let c4_i32_18 : BitVec 32 := 4#32
  let v26 : BitVec 32 := Scalar.muli arg18 c4_i32_18
  let c0_i32_19 : BitVec 32 := 0#32
  let v27 : BitVec 32 := Scalar.addi v26 c0_i32_19
  let v177 : BitVec 32 := Scalar.addi v176 v27
  let v179 : Index := Scalar.indexCast v177
  let c0_93 : Index := 0#32
  ![v178.toNat, v179.toNat, 0]
@[reducible] def k0_t10_loop : Scf.Loop 32 :=
  let c0_i32_46 : BitVec 32 := 0#32
  let c5_i32_47 : BitVec 32 := 5#32
  let v91 : BitVec 32 := Scalar.addi c0_i32_46 c5_i32_47
  let c1_i32_48 : BitVec 32 := 1#32
  ⟨c0_i32_46, v91, c1_i32_48⟩
def k0_mult7 (k0_t10 : Fin k0_t10_loop.trips) : BitVec 32 :=
  let c0_i32_46 : BitVec 32 := 0#32
  let c1_i32_48 : BitVec 32 := 1#32
  let arg19 : BitVec 32 := Scf.iv c0_i32_46 c1_i32_48 k0_t10
  let c128_i32 : BitVec 32 := 128#32
  let v159 : BitVec 32 := Scalar.muli arg19 c128_i32
  v159
def k0_off30 (k0_t10 : Fin k0_t10_loop.trips) : Fin 3 → Nat :=
  let c1 : Index := 1#32
  let c0_87 : Index := 0#32
  let c0_i32_46 : BitVec 32 := 0#32
  let c1_i32_48 : BitVec 32 := 1#32
  let arg19 : BitVec 32 := Scf.iv c0_i32_46 c1_i32_48 k0_t10
  let c128_i32 : BitVec 32 := 128#32
  let v159 : BitVec 32 := Scalar.muli arg19 c128_i32
  let v160 : BitVec 32 := v159
  let v161 : Index := Scalar.indexCast v160
  ![1, 0, v161.toNat]
def k0_off31 (k0_t7 : Fin k0_t7_loop.trips) (k0_t10 : Fin k0_t10_loop.trips) : Fin 4 → Nat :=
  let c0_89 : Index := 0#32
  let c0_i32_9 : BitVec 32 := 0#32
  let c1_i32_10 : BitVec 32 := 1#32
  let arg18 : BitVec 32 := Scf.iv c0_i32_9 c1_i32_10 k0_t7
  let c4_i32_33 : BitVec 32 := 4#32
  let v59 : BitVec 32 := Scalar.muli arg18 c4_i32_33
  let c1_i32_34 : BitVec 32 := 1#32
  let v60 : BitVec 32 := Scalar.addi v59 c1_i32_34
  let v168 : Index := Scalar.indexCast v60
  let c0_90 : Index := 0#32
  let c0_i32_46 : BitVec 32 := 0#32
  let c1_i32_48 : BitVec 32 := 1#32
  let arg19 : BitVec 32 := Scf.iv c0_i32_46 c1_i32_48 k0_t10
  let c128_i32 : BitVec 32 := 128#32
  let v159 : BitVec 32 := Scalar.muli arg19 c128_i32
  let v160 : BitVec 32 := v159
  let v169 : Index := Scalar.indexCast v160
  ![0, v168.toNat, 0, v169.toNat]
def k0_off32 (i : grid0.Coords) (k0_t7 : Fin k0_t7_loop.trips) (k0_t10 : Fin k0_t10_loop.trips) : Fin 3 → Nat :=
  let c0_i32_46 : BitVec 32 := 0#32
  let c1_i32_48 : BitVec 32 := 1#32
  let arg19 : BitVec 32 := Scf.iv c0_i32_46 c1_i32_48 k0_t10
  let v178 : Index := Scalar.indexCast arg19
  let arg1 : BitVec 32 := BitVec.ofNat 32 (i 1).val
  let c16_i32_91 : BitVec 32 := 16#32
  let v176 : BitVec 32 := Scalar.muli arg1 c16_i32_91
  let c0_i32_9 : BitVec 32 := 0#32
  let c1_i32_10 : BitVec 32 := 1#32
  let arg18 : BitVec 32 := Scf.iv c0_i32_9 c1_i32_10 k0_t7
  let c4_i32_33 : BitVec 32 := 4#32
  let v59 : BitVec 32 := Scalar.muli arg18 c4_i32_33
  let c1_i32_34 : BitVec 32 := 1#32
  let v60 : BitVec 32 := Scalar.addi v59 c1_i32_34
  let v177 : BitVec 32 := Scalar.addi v176 v60
  let v179 : Index := Scalar.indexCast v177
  let c0_92 : Index := 0#32
  ![v178.toNat, v179.toNat, 0]
@[reducible] def k0_t11_loop : Scf.Loop 32 :=
  let c0_i32_63 : BitVec 32 := 0#32
  let c5_i32_64 : BitVec 32 := 5#32
  let v124 : BitVec 32 := Scalar.addi c0_i32_63 c5_i32_64
  let c1_i32_65 : BitVec 32 := 1#32
  ⟨c0_i32_63, v124, c1_i32_65⟩
def k0_mult8 (k0_t11 : Fin k0_t11_loop.trips) : BitVec 32 :=
  let c0_i32_63 : BitVec 32 := 0#32
  let c1_i32_65 : BitVec 32 := 1#32
  let arg19 : BitVec 32 := Scf.iv c0_i32_63 c1_i32_65 k0_t11
  let c128_i32 : BitVec 32 := 128#32
  let v159 : BitVec 32 := Scalar.muli arg19 c128_i32
  v159
def k0_off33 (k0_t11 : Fin k0_t11_loop.trips) : Fin 3 → Nat :=
  let c2 : Index := 2#32
  let c0_87 : Index := 0#32
  let c0_i32_63 : BitVec 32 := 0#32
  let c1_i32_65 : BitVec 32 := 1#32
  let arg19 : BitVec 32 := Scf.iv c0_i32_63 c1_i32_65 k0_t11
  let c128_i32 : BitVec 32 := 128#32
  let v159 : BitVec 32 := Scalar.muli arg19 c128_i32
  let v160 : BitVec 32 := v159
  let v161 : Index := Scalar.indexCast v160
  ![2, 0, v161.toNat]
def k0_off34 (k0_t7 : Fin k0_t7_loop.trips) (k0_t11 : Fin k0_t11_loop.trips) : Fin 4 → Nat :=
  let c0_89 : Index := 0#32
  let c0_i32_9 : BitVec 32 := 0#32
  let c1_i32_10 : BitVec 32 := 1#32
  let arg18 : BitVec 32 := Scf.iv c0_i32_9 c1_i32_10 k0_t7
  let c4_i32_50 : BitVec 32 := 4#32
  let v92 : BitVec 32 := Scalar.muli arg18 c4_i32_50
  let c2_i32_51 : BitVec 32 := 2#32
  let v93 : BitVec 32 := Scalar.addi v92 c2_i32_51
  let v168 : Index := Scalar.indexCast v93
  let c0_90 : Index := 0#32
  let c0_i32_63 : BitVec 32 := 0#32
  let c1_i32_65 : BitVec 32 := 1#32
  let arg19 : BitVec 32 := Scf.iv c0_i32_63 c1_i32_65 k0_t11
  let c128_i32 : BitVec 32 := 128#32
  let v159 : BitVec 32 := Scalar.muli arg19 c128_i32
  let v160 : BitVec 32 := v159
  let v169 : Index := Scalar.indexCast v160
  ![0, v168.toNat, 0, v169.toNat]
def k0_off35 (i : grid0.Coords) (k0_t7 : Fin k0_t7_loop.trips) (k0_t11 : Fin k0_t11_loop.trips) : Fin 3 → Nat :=
  let c0_i32_63 : BitVec 32 := 0#32
  let c1_i32_65 : BitVec 32 := 1#32
  let arg19 : BitVec 32 := Scf.iv c0_i32_63 c1_i32_65 k0_t11
  let v178 : Index := Scalar.indexCast arg19
  let arg1 : BitVec 32 := BitVec.ofNat 32 (i 1).val
  let c16_i32_91 : BitVec 32 := 16#32
  let v176 : BitVec 32 := Scalar.muli arg1 c16_i32_91
  let c0_i32_9 : BitVec 32 := 0#32
  let c1_i32_10 : BitVec 32 := 1#32
  let arg18 : BitVec 32 := Scf.iv c0_i32_9 c1_i32_10 k0_t7
  let c4_i32_50 : BitVec 32 := 4#32
  let v92 : BitVec 32 := Scalar.muli arg18 c4_i32_50
  let c2_i32_51 : BitVec 32 := 2#32
  let v93 : BitVec 32 := Scalar.addi v92 c2_i32_51
  let v177 : BitVec 32 := Scalar.addi v176 v93
  let v179 : Index := Scalar.indexCast v177
  let c0_92 : Index := 0#32
  ![v178.toNat, v179.toNat, 0]
@[reducible] def k0_t12_loop : Scf.Loop 32 :=
  let c0_i32_79 : BitVec 32 := 0#32
  let c5_i32_80 : BitVec 32 := 5#32
  let v157 : BitVec 32 := Scalar.addi c0_i32_79 c5_i32_80
  let c1_i32_81 : BitVec 32 := 1#32
  ⟨c0_i32_79, v157, c1_i32_81⟩
def k0_mult9 (k0_t12 : Fin k0_t12_loop.trips) : BitVec 32 :=
  let c0_i32_79 : BitVec 32 := 0#32
  let c1_i32_81 : BitVec 32 := 1#32
  let arg19 : BitVec 32 := Scf.iv c0_i32_79 c1_i32_81 k0_t12
  let c128_i32 : BitVec 32 := 128#32
  let v159 : BitVec 32 := Scalar.muli arg19 c128_i32
  v159
def k0_off36 (k0_t12 : Fin k0_t12_loop.trips) : Fin 3 → Nat :=
  let c3 : Index := 3#32
  let c0_87 : Index := 0#32
  let c0_i32_79 : BitVec 32 := 0#32
  let c1_i32_81 : BitVec 32 := 1#32
  let arg19 : BitVec 32 := Scf.iv c0_i32_79 c1_i32_81 k0_t12
  let c128_i32 : BitVec 32 := 128#32
  let v159 : BitVec 32 := Scalar.muli arg19 c128_i32
  let v160 : BitVec 32 := v159
  let v161 : Index := Scalar.indexCast v160
  ![3, 0, v161.toNat]
def k0_off37 (k0_t7 : Fin k0_t7_loop.trips) (k0_t12 : Fin k0_t12_loop.trips) : Fin 4 → Nat :=
  let c0_89 : Index := 0#32
  let c0_i32_9 : BitVec 32 := 0#32
  let c1_i32_10 : BitVec 32 := 1#32
  let arg18 : BitVec 32 := Scf.iv c0_i32_9 c1_i32_10 k0_t7
  let c4_i32_67 : BitVec 32 := 4#32
  let v125 : BitVec 32 := Scalar.muli arg18 c4_i32_67
  let c3_i32 : BitVec 32 := 3#32
  let v126 : BitVec 32 := Scalar.addi v125 c3_i32
  let v168 : Index := Scalar.indexCast v126
  let c0_90 : Index := 0#32
  let c0_i32_79 : BitVec 32 := 0#32
  let c1_i32_81 : BitVec 32 := 1#32
  let arg19 : BitVec 32 := Scf.iv c0_i32_79 c1_i32_81 k0_t12
  let c128_i32 : BitVec 32 := 128#32
  let v159 : BitVec 32 := Scalar.muli arg19 c128_i32
  let v160 : BitVec 32 := v159
  let v169 : Index := Scalar.indexCast v160
  ![0, v168.toNat, 0, v169.toNat]
def k0_off38 (i : grid0.Coords) (k0_t7 : Fin k0_t7_loop.trips) (k0_t12 : Fin k0_t12_loop.trips) : Fin 3 → Nat :=
  let c0_i32_79 : BitVec 32 := 0#32
  let c1_i32_81 : BitVec 32 := 1#32
  let arg19 : BitVec 32 := Scf.iv c0_i32_79 c1_i32_81 k0_t12
  let v178 : Index := Scalar.indexCast arg19
  let arg1 : BitVec 32 := BitVec.ofNat 32 (i 1).val
  let c16_i32_91 : BitVec 32 := 16#32
  let v176 : BitVec 32 := Scalar.muli arg1 c16_i32_91
  let c0_i32_9 : BitVec 32 := 0#32
  let c1_i32_10 : BitVec 32 := 1#32
  let arg18 : BitVec 32 := Scf.iv c0_i32_9 c1_i32_10 k0_t7
  let c4_i32_67 : BitVec 32 := 4#32
  let v125 : BitVec 32 := Scalar.muli arg18 c4_i32_67
  let c3_i32 : BitVec 32 := 3#32
  let v126 : BitVec 32 := Scalar.addi v125 c3_i32
  let v177 : BitVec 32 := Scalar.addi v176 v126
  let v179 : Index := Scalar.indexCast v177
  let c0_92 : Index := 0#32
  ![v178.toNat, v179.toNat, 0]
@[reducible] def k0_t13_loop : Scf.Loop 32 :=
  let c0_i32_83 : BitVec 32 := 0#32
  let c5_i32_84 : BitVec 32 := 5#32
  let v158 : BitVec 32 := Scalar.addi c0_i32_83 c5_i32_84
  let c1_i32_85 : BitVec 32 := 1#32
  ⟨c0_i32_83, v158, c1_i32_85⟩
def k0_mult10 (k0_t13 : Fin k0_t13_loop.trips) : BitVec 32 :=
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  v159
def k0_off39 (k0_t13 : Fin k0_t13_loop.trips) : Fin 3 → Nat :=
  let c0_i32_83 : BitVec 32 := 0#32
  let c1_i32_85 : BitVec 32 := 1#32
  let arg19 : BitVec 32 := Scf.iv c0_i32_83 c1_i32_85 k0_t13
  let v161 : Index := Scalar.indexCast arg19
  let c0_87 : Index := 0#32
  let c0_88 : Index := 0#32
  ![v161.toNat, 0, 0]
def k0_off40 (k0_t13 : Fin k0_t13_loop.trips) : Fin 3 → Nat :=
  let c0_94 : Index := 0#32
  let c0_95 : Index := 0#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v169 : Index := Scalar.indexCast v160
  ![0, 0, v169.toNat]
def k0_off41 (k0_t13 : Fin k0_t13_loop.trips) : Fin 3 → Nat :=
  let c0_96 : Index := 0#32
  let c1 : Index := 1#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v175 : Index := Scalar.indexCast v160
  ![0, 1, v175.toNat]
def k0_off42 (k0_t13 : Fin k0_t13_loop.trips) : Fin 3 → Nat :=
  let c0_97 : Index := 0#32
  let c2 : Index := 2#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v181 : Index := Scalar.indexCast v160
  ![0, 2, v181.toNat]
def k0_off43 (k0_t13 : Fin k0_t13_loop.trips) : Fin 3 → Nat :=
  let c0_98 : Index := 0#32
  let c3 : Index := 3#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v187 : Index := Scalar.indexCast v160
  ![0, 3, v187.toNat]
def k0_off44 (k0_t13 : Fin k0_t13_loop.trips) : Fin 3 → Nat :=
  let c0_99 : Index := 0#32
  let c4 : Index := 4#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v193 : Index := Scalar.indexCast v160
  ![0, 4, v193.toNat]
def k0_off45 (k0_t13 : Fin k0_t13_loop.trips) : Fin 3 → Nat :=
  let c0_100 : Index := 0#32
  let c5 : Index := 5#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v199 : Index := Scalar.indexCast v160
  ![0, 5, v199.toNat]
def k0_off46 (k0_t13 : Fin k0_t13_loop.trips) : Fin 3 → Nat :=
  let c0_101 : Index := 0#32
  let c6 : Index := 6#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v205 : Index := Scalar.indexCast v160
  ![0, 6, v205.toNat]
def k0_off47 (k0_t13 : Fin k0_t13_loop.trips) : Fin 3 → Nat :=
  let c0_102 : Index := 0#32
  let c7 : Index := 7#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v211 : Index := Scalar.indexCast v160
  ![0, 7, v211.toNat]
def k0_off48 (k0_t7 : Fin k0_t7_loop.trips) (k0_t13 : Fin k0_t13_loop.trips) (c0_i32_93 : BitVec 32) : Fin 4 → Nat :=
  let c0_127 : Index := 0#32
  let c0_i32_9 : BitVec 32 := 0#32
  let c1_i32_10 : BitVec 32 := 1#32
  let arg18 : BitVec 32 := Scf.iv c0_i32_9 c1_i32_10 k0_t7
  let c4_i32_92 : BitVec 32 := 4#32
  let v167 : BitVec 32 := Scalar.muli arg18 c4_i32_92
  let v168 : BitVec 32 := Scalar.addi v167 c0_i32_93
  let v305 : Index := Scalar.indexCast v168
  let c0_128 : Index := 0#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v306 : Index := Scalar.indexCast v160
  ![0, v305.toNat, 0, v306.toNat]
def k0_off49 (k0_t13 : Fin k0_t13_loop.trips) : Fin 3 → Nat :=
  let c1_131 : Index := 1#32
  let c0_132 : Index := 0#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v312 : Index := Scalar.indexCast v160
  ![1, 0, v312.toNat]
def k0_off50 (k0_t13 : Fin k0_t13_loop.trips) : Fin 3 → Nat :=
  let c1_133 : Index := 1#32
  let c1_134 : Index := 1#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v318 : Index := Scalar.indexCast v160
  ![1, 1, v318.toNat]
def k0_off51 (k0_t13 : Fin k0_t13_loop.trips) : Fin 3 → Nat :=
  let c1_135 : Index := 1#32
  let c2_136 : Index := 2#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v324 : Index := Scalar.indexCast v160
  ![1, 2, v324.toNat]
def k0_off52 (k0_t13 : Fin k0_t13_loop.trips) : Fin 3 → Nat :=
  let c1_137 : Index := 1#32
  let c3_138 : Index := 3#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v330 : Index := Scalar.indexCast v160
  ![1, 3, v330.toNat]
def k0_off53 (k0_t13 : Fin k0_t13_loop.trips) : Fin 3 → Nat :=
  let c1_139 : Index := 1#32
  let c4_140 : Index := 4#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v336 : Index := Scalar.indexCast v160
  ![1, 4, v336.toNat]
def k0_off54 (k0_t13 : Fin k0_t13_loop.trips) : Fin 3 → Nat :=
  let c1_141 : Index := 1#32
  let c5_142 : Index := 5#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v342 : Index := Scalar.indexCast v160
  ![1, 5, v342.toNat]
def k0_off55 (k0_t13 : Fin k0_t13_loop.trips) : Fin 3 → Nat :=
  let c1_143 : Index := 1#32
  let c6_144 : Index := 6#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v348 : Index := Scalar.indexCast v160
  ![1, 6, v348.toNat]
def k0_off56 (k0_t13 : Fin k0_t13_loop.trips) : Fin 3 → Nat :=
  let c1_145 : Index := 1#32
  let c7_146 : Index := 7#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v354 : Index := Scalar.indexCast v160
  ![1, 7, v354.toNat]
def k0_off57 (k0_t13 : Fin k0_t13_loop.trips) : Fin 3 → Nat :=
  let c2_181 : Index := 2#32
  let c0_182 : Index := 0#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v455 : Index := Scalar.indexCast v160
  ![2, 0, v455.toNat]
def k0_off58 (k0_t13 : Fin k0_t13_loop.trips) : Fin 3 → Nat :=
  let c2_183 : Index := 2#32
  let c1_184 : Index := 1#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v461 : Index := Scalar.indexCast v160
  ![2, 1, v461.toNat]
def k0_off59 (k0_t13 : Fin k0_t13_loop.trips) : Fin 3 → Nat :=
  let c2_185 : Index := 2#32
  let c2_186 : Index := 2#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v467 : Index := Scalar.indexCast v160
  ![2, 2, v467.toNat]
def k0_off60 (k0_t13 : Fin k0_t13_loop.trips) : Fin 3 → Nat :=
  let c2_187 : Index := 2#32
  let c3_188 : Index := 3#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v473 : Index := Scalar.indexCast v160
  ![2, 3, v473.toNat]
def k0_off61 (k0_t13 : Fin k0_t13_loop.trips) : Fin 3 → Nat :=
  let c2_189 : Index := 2#32
  let c4_190 : Index := 4#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v479 : Index := Scalar.indexCast v160
  ![2, 4, v479.toNat]
def k0_off62 (k0_t13 : Fin k0_t13_loop.trips) : Fin 3 → Nat :=
  let c2_191 : Index := 2#32
  let c5_192 : Index := 5#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v485 : Index := Scalar.indexCast v160
  ![2, 5, v485.toNat]
def k0_off63 (k0_t13 : Fin k0_t13_loop.trips) : Fin 3 → Nat :=
  let c2_193 : Index := 2#32
  let c6_194 : Index := 6#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v491 : Index := Scalar.indexCast v160
  ![2, 6, v491.toNat]
def k0_off64 (k0_t13 : Fin k0_t13_loop.trips) : Fin 3 → Nat :=
  let c2_195 : Index := 2#32
  let c7_196 : Index := 7#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v497 : Index := Scalar.indexCast v160
  ![2, 7, v497.toNat]
def k0_off65 (k0_t13 : Fin k0_t13_loop.trips) : Fin 3 → Nat :=
  let c3_231 : Index := 3#32
  let c0_232 : Index := 0#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v598 : Index := Scalar.indexCast v160
  ![3, 0, v598.toNat]
def k0_off66 (k0_t13 : Fin k0_t13_loop.trips) : Fin 3 → Nat :=
  let c3_233 : Index := 3#32
  let c1_234 : Index := 1#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v604 : Index := Scalar.indexCast v160
  ![3, 1, v604.toNat]
def k0_off67 (k0_t13 : Fin k0_t13_loop.trips) : Fin 3 → Nat :=
  let c3_235 : Index := 3#32
  let c2_236 : Index := 2#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v610 : Index := Scalar.indexCast v160
  ![3, 2, v610.toNat]
def k0_off68 (k0_t13 : Fin k0_t13_loop.trips) : Fin 3 → Nat :=
  let c3_237 : Index := 3#32
  let c3_238 : Index := 3#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v616 : Index := Scalar.indexCast v160
  ![3, 3, v616.toNat]
def k0_off69 (k0_t13 : Fin k0_t13_loop.trips) : Fin 3 → Nat :=
  let c3_239 : Index := 3#32
  let c4_240 : Index := 4#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v622 : Index := Scalar.indexCast v160
  ![3, 4, v622.toNat]
def k0_off70 (k0_t13 : Fin k0_t13_loop.trips) : Fin 3 → Nat :=
  let c3_241 : Index := 3#32
  let c5_242 : Index := 5#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v628 : Index := Scalar.indexCast v160
  ![3, 5, v628.toNat]
def k0_off71 (k0_t13 : Fin k0_t13_loop.trips) : Fin 3 → Nat :=
  let c3_243 : Index := 3#32
  let c6_244 : Index := 6#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v634 : Index := Scalar.indexCast v160
  ![3, 6, v634.toNat]
def k0_off72 (k0_t13 : Fin k0_t13_loop.trips) : Fin 3 → Nat :=
  let c3_245 : Index := 3#32
  let c7_246 : Index := 7#32
  let c0_i32_83 : BitVec 32 := 0#32
  let c1_i32_85 : BitVec 32 := 1#32
  let arg19 : BitVec 32 := Scf.iv c0_i32_83 c1_i32_85 k0_t13
  let c128_i32 : BitVec 32 := 128#32
  let v159 : BitVec 32 := Scalar.muli arg19 c128_i32
  let v160 : BitVec 32 := v159
  let v640 : Index := Scalar.indexCast v160
  ![3, 7, v640.toNat]
def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x64x640 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x8x640 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== KernelIdeal.lean ====
variable {F : FTy → Type} [FloatOps F] [Named F]
def κ : String → Option EReal := fun
  | "inv_global_div" => some ((2688⁻¹ : ℝ) : EReal)
  | _ => none
-- ==== ReferenceIdeal.lean ====
abbrev S75x32x112x128 : Shape := ⟨4, ![75, 32, 112, 128]⟩
abbrev S75x32x112 : Shape := ⟨3, ![75, 32, 112]⟩
abbrev S3x20 : Shape := ⟨2, ![3, 20]⟩
abbrev S_ : Shape := ⟨0, ![]⟩
abbrev S3x20x1 : Shape := ⟨3, ![3, 20, 1]⟩
abbrev S3x20x32x112x128 : Shape := ⟨5, ![3, 20, 32, 112, 128]⟩
abbrev S3x640x112x128 : Shape := ⟨4, ![3, 640, 112, 128]⟩
abbrev S3x20x32x112 : Shape := ⟨4, ![3, 20, 32, 112]⟩
abbrev S3x640x112 : Shape := ⟨3, ![3, 640, 112]⟩
abbrev S3x112x64x640 : Shape := ⟨4, ![3, 112, 64, 640]⟩
abbrev S3x112x8x640 : Shape := ⟨4, ![3, 112, 8, 640]⟩
abbrev S3x112 : Shape := ⟨2, ![3, 112]⟩
abbrev S3x640x112x1 : Shape := ⟨4, ![3, 640, 112, 1]⟩
abbrev S3x640x112x8x16 : Shape := ⟨5, ![3, 640, 112, 8, 16]⟩
abbrev S3x640x112x8 : Shape := ⟨4, ![3, 640, 112, 8]⟩
abbrev S3x1x112x1 : Shape := ⟨4, ![3, 1, 112, 1]⟩
abbrev S3x640x112x8x1 : Shape := ⟨5, ![3, 640, 112, 8, 1]⟩
abbrev S3x640x112x64x2 : Shape := ⟨5, ![3, 640, 112, 64, 2]⟩
abbrev S3x640x112x64x1 : Shape := ⟨5, ![3, 640, 112, 64, 1]⟩
abbrev S3x640x112x64 : Shape := ⟨4, ![3, 640, 112, 64]⟩

abbrev nBuf : Space → Nat
  | .hbm => 26
  | .vmem => 5
  | .smem => 0
  | _ => 0

abbrev bufTy : (tb : Table) → Fin (tcTables nBuf tb) → BufTy
  | .hbm, ⟨0, _⟩ => ⟨S75x32x112x128, .fp8e4m3⟩
  | .hbm, ⟨1, _⟩ => ⟨S75x32x112, .f32⟩
  | .hbm, ⟨2, _⟩ => ⟨S3x20, .i32⟩
  | .hbm, ⟨3, _⟩ => ⟨S_, .i32⟩
  | .hbm, ⟨4, _⟩ => ⟨S3x20, .i32⟩
  | .hbm, ⟨5, _⟩ => ⟨S3x20, .i1⟩
  | .hbm, ⟨6, _⟩ => ⟨S_, .i32⟩
  | .hbm, ⟨7, _⟩ => ⟨S3x20, .i32⟩
  | .hbm, ⟨8, _⟩ => ⟨S3x20, .i32⟩
  | .hbm, ⟨9, _⟩ => ⟨S3x20, .i32⟩
  | .hbm, ⟨10, _⟩ => ⟨S3x20x1, .i32⟩
  | .hbm, ⟨11, _⟩ => ⟨S3x20x32x112x128, .fp8e4m3⟩
  | .hbm, ⟨12, _⟩ => ⟨S3x640x112x128, .fp8e4m3⟩
  | .hbm, ⟨13, _⟩ => ⟨S_, .i32⟩
  | .hbm, ⟨14, _⟩ => ⟨S3x20, .i32⟩
  | .hbm, ⟨15, _⟩ => ⟨S3x20, .i1⟩
  | .hbm, ⟨16, _⟩ => ⟨S_, .i32⟩
  | .hbm, ⟨17, _⟩ => ⟨S3x20, .i32⟩
  | .hbm, ⟨18, _⟩ => ⟨S3x20, .i32⟩
  | .hbm, ⟨19, _⟩ => ⟨S3x20, .i32⟩
  | .hbm, ⟨20, _⟩ => ⟨S3x20x1, .i32⟩
  | .hbm, ⟨21, _⟩ => ⟨S3x20x32x112, .f32⟩
  | .hbm, ⟨22, _⟩ => ⟨S3x640x112, .f32⟩
  | .hbm, ⟨23, _⟩ => ⟨S3x112x64x640, .i8⟩
  | .hbm, ⟨24, _⟩ => ⟨S3x112x8x640, .fp8e4m3⟩
  | .hbm, ⟨25, _⟩ => ⟨S3x112, .f32⟩
  | .local _ .vmem, ⟨0, _⟩ => ⟨S3x640x112x128, .fp8e4m3⟩
  | .local _ .vmem, ⟨1, _⟩ => ⟨S3x640x112, .f32⟩
  | .local _ .vmem, ⟨2, _⟩ => ⟨S3x112x64x640, .i8⟩
  | .local _ .vmem, ⟨3, _⟩ => ⟨S3x112x8x640, .fp8e4m3⟩
  | .local _ .vmem, ⟨4, _⟩ => ⟨S3x112, .f32⟩
  | _, _ => ⟨S75x32x112x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x640x112x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x112x64x640 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x112x8x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Pool.lean ====
/-
  What the precondition says: every entry of the page table names a page of the pool.
-/
module

public import proofs.«01_k».proof.Defs
public import proofs.«01_k».proof.Proof.Gen.Pre_in_pool
public import Idealize.ShloMosaic.Lib.ReduceAll
public import Idealize.ShloMosaic.Lib.Affine

@[expose] public section

noncomputable section

namespace Cert.Pool

open Idealize.ShloMosaic Cert.Pre_in_pool

instance : Subsingleton S_.Idx := ⟨fun a b => funext fun d => d.elim0⟩

theorem lt_of_fn {F : FTy → Type} [FloatOps F] (a0 : FVec F S75x32x112x128 .fp8e4m3) (a1 : FVec F S75x32x112 .f32) (T : IVec S3x20 32)
    (h : fn a0 a1 T = fun _ => 1#1) (j : S3x20.Idx) : (T j).toNat < 75 := by
  have e := congrFun h (fun d => d.elim0)
  dsimp only [fn] at e
  have e1 := Host.reduce_andi_all _ _ _ _ _ e j
  have e2 := IntOp.andi_eq_one.mp e1
  have g1 := IntOp.cmpi_sge.mp e2.1
  have g2 := IntOp.cmpi_slt.mp e2.2
  have g1' : (0 : Int) ≤ (T j).toInt := g1
  have g2' : (T j).toInt < 75 := g2
  rw [BitVec.toInt_eq_toNat_cond] at g1' g2'
  split at g1' <;> omega

end Cert.Pool

end
-- ==== Proof.Rules.lean ====
/-
  Loads and stores of a memref that is owned at a value. `own_load` reads a rectangle of the value;
  `own_store` replaces a rectangle of it. `overlay_step` is the pure step of a loop that fills a buffer
  rectangle by rectangle: the buffer agrees with a target on the part done so far.
-/
module

public import Idealize.ShloMosaic.Rules
public import Idealize.ShloMosaic.Lib.Writes
public import Idealize.ShloMosaic.Lib.Memref
public import Idealize.ShloMosaic.Lib.Scf
public import Idealize.ShloMosaic.Lib.Tactic
public import Idealize.ShloMosaic.Lib.Pipeline.FrameBody

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy}

/-- A load through a rectangle of a memref owned at `X` yields `X`'s values there. -/
theorem own_load {cs : CoreSpace} {m : Memref sig c.2.kind cs s e} {r : Rect s} {hl : m.view.LoadsAt r.toLoadRect}
    {Q : (r.shape.Idx → Val e) → sProp (MT nD τ sig Ix Val Name U Lvl)} {q : PosShare TreeShare} {X : s.Idx → Val e} :
    owns c m q X
      ⊢ iprop((owns c m q X -∗ Q (View.ld X r)) -∗ wp frame (wpE defs 𝒱 c bd) E (Prog.lift (.load m r.toLoadRect hl)) Q) := by
  iintro H HK
  ihave H' := (show owns c m q X ⊢ iprop(∃ g, ⌜m.view.read Val g = X⌝ ∗ m.view.loc c ↦[m.view.set]{q} g) from .rfl) $$ H
  icases H' with ⟨%g, %hg, H⟩
  iapply (wp_load (defs := defs) 𝒱 c bd E (Q := Q) (m := m) (r := r.toLoadRect) (hl := hl) (k := .ret) (f := g) (m.view.setOn_subset_set _)) $$ H
  iintro H
  rw [wp_ret]
  imodintro
  have e1 : m.view.readAt Val r.toLoadRect g = View.ld X r := by rw [← hg]; rfl
  rw [e1]
  iapply HK
  iapply (show iprop(∃ g, ⌜m.view.read Val g = X⌝ ∗ m.view.loc c ↦[m.view.set]{q} g) ⊢ owns c m q X from .rfl)
  iexists g
  isplitr
  · ipureintro; exact hg
  · iexact H

/-- An unmasked store through a rectangle of a memref owned at `X` leaves it owned at `X` with its
    values on the rectangle replaced. -/
theorem own_store {cs : CoreSpace} {m : Memref sig c.2.kind cs s e} {r : Rect s} {w : r.shape.Idx → Val e}
    {hx : (m.access r).Stores Finset.univ} {hm : Finset.univ = Finset.univ ∨ ∀ a, r.stride a = 1}
    {Q : PUnit → sProp (MT nD τ sig Ix Val Name U Lvl)} {X : s.Idx → Val e} :
    owns c m fullShare X
      ⊢ iprop((owns c m fullShare (r.overlay X w) -∗ Q ⟨⟩)
        -∗ wp frame (wpE defs 𝒱 c bd) E (Prog.lift (.store m r w Finset.univ hx hm)) Q) := by
  iintro H HK
  ihave H' := (show owns c m fullShare X ⊢ iprop(∃ g, ⌜m.view.read Val g = X⌝ ∗ m.view.loc c ↦[m.view.set]{fullShare} g) from .rfl) $$ H
  icases H' with ⟨%g, %hg, H⟩
  iapply (wp_store (defs := defs) 𝒱 c bd E (Q := Q) (m := m) (r := r) (w := w) (Mk := Finset.univ) (hx := hx) (hm := hm) (k := .ret) (f := g)
    (Memref.setOn_access_subset m r Finset.univ)) $$ H
  iintro H
  rw [wp_ret]
  imodintro
  iapply HK
  iapply (show iprop(∃ g, ⌜m.view.read Val g = r.overlay X w⌝ ∗ m.view.loc c ↦[m.view.set]{fullShare} g) ⊢ owns c m fullShare (r.overlay X w) from .rfl)
  iexists (m.access r).write Val g w Finset.univ
  isplitr
  · ipureintro
    funext j
    by_cases hj : j ∈ r.set
    · rw [← Rect.map_emb_univ] at hj; obtain ⟨x, -, rfl⟩ := Finset.mem_map.1 hj
      rw [Rect.overlay_emb]
      exact View.read_slice_write_emb r g w (Finset.mem_univ x)
    · rw [Rect.overlay_of_not_mem _ _ _ hj, ← hg]
      exact View.read_slice_write_of_not_mem r g w Finset.univ (by rwa [Rect.map_emb_univ])
  · iexact H

end Rules

/-- One step of filling a buffer: after a store of `T`'s values on `r`, the buffer agrees with `T` on
    what was done before and on `r`. -/
theorem overlay_step {s : Shape} {α : Type} (r : Rect s) (X T : s.Idx → α) (w : r.shape.Idx → α) {D D' : s.Idx → Prop}
    (hX : ∀ j, D j → X j = T j) (hw : ∀ x, T (r.emb x) = w x) (hD : ∀ j, D' j → D j ∨ j ∈ r.set) :
    ∀ j, D' j → r.overlay X w j = T j := by
  intro j hj
  by_cases hr : j ∈ r.set
  · have hr' := hr; rw [← Rect.map_emb_univ] at hr'; obtain ⟨x, -, rfl⟩ := Finset.mem_map.1 hr'
    rw [Rect.overlay_emb, hw]
  · rw [Rect.overlay_of_not_mem _ _ _ hr]
    rcases hD j hj with h | h
    · exact hX j h
    · exact absurd h hr

/-- A store elsewhere keeps what was done. -/
theorem overlay_keep {s : Shape} {α : Type} (r : Rect s) (X T : s.Idx → α) (w : r.shape.Idx → α) {D : s.Idx → Prop}
    (hX : ∀ j, D j → X j = T j) (hD : ∀ j, D j → j ∉ r.set) : ∀ j, D j → r.overlay X w j = T j := by
  intro j hj
  rw [Rect.overlay_of_not_mem _ _ _ (hD j hj)]
  exact hX j hj

section Part

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy}

/-- A memref owned at some value that agrees with `T` on the indices in `D`. -/
def part {cs : CoreSpace} (m : Memref sig c.2.kind cs s e) (D : s.Idx → Prop) (T : s.Idx → Val e) :
    sProp (MT nD τ sig Ix Val Name U Lvl) :=
  iprop(∃ X, ⌜∀ j, D j → X j = T j⌝ ∗ owns c m fullShare X)

theorem part_intro {cs : CoreSpace} {m : Memref sig c.2.kind cs s e} {D : s.Idx → Prop} {T X : s.Idx → Val e}
    (h : ∀ j, D j → X j = T j) : owns c m fullShare X ⊢ (part c m D T : sProp (MT nD τ sig Ix Val Name U Lvl)) := by
  unfold part
  iintro H
  iexists X
  isplitr
  · ipureintro; exact h
  · iexact H

theorem part_full {cs : CoreSpace} {m : Memref sig c.2.kind cs s e} {D : s.Idx → Prop} {T : s.Idx → Val e}
    (h : ∀ j, D j) : (part c m D T : sProp (MT nD τ sig Ix Val Name U Lvl)) ⊢ owns c m fullShare T := by
  unfold part
  iintro ⟨%X, %hX, H⟩
  obtain rfl : X = T := funext fun j => hX j (h j)
  iexact H

theorem part_mono {cs : CoreSpace} {m : Memref sig c.2.kind cs s e} {D D' : s.Idx → Prop} {T T' : s.Idx → Val e}
    (h : ∀ j, D' j → D j ∧ T j = T' j) :
    (part c m D T : sProp (MT nD τ sig Ix Val Name U Lvl)) ⊢ part c m D' T' := by
  unfold part
  iintro ⟨%X, %hX, H⟩
  iexists X
  isplitr
  · ipureintro; exact fun j hj => (hX j (h j hj).1).trans (h j hj).2
  · iexact H

/-- A load whose value is not looked at. -/
theorem part_load {cs : CoreSpace} {m : Memref sig c.2.kind cs s e} {r : Rect s} {hl : m.view.LoadsAt r.toLoadRect}
    {Q : (r.shape.Idx → Val e) → sProp (MT nD τ sig Ix Val Name U Lvl)} {D : s.Idx → Prop} {T : s.Idx → Val e} :
    part c m D T
      ⊢ iprop((∀ v, part c m D T -∗ Q v) -∗ wp frame (wpE defs 𝒱 c bd) E (Prog.lift (.load m r.toLoadRect hl)) Q) := by
  unfold part
  iintro ⟨%X, %hX, H⟩ HK
  iapply (own_load (defs := defs) 𝒱 c bd E) $$ H
  iintro H
  iapply HK
  iexists X
  isplitr
  · ipureintro; exact hX
  · iexact H

/-- A store of `T`'s values on a rectangle extends the part that agrees with `T` by the rectangle. -/
theorem part_store {cs : CoreSpace} {m : Memref sig c.2.kind cs s e} {r : Rect s} {w : r.shape.Idx → Val e}
    {hx : (m.access r).Stores Finset.univ} {hm : Finset.univ = Finset.univ ∨ ∀ a, r.stride a = 1}
    {Q : PUnit → sProp (MT nD τ sig Ix Val Name U Lvl)} {D : s.Idx → Prop} {T : s.Idx → Val e} (D' : s.Idx → Prop)
    (hw : ∀ x, T (r.emb x) = w x) (hD : ∀ j, D' j → D j ∨ j ∈ r.set) :
    part c m D T
      ⊢ iprop((part c m D' T -∗ Q ⟨⟩)
        -∗ wp frame (wpE defs 𝒱 c bd) E (Prog.lift (.store m r w Finset.univ hx hm)) Q) := by
  unfold part
  iintro ⟨%X, %hX, H⟩ HK
  iapply (own_store (defs := defs) 𝒱 c bd E) $$ H
  iintro H
  iapply HK
  iexists (r.overlay X w)
  isplitr
  · ipureintro; exact overlay_step r X T w hX hw hD
  · iexact H

end Part

section Slot

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy}

/-- The elements of a memref at the indices in `D`, owned at `X`'s values there. -/
def slotOwn {cs : CoreSpace} (m : Memref sig c.2.kind cs s e) (D : Finset s.Idx) (X : s.Idx → Val e) :
    sProp (MT nD τ sig Ix Val Name U Lvl) :=
  iprop(∃ f, ⌜∀ j ∈ D, m.view.read Val f j = X j⌝ ∗ m.view.loc c ↦[m.view.setOn D]{fullShare} f)

/-- A load inside the indices owned. -/
theorem slot_load {cs : CoreSpace} {m : Memref sig c.2.kind cs s e} {r : Rect s} {hl : m.view.LoadsAt r.toLoadRect}
    {Q : (r.shape.Idx → Val e) → sProp (MT nD τ sig Ix Val Name U Lvl)} {D : Finset s.Idx} {X : s.Idx → Val e}
    (hr : r.set ⊆ D) :
    slotOwn c m D X
      ⊢ iprop((slotOwn c m D X -∗ Q (View.ld X r)) -∗ wp frame (wpE defs 𝒱 c bd) E (Prog.lift (.load m r.toLoadRect hl)) Q) := by
  unfold slotOwn
  iintro ⟨%g, %hg, H⟩ HK
  iapply (wp_load (defs := defs) 𝒱 c bd E (Q := Q) (m := m) (r := r.toLoadRect) (hl := hl) (k := .ret) (f := g)
    (show m.view.setOn r.toLoadRect.set ⊆ m.view.setOn D from Finset.map_subset_map.mpr hr)) $$ H
  iintro H
  rw [wp_ret]
  imodintro
  have e1 : m.view.readAt Val r.toLoadRect g = View.ld X r :=
    funext fun x => hg _ (hr (by rw [← Rect.map_emb_univ]; exact Finset.mem_map.2 ⟨x, Finset.mem_univ _, rfl⟩))
  rw [e1]
  iapply HK
  iexists g
  isplitr
  · ipureintro; exact hg
  · iexact H

end Slot

end Cert.Own

end
-- ==== Proof.Copy.lean ====
/-
  A run of copies on one semaphore: block `j` of a buffer is filled from a window of a source the core only
  reads. `issued k` is what the core holds once the first `k` copies have been started, `draining u` once `u`
  of them have been waited for. When all have landed the buffer holds the values copied, and the source is
  whole again.
-/
module

public import proofs.«01_k».proof.Proof.Rules
public import Idealize.ShloMosaic.Lib.Batch
public import Idealize.ShloMosaic.Lib.Ring
public import Idealize.SL.BI.BigOpNat
public import Idealize.ShloMosaic.Lib.Pipeline.Frame

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig}
variable {Val : EltTy → Type}
variable {U : Type} [URA U] [CountersIn U] {Λ : Labels}

local notation "𝕄" => MT nD τ sig Unit Val ℕ U ℕ

section Slots

variable (c : Thread nD τ) {s : Shape} {e : EltTy} {cs : CoreSpace} (m : Memref sig c.2.kind cs s e)

theorem slotOwn_join {D₁ D₂ : Finset s.Idx} {X : s.Idx → Val e} (h : Disjoint D₁ D₂) :
    iprop(slotOwn c m D₁ X ∗ slotOwn c m D₂ X) ⊢ (slotOwn c m (D₁ ∪ D₂) X : sProp 𝕄) := by
  classical
  unfold slotOwn
  iintro ⟨⟨%f, %hf, H1⟩, ⟨%g, %hg, H2⟩⟩
  have hd : Disjoint (m.view.setOn D₁) (m.view.setOn D₂) := (Finset.disjoint_map _).mpr h
  iexists (m.view.setOn D₂).piecewise g f
  isplitr
  · ipureintro
    intro j hj
    rw [View.read_apply]
    by_cases h2 : j ∈ D₂
    · rw [Finset.piecewise_eq_of_mem (m.view.setOn D₂) g f (Finset.mem_map_of_mem m.view.emb h2), ← View.read_apply]; exact hg j h2
    · have h1 : j ∈ D₁ := (Finset.mem_union.mp hj).resolve_right h2
      rw [Finset.piecewise_eq_of_notMem (m.view.setOn D₂) g f (fun h' => h2 ((Finset.mem_map' _).mp h')), ← View.read_apply]; exact hf j h1
  · rw [show m.view.setOn (D₁ ∪ D₂) = m.view.setOn D₁ ∪ m.view.setOn D₂ from Finset.map_union _ _]
    iapply (pointsTo_join hd)
    isplitl [H1]
    · iexact H1
    · iexact H2

theorem slotOwn_empty {X : s.Idx → Val e} [∀ e, Nonempty (Val e)] : (emp : sProp 𝕄) ⊢ slotOwn c m ∅ X := by
  unfold slotOwn
  iintro -
  iexists (fun _ => Classical.choice inferInstance)
  isplitr
  · ipureintro; intro j hj; exact absurd hj (Finset.notMem_empty j)
  · rw [show m.view.setOn ∅ = ∅ from Finset.map_empty _, pointsTo_empty]
    iempintro

/-- Every block in hand is their union in hand. -/
theorem slotOwn_blocks [∀ e, Nonempty (Val e)] {n : ℕ} (DS : ℕ → Finset s.Idx) {X : s.Idx → Val e}
    (hd : ∀ i j, i < j → Disjoint (DS i) (DS j)) :
    bigSep (Finset.range n) (fun j => slotOwn c m (DS j) X) ⊢ (slotOwn c m ((Finset.range n).biUnion DS) X : sProp 𝕄) := by
  induction n with
  | zero => rw [Finset.range_zero, bigSep_empty, Finset.biUnion_empty]; exact slotOwn_empty c m
  | succ n ih =>
    rw [bigSep_range_succ, Finset.range_add_one, Finset.biUnion_insert]
    iintro ⟨H1, H2⟩
    ihave H2 := ih $$ H2
    iapply (slotOwn_join c m ?_)
    · refine (Finset.disjoint_biUnion_right _ _ _).mpr fun j hj => (hd j n (Finset.mem_range.mp hj)).symm
    · isplitl [H1]
      · iexact H1
      · iexact H2

end Slots

section Copies

variable [∀ e, Nonempty (Val e)]
variable {defs : Defs nD τ sig Val Λ} (𝒱 : Variants) (c : Thread nD τ) (bd : Option 𝒱.V)
variable {d : ℕ} {zd zs : Fin d → ℕ} {e : EltTy} {cs : CoreSpace}
variable (m : Memref sig c.2.kind cs ⟨d, zd⟩ e) (m3 : Memref sig c.2.kind .hbm ⟨d, zs⟩ e)
variable (sm : DmaSem sig) (n N : ℕ)
variable (DS DF : ℕ → Finset (⟨d, zd⟩ : Shape).Idx) (WS : ℕ → Finset (⟨d, zs⟩ : Shape).Idx)
variable (X : (⟨d, zd⟩ : Shape).Idx → Val e) (q : PosShare TreeShare) (fs : Buf Val (m3.view.loc c))

/-- What copy `j` hands over when it lands. -/
def delivery (j : ℕ) : sProp 𝕄 :=
  iprop(slotOwn c m (DS j) X ∗ (m3.view.loc c ↦[m3.view.setOn (WS j)]{Transfers.shareTokN q j} fs))

instance delivery_storable (j : ℕ) : BI.Storable (upEmb : UEmb _ 𝕄) (delivery c m m3 DS WS X q fs j) := by
  unfold delivery slotOwn; infer_instance

/-- The source outside the windows of the first `k` copies, and what remains of it. -/
def kept (k : ℕ) : sProp 𝕄 :=
  iprop((m3.view.loc c ↦[m3.view.set]{Transfers.shareDrop q k} fs)
    ∗ bigSep (Finset.range k) (fun j => m3.view.loc c ↦[m3.view.set \ m3.view.setOn (WS j)]{Transfers.shareTokN q j} fs))

/-- The first `k` copies are started. -/
def issued (k : ℕ) : sProp 𝕄 :=
  iprop(Transfers.Batch (countersEmb (U := U)) c (.dma sm) () N (fun j : Fin n => delivery c m m3 DS WS X q fs j.val) k 0
    ∗ (∃ f, m.view.loc c ↦[m.view.setOn (DF k)]{fullShare} f) ∗ kept c m3 WS q fs k)

theorem issue_step {sz off : Fin d → ℕ} {inb} {off3 : Fin d → ℕ} {inb3} {h1 h3} {s' : Shape} {hq hq3}
    {hs hd ht} (k : ℕ) (hk : k < n)
    (hDS : (Rect.unit (s := ⟨d, zd⟩) off sz inb).set = DS k) (hWS : (Rect.unit (s := ⟨d, zs⟩) off3 sz inb3).set = WS k)
    (hX : ∀ y : (⟨d, sz⟩ : Shape).Idx, m3.view.read Val fs ((Rect.unit (s := ⟨d, zs⟩) off3 sz inb3).emb y) = X ((Rect.unit (s := ⟨d, zd⟩) off sz inb).emb y))
    (hN : ((m.slice (Rect.unit (s := ⟨d, zd⟩) off sz inb) h1).squeeze s' hq).view.dmaCredit = N)
    (hDF : DF k = DS k ∪ DF (k + 1)) (hdis : Disjoint (DS k) (DF (k + 1)))
    {Q : PUnit → sProp 𝕄} :
    issued c m m3 sm n N DS DF WS X q fs k
      ⊢ iprop((issued c m m3 sm n N DS DF WS X q fs (k + 1) -∗ Q ⟨⟩) -∗ wp frame (wpE defs 𝒱 c bd) Set.univ
          (Prog.lift (.enqueueDma ((m3.slice (Rect.unit (s := ⟨d, zs⟩) off3 sz inb3) h3).squeeze s' hq3)
            (.here ((m.slice (Rect.unit (s := ⟨d, zd⟩) off sz inb) h1).squeeze s' hq)) (.dma sm) hs hd ht)) Q) := by
  classical
  unfold issued kept
  iintro ⟨HB, ⟨%f, Hd⟩, Hs, Hk⟩ HK
  have e1 : ((m.slice (Rect.unit (s := ⟨d, zd⟩) off sz inb) h1).squeeze s' hq).view.set = m.view.setOn (DS k) := by
    rw [← hDS]
    refine (View.set_reshape _ _).trans ?_
    exact (Finset.map_map _ _ _).symm.trans (congrArg _ (Rect.map_emb_univ _))
  have e3 : ((m3.slice (Rect.unit (s := ⟨d, zs⟩) off3 sz inb3) h3).squeeze s' hq3).view.set = m3.view.setOn (WS k) := by
    rw [← hWS]
    refine (View.set_reshape _ _).trans ?_
    exact (Finset.map_map _ _ _).symm.trans (congrArg _ (Rect.map_emb_univ _))
  ihave Hs := (pointsTo_share (PosShare.mem_left_op_right (Transfers.shareDrop q k))).1 $$ Hs
  icases Hs with ⟨Hs, Ht⟩
  ihave Ht := (pointsTo_split_subset (show m3.view.setOn (WS k) ⊆ m3.view.set from m3.view.setOn_subset_set _)).1 $$ Ht
  icases Ht with ⟨Ht, Hr⟩
  rw [hDF, show m.view.setOn (DS k ∪ DF (k + 1)) = m.view.setOn (DS k) ∪ m.view.setOn (DF (k + 1)) from Finset.map_union _ _]
  ihave Hd := (pointsTo_union (I := m.view.setOn (DS k)) (J := m.view.setOn (DF (k + 1))) ((Finset.disjoint_map _).mpr hdis)).1 $$ Hd
  icases Hd with ⟨Hd, Hd'⟩
  iapply (Transfers.wp_dmaBatch (countersEmb (U := U)) (defs := defs) 𝒱 c bd (k := .ret)
    (src := (m3.slice (Rect.unit (s := ⟨d, zs⟩) off3 sz inb3) h3).squeeze s' hq3)
    (dst := (m.slice (Rect.unit (s := ⟨d, zd⟩) off sz inb) h1).squeeze s' hq)
    (via := .same) (sm := .dma sm) (fs := fs) (fd := f) (q := Transfers.shareTokN q k)
    (Sd := m.view.setOn (DS k)) (D := fun j : Fin n => delivery c m m3 DS WS X q fs j.val) (j := k) (u := 0)
    () N hN (by rw [e1]) hk (Nat.zero_le _) ?_) $$ [HB Ht Hd]
  · unfold delivery slotOwn
    iintro ⟨Hd, Hs⟩
    isplitl [Hd]
    · iexists _
      isplitr
      rotate_left
      · iexact Hd
      · ipureintro
        intro j hj
        rw [← hDS, ← Rect.map_emb_univ] at hj
        obtain ⟨y, -, rfl⟩ := Finset.mem_map.1 hj
        obtain ⟨x, rfl⟩ := (Shape.reshapeEquiv (s' := s') (s := ⟨d, sz⟩) hq.numel_eq).surjective y
        rw [← hX]
        refine Eq.trans ?_ (congrFun (Eq.refl (((m3.slice (Rect.unit (s := ⟨d, zs⟩) off3 sz inb3) h3).squeeze s' hq3).view.read Val fs)) x)
        exact congrFun (View.read_write_univ (v := ((m.slice (Rect.unit (s := ⟨d, zd⟩) off sz inb) h1).squeeze s' hq).view) f _) x
    · rw [e3]; iexact Hs
  · isplitl [Ht]
    · rw [e3]; iexact Ht
    isplitl [Hd]
    · iexact Hd
    · iexact HB
  iintro HB
  rw [wp_ret]
  imodintro
  iapply HK
  isplitl [HB]; · iexact HB
  isplitl [Hd']; · iexists f; iexact Hd'
  isplitl [Hs]; · iexact Hs
  rw [bigSep_range_succ]
  isplitl [Hr]
  · iexact Hr
  · iexact Hk

/-- `u` of the copies have been waited for. -/
def draining (u : ℕ) : sProp 𝕄 :=
  iprop((∃ W, owes c 0 W) ∗ (if u < n then Transfers.Batch (countersEmb (U := U)) c (.dma sm) () N (fun j : Fin n => delivery c m m3 DS WS X q fs j.val) n (u * N)
    else iprop(bigSep Finset.univ (fun j : Fin n => delivery c m m3 DS WS X q fs j.val) ∗ semVal (c, .dma sm) 0)))

theorem drain_step {spw : Space} {s₁ s₂ : Shape} {e₁ : EltTy} {sp₁ : Space} {srcw : Memref sig c.2.kind sp₁ s₁ e₁} {e₂ : EltTy}
    {dstw : Memref sig c.2.kind spw s₂ e₂} {hs hd}
    (k : ℕ) (hk : k < n) (hN : dstw.view.dmaCredit = N) (hN0 : 0 < N) {Q : PUnit → sProp 𝕄} :
    draining c m m3 sm n N DS WS X q fs k
      ⊢ iprop((draining c m m3 sm n N DS WS X q fs (k + 1) -∗ Q ⟨⟩) -∗ wp frame (wpE defs 𝒱 c bd) Set.univ
          (Prog.lift (.waitDma2 sm srcw dstw hs hd)) Q) := by
  unfold draining
  rw [if_pos hk]
  iintro ⟨⟨%W, HW⟩, HB⟩ HK
  by_cases hl : k + 1 < n
  · iapply (Transfers.wp_waitBatch (countersEmb (U := U)) (defs := defs) 𝒱 c bd (k := .ret) () hN (u := k * N)
      (by rw [← Nat.succ_mul, Nat.mul_comm]; exact Nat.mul_lt_mul_of_pos_left hl hN0)) $$ [HB HW]
    · isplitl [HB]
      · iexact HB
      · iexact HW
    iintro ⟨HB, HW⟩
    rw [wp_ret]
    imodintro
    iapply HK
    isplitl [HW]; · iexists _; iexact HW
    rw [if_pos hl, show (k + 1) * N = k * N + N from Nat.succ_mul k N]
    iexact HB
  · have hn : n = k + 1 := by omega
    iapply (Transfers.wp_waitBatchLast (countersEmb (U := U)) (defs := defs) 𝒱 c bd (k := .ret) () hN hN0 (n := n) (u := k * N)
      (by rw [hn, ← Nat.succ_mul, Nat.mul_comm])) $$ [HB HW]
    · isplitl [HB]
      · iexact HB
      · iexact HW
    iintro ⟨HD, HS, HW⟩
    rw [wp_ret]
    imodintro
    iapply HK
    isplitl [HW]; · iexists _; iexact HW
    rw [if_neg hl]
    isplitl [HD]
    · iexact HD
    · iexact HS

/-- Starting: the semaphore at zero, the buffer's blocks and the source in hand. -/
theorem issue_start :
    iprop(semVal (c, .dma sm) 0 ∗ (∃ f, m.view.loc c ↦[m.view.setOn (DF 0)]{fullShare} f) ∗ (m3.view.loc c ↦[m3.view.set]{q} fs))
      ⊢ |={Set.univ}=> (issued c m m3 sm n N DS DF WS X q fs 0 : sProp 𝕄) := by
  iintro ⟨HS, Hd, Hs⟩
  imod (Transfers.batch_alloc' (countersEmb (U := U)) c () N (fun j : Fin n => delivery c m m3 DS WS X q fs j.val) (sm := .dma sm) (E := Set.univ)) $$ HS with HB
  imodintro
  unfold issued kept
  isplitl [HB]; · iexact HB
  isplitl [Hd]; · iexact Hd
  isplitl [Hs]; · iexact Hs
  rw [Finset.range_zero, bigSep_empty]
  iempintro

/-- Everything has landed: the union of the blocks holds the values, the source is whole, the semaphore zero. -/
theorem drain_done (hd : ∀ i j, i < j → Disjoint (DS i) (DS j)) :
    iprop(draining c m m3 sm n N DS WS X q fs n ∗ kept c m3 WS q fs n)
      ⊢ (iprop((∃ W, owes c 0 W) ∗ semVal (c, .dma sm) 0 ∗ slotOwn c m ((Finset.range n).biUnion DS) X ∗ (m3.view.loc c ↦[m3.view.set]{q} fs)) : sProp 𝕄) := by
  classical
  unfold draining kept delivery
  rw [if_neg (lt_irrefl n)]
  iintro ⟨⟨HW, HD, HS⟩, H1, H2⟩
  isplitl [HW]; · iexact HW
  isplitl [HS]; · iexact HS
  have e : (bigSep Finset.univ (fun j : Fin n => (iprop(slotOwn c m (DS j.val) X ∗ (m3.view.loc c ↦[m3.view.setOn (WS j.val)]{Transfers.shareTokN q j.val} fs)) : sProp 𝕄)))
      = iprop(bigSep (Finset.range n) (fun j => slotOwn c m (DS j) X)
        ∗ bigSep (Finset.range n) (fun j => m3.view.loc c ↦[m3.view.setOn (WS j)]{Transfers.shareTokN q j} fs)) := by
    rw [← bigSep_sep', ← Ring.rangeSet_univ]
    refine (Ring.bigSep_rangeSet_eq_range (le_refl n) (fun j => (iprop(slotOwn c m (DS j) X ∗ (m3.view.loc c ↦[m3.view.setOn (WS j)]{Transfers.shareTokN q j} fs)) : sProp 𝕄)) (fun k h => ?_)).trans ?_
    · simp only [Nat.zero_add]
    · rw [Nat.sub_zero]
  ihave HD := (Entails.of_eq e) $$ HD
  icases HD with ⟨HD, HT⟩
  isplitl [HD]
  · iapply (slotOwn_blocks c m DS hd) $$ HD
  iapply (Transfers.pointsTo_toks_range q n).2
  isplitl [H1]; · iexact H1
  ihave H := (Entails.of_eq (bigSep_sep' (Finset.range n) (fun j => (m3.view.loc c ↦[m3.view.setOn (WS j)]{Transfers.shareTokN q j} fs : sProp 𝕄))
    (fun j => m3.view.loc c ↦[m3.view.set \ m3.view.setOn (WS j)]{Transfers.shareTokN q j} fs)).symm) $$ [HT H2]
  · isplitl [HT]
    · iexact HT
    · iexact H2
  iapply (show bigSep (Finset.range n) (fun j => (iprop((m3.view.loc c ↦[m3.view.setOn (WS j)]{Transfers.shareTokN q j} fs)
      ∗ (m3.view.loc c ↦[m3.view.set \ m3.view.setOn (WS j)]{Transfers.shareTokN q j} fs)) : sProp 𝕄))
    ⊢ bigSep (Finset.range n) (fun j => m3.view.loc c ↦[m3.view.set]{Transfers.shareTokN q j} fs) from
    bigSep_mono (fun j _ => (pointsTo_split_subset (m3.view.setOn_subset_set (WS j))).2)) $$ H

end Copies

end Cert.Own

end
-- ==== Proof.Spec.lean ====
/-
  What one grid step leaves, as functions of what it reads: the slot of gathered codes `B`, the transposed
  scales `ST`, and the two selection matrices `P1`, `P2`. Each function composes the values the body's own
  memory operations store, in the order the body computes them:
  `XS` the regrouped codes of a tile, `BAM` the maximum of each 16-wide block, `acc` the running maximum of a
  head, `BS` the block scales, `RR` the factors that take a code to its quotient, `COD` the packed words,
  `gIt` the per-head scale array after some groups of four heads.
-/
module

public import proofs.«01_k».proof.Proof.Gen.KernelIdeal.Skeleton
public import Idealize.ShloMosaic.Lib.Pipeline.FrameBody
public import Idealize.ShloMosaic.Lib.Pointwise.Index

@[expose] public section

noncomputable section

namespace Cert.KernelIdeal.Spec

open Idealize.ShloMosaic Idealize.ShloMosaic.TcCoe Cert.KernelIdeal.Gen

variable {F : FTy → Type} [FloatOps F] [Named F]

/-- A unit-stride load of a value. -/
abbrev rd {s : Shape} {e : EltTy} (X : s.Idx → Elt F e) (off size : Fin s.rank → ℕ) (inb : ∀ a, off a + size a ≤ s.size a) :
    (Rect.unit (s := s) off size inb).shape.Idx → Elt F e :=
  View.ld (Val := Elt F) X (Rect.unit (s := s) off size inb)

section Step

variable (i : grid0.Coords) (B : Vec F S2x640x16x128 .fp8e4m3) (ST : Vec F S5x112x128 .f32) (P1 P2 : Vec F S256x256 .fp8e4m3)
variable (k7 : Fin k0_t7_loop.trips)

section Tile

variable (k : Fin k0_t8_loop.trips)

def c188 := k0_pay11 (rd B (k0_off20 i k7 k 0#32 3#32) S1x32x1x128.size (k0_off20_inb i k7 k 0 3))
def c218 := k0_pay15 (rd B (k0_off20 i k7 k 32#32 3#32) S1x32x1x128.size (k0_off20_inb i k7 k 1 3))
def c248 := k0_pay18 (rd B (k0_off20 i k7 k 64#32 3#32) S1x32x1x128.size (k0_off20_inb i k7 k 2 3))
def c278 := k0_pay19 (rd B (k0_off20 i k7 k 96#32 3#32) S1x32x1x128.size (k0_off20_inb i k7 k 3 3))
def c279 := k0_pay20 (k0_pay8 (rd B (k0_off20 i k7 k 0#32 0#32) S1x32x1x128.size (k0_off20_inb i k7 k 0 0))) (k0_pay12 (rd B (k0_off20 i k7 k 32#32 0#32) S1x32x1x128.size (k0_off20_inb i k7 k 1 0))) (k0_pay16 (rd B (k0_off20 i k7 k 64#32 0#32) S1x32x1x128.size (k0_off20_inb i k7 k 2 0))) (rd B (k0_off20 i k7 k 96#32 0#32) S1x32x1x128.size (k0_off20_inb i k7 k 3 0))
def c280 := k0_pay21 (k0_pay9 (rd B (k0_off20 i k7 k 0#32 1#32) S1x32x1x128.size (k0_off20_inb i k7 k 0 1))) (k0_pay13 (rd B (k0_off20 i k7 k 32#32 1#32) S1x32x1x128.size (k0_off20_inb i k7 k 1 1))) (k0_pay17 (rd B (k0_off20 i k7 k 64#32 1#32) S1x32x1x128.size (k0_off20_inb i k7 k 2 1))) (rd B (k0_off20 i k7 k 96#32 1#32) S1x32x1x128.size (k0_off20_inb i k7 k 3 1))
def c281 := k0_pay22 (k0_pay10 (rd B (k0_off20 i k7 k 0#32 2#32) S1x32x1x128.size (k0_off20_inb i k7 k 0 2))) (k0_pay14 (rd B (k0_off20 i k7 k 32#32 2#32) S1x32x1x128.size (k0_off20_inb i k7 k 1 2))) (rd B (k0_off20 i k7 k 64#32 2#32) S1x32x1x128.size (k0_off20_inb i k7 k 2 2)) (rd B (k0_off20 i k7 k 96#32 2#32) S1x32x1x128.size (k0_off20_inb i k7 k 3 2))

/-- The regrouped codes of tile `k`. -/
def xsT : Vec F S1x256x256 .fp8e4m3 :=
  k0_pay24 (c188 i B k7 k) (c218 i B k7 k) (c248 i B k7 k) (c278 i B k7 k) (c279 i B k7 k) (c280 i B k7 k) (c281 i B k7 k)

/-- The block maxima of the code magnitudes. -/
def mxT : FVec F S2x8x256 .f32 :=
  k0_pay25 (c188 i B k7 k) (c218 i B k7 k) (c248 i B k7 k) (c278 i B k7 k) (c279 i B k7 k) (c280 i B k7 k) (c281 i B k7 k) P1

def m317 : FVec F S8x128 .f32 :=
  k0_pay29 (c188 i B k7 k) (c218 i B k7 k) (c248 i B k7 k) (c278 i B k7 k) (c279 i B k7 k) (c280 i B k7 k) (c281 i B k7 k) P1

/-- The block maxima of head `h` in tile `k`. -/
def bamT : Fin 4 → Vec F S1x8x128 .f32
  | 0 => k0_pay27 (c188 i B k7 k) (c218 i B k7 k) (c248 i B k7 k) (c278 i B k7 k) (c279 i B k7 k) (c280 i B k7 k) (c281 i B k7 k) P1 (rd ST (k0_off22 i k7 k 0#32) S1x1x128.size (k0_off22_inb i k7 k 0))
  | 1 => k0_pay31 (m317 i B P1 k7 k) (rd ST (k0_off22 i k7 k 1#32) S1x1x128.size (k0_off22_inb i k7 k 1))
  | 2 => k0_pay34 (mxT i B P1 k7 k) (rd ST (k0_off22 i k7 k 2#32) S1x1x128.size (k0_off22_inb i k7 k 2))
  | 3 => k0_pay98 (k0_pay36 (mxT i B P1 k7 k)) (k0_pay37 (rd ST (k0_off22 i k7 k 3#32) S1x1x128.size (k0_off22_inb i k7 k 3)))

/-- The running maxima of head `h` after tile `k`. -/
def accT (a : FVec F S8x128 .f32) : Fin 4 → FVec F S8x128 .f32
  | 0 => k0_pay28 a (c188 i B k7 k) (c218 i B k7 k) (c248 i B k7 k) (c278 i B k7 k) (c279 i B k7 k) (c280 i B k7 k) (c281 i B k7 k) P1 (rd ST (k0_off22 i k7 k 0#32) S1x1x128.size (k0_off22_inb i k7 k 0))
  | 1 => k0_pay32 a (m317 i B P1 k7 k) (rd ST (k0_off22 i k7 k 1#32) S1x1x128.size (k0_off22_inb i k7 k 1))
  | 2 => k0_pay35 a (mxT i B P1 k7 k) (rd ST (k0_off22 i k7 k 2#32) S1x1x128.size (k0_off22_inb i k7 k 2))
  | 3 => k0_pay99 a (k0_pay36 (mxT i B P1 k7 k)) (k0_pay37 (rd ST (k0_off22 i k7 k 3#32) S1x1x128.size (k0_off22_inb i k7 k 3)))

end Tile

/-- What the running maxima start at. -/
def acc0 : Fin 4 → FVec F S8x128 .f32
  | 0 => k0_pay93 (F := F)
  | 1 => k0_pay94 (F := F)
  | 2 => k0_pay95 (F := F)
  | 3 => k0_pay96 (F := F)

/-- The running maxima of head `h` after the tiles before `k`. -/
def acc (h : Fin 4) : ℕ → FVec F S8x128 .f32
  | 0 => acc0 h
  | k + 1 => if hk : k < k0_t8_loop.trips then accT i B ST P1 k7 ⟨k, hk⟩ (acc h k) h else acc h k

theorem trips8 : k0_t8_loop.trips = 5 := by decide
theorem trips7 : k0_t7_loop.trips = 4 := by decide

theorem div_lt (n : Fin 640) : n.val / 128 < k0_t8_loop.trips := by rw [trips8]; omega
theorem mod_lt (n : Fin 640) : n.val % 128 < 128 := by omega

/-- The regrouped codes of the group's tiles. -/
def XS : Vec F S5x256x256 .fp8e4m3 := fun j => xsT i B k7 ⟨(j 0).val, by rw [trips8]; exact (j 0).isLt⟩ (ix3 0 (j 1) (j 2))

/-- The block maxima of the group's heads over all tiles. -/
def BAM : Vec F S4x8x640 .f32 := fun j =>
  bamT i B ST P1 k7 ⟨(j 2).val / 128, div_lt (j 2)⟩ (j 0) (ix3 0 (j 1) ⟨(j 2).val % 128, mod_lt (j 2)⟩)

def g0 := acc i B ST P1 k7 0 k0_t8_loop.trips
def g1 := acc i B ST P1 k7 1 k0_t8_loop.trips
def g2 := acc i B ST P1 k7 2 k0_t8_loop.trips
def g3 := acc i B ST P1 k7 3 k0_t8_loop.trips
def w37 := k0_pay100 (g0 i B ST P1 k7)
def w56 := k0_pay102 (g0 i B ST P1 k7)
def w129 := k0_pay116 (g3 i B ST P1 k7)

section Tile2

variable (k : Fin k0_t8_loop.trips)

/-- The block maxima of head `h`, tile `k`, as loaded back. -/
def lM : Fin 4 → Vec F S1x8x128 .f32
  | 0 => rd (BAM i B ST P1 k7) (k0_off27 k) S1x8x128.size (k0_off27_inb k)
  | 1 => rd (BAM i B ST P1 k7) (k0_off30 k) S1x8x128.size (k0_off30_inb k)
  | 2 => rd (BAM i B ST P1 k7) (k0_off33 k) S1x8x128.size (k0_off33_inb k)
  | 3 => rd (BAM i B ST P1 k7) (k0_off36 k) S1x8x128.size (k0_off36_inb k)

/-- The scales of head `h`, tile `k`, as the second phase loads them. -/
def lT : Fin 4 → Vec F S1x1x128 .f32
  | 0 => rd ST (k0_off29 i k7 k) S1x1x128.size (k0_off29_inb i k7 k)
  | 1 => rd ST (k0_off32 i k7 k) S1x1x128.size (k0_off32_inb i k7 k)
  | 2 => rd ST (k0_off35 i k7 k) S1x1x128.size (k0_off35_inb i k7 k)
  | 3 => rd ST (k0_off38 i k7 k) S1x1x128.size (k0_off38_inb i k7 k)

/-- The block scales of head `h`, tile `k`. -/
def bsT : Fin 4 → Vec F S1x1x8x128 .fp8e4m3
  | 0 => k0_pay104 (w56 i B ST P1 k7) (lM i B ST P1 k7 k 0)
  | 1 => k0_pay109 (g1 i B ST P1 k7) (lM i B ST P1 k7 k 1)
  | 2 => k0_pay114 (g2 i B ST P1 k7) (lM i B ST P1 k7 k 2)
  | 3 => k0_pay5 (w129 i B ST P1 k7) (lM i B ST P1 k7 k 3)

/-- The factors of head `h`, tile `k`. -/
def rrT : Fin 4 → Vec F S1x8x128 .f32
  | 0 => k0_pay105 (w37 i B ST P1 k7) (w56 i B ST P1 k7) (lM i B ST P1 k7 k 0) (lT i ST k7 k 0)
  | 1 => k0_pay110 (g1 i B ST P1 k7) (lM i B ST P1 k7 k 1) (lT i ST k7 k 1)
  | 2 => k0_pay115 (g2 i B ST P1 k7) (lM i B ST P1 k7 k 2) (lT i ST k7 k 2)
  | 3 => k0_pay6 (w129 i B ST P1 k7) (lM i B ST P1 k7 k 3) (lT i ST k7 k 3)

end Tile2

/-- The factors of the group's heads over all tiles. -/
def RR : Vec F S4x8x640 .f32 := fun j =>
  rrT i B ST P1 k7 ⟨(j 2).val / 128, div_lt (j 2)⟩ (j 0) (ix3 0 (j 1) ⟨(j 2).val % 128, mod_lt (j 2)⟩)

section Tile3

variable (k : Fin k0_t8_loop.trips)

/-- The codes of tile `k`, regrouped for packing. -/
def xpT : FVec F S256x256 .f32 := k0_pay38 (rd (XS i B k7) (k0_off39 k) S1x256x256.size (k0_off39_inb k)) P2

/-- The packed bytes of the first head from its regrouped codes and its eight rows of factors. -/
def codA (x : Vec F S1x256x256 .fp8e4m3) (p : Vec F S256x256 .fp8e4m3) (r0 r1 r2 r3 r4 r5 r6 r7 : Vec F S1x1x128 .f32) : Vec F S1x1x64x128 .i8 :=
  let v166 := k0_pay38 x p
  let v174 := k0_pay39 x p r0
  let v180 := k0_pay40 x p r1
  let v186 := k0_pay41 x p r2
  let v192 := k0_pay42 x p r3
  let v198 := k0_pay43 x p r4
  let v221 := k0_pay44 v166 v174 v180 v186 v192 v198 r5 r6 r7
  let v222 := k0_pay45 v166 v174 v180 v186 v192 v198 r5 r6 r7
  let v239 := k0_pay46 v166 v174 v180 v186 v192 v198 r5 r6 r7
  let v241 := k0_pay47 v166 v174 v180 v186 v192 v198 r5 r6 r7
  k0_pay57 (k0_pay49 v221 v222 v239 v241) (k0_pay50 v221 v222 v239 v241) (k0_pay51 v221 v222 v239 v241) (k0_pay52 v221 v222 v239 v241)
    (k0_pay53 v221 v222 v239 v241) (k0_pay54 v221 v222 v239 v241) (k0_pay55 v221 v222 v239 v241) (k0_pay56 v221 v222 v239 v241)

/-- The packed bytes of the second head. -/
def codB (v166 : FVec F S256x256 .f32) (r0 r1 r2 r3 r4 r5 r6 r7 : Vec F S1x1x128 .f32) : Vec F S1x1x64x128 .i8 :=
  let v317 := k0_pay58 v166 r0
  let v323 := k0_pay59 v166 r1
  let v329 := k0_pay60 v166 r2
  let v364 := k0_pay61 v166 v317 v323 v329 r3 r4 r5 r6 r7
  let v365 := k0_pay62 v166 v317 v323 v329 r3 r4 r5 r6 r7
  let v374 := k0_pay63 v166 v317 v323 v329 r3 r4 r5 r6 r7
  let b : F .f32 := Scalar.ofBits .f32 0x3FA00000#32
  k0_pay70 (k0_pay64 v364 v365 v374 b) (k0_pay65 v364 v365 v374 b) (k0_pay66 v364 v365 v374 b) (k0_pay67 v364 v365 v374 b)
    (k0_pay68 v364 v365 v374 b) (k0_pay69 v364 v365 v374 b) 16#32

/-- The packed bytes of the third head. -/
def codC (v166 : FVec F S256x256 .f32) (r0 r1 r2 r3 r4 r5 r6 r7 : Vec F S1x1x128 .f32) : Vec F S1x1x64x128 .i8 :=
  let v460 := k0_pay71 v166 r0
  let v463 := k0_pay72 r1
  let v507 := k0_pay73 v166 v460 v463 r2 r3 r4 r5 r6 r7
  let v508 := k0_pay74 v166 v460 v463 r2 r3 r4 r5 r6 r7
  let b : F .f32 := Scalar.ofBits .f32 0x3E800000#32
  k0_pay79 (k0_pay75 v507 v508 b) (k0_pay76 v507 v508 b) (k0_pay77 v507 v508 b) k0_pay78

/-- The packed bytes of the fourth head. -/
def codD (v166 : FVec F S256x256 .f32) (r0 r1 r2 r3 r4 r5 r6 r7 : Vec F S1x1x128 .f32) : Vec F S1x1x64x128 .i8 :=
  let v603 := k0_pay80 v166 r0
  let v609 := k0_pay81 v166 r1
  let v615 := k0_pay82 v166 r2
  let v621 := k0_pay83 v166 r3
  let v627 := k0_pay84 v166 r4
  let v633 := k0_pay85 v166 r5
  let v639 := k0_pay86 v166 r6
  let v680 := k0_pay88 v166 v603 v609 v615 v621 v627 v633 v639 r7
  let v682 := k0_pay89 v166 v603 v609 v615 v621 v627 v633 v639 r7
  k0_pay7 (k0_pay90 v680 v682) (k0_pay91 v680 v682) k0_pay92

/-- One row of factors. -/
abbrev lR (off : Fin 3 → ℕ) (inb : ∀ a, off a + S1x1x128.size a ≤ S4x8x640.size a) : Vec F S1x1x128 .f32 :=
  rd (RR i B ST P1 k7) off S1x1x128.size inb

/-- The packed bytes of head `h`, tile `k`. -/
def codT : Fin 4 → Vec F S1x1x64x128 .i8
  | 0 => codA (rd (XS i B k7) (k0_off39 k) S1x256x256.size (k0_off39_inb k)) P2
      (lR i B ST P1 k7 (k0_off40 k) (k0_off40_inb k)) (lR i B ST P1 k7 (k0_off41 k) (k0_off41_inb k))
      (lR i B ST P1 k7 (k0_off42 k) (k0_off42_inb k)) (lR i B ST P1 k7 (k0_off43 k) (k0_off43_inb k))
      (lR i B ST P1 k7 (k0_off44 k) (k0_off44_inb k)) (lR i B ST P1 k7 (k0_off45 k) (k0_off45_inb k))
      (lR i B ST P1 k7 (k0_off46 k) (k0_off46_inb k)) (lR i B ST P1 k7 (k0_off47 k) (k0_off47_inb k))
  | 1 => codB (xpT i B P2 k7 k)
      (lR i B ST P1 k7 (k0_off49 k) (k0_off49_inb k)) (lR i B ST P1 k7 (k0_off50 k) (k0_off50_inb k))
      (lR i B ST P1 k7 (k0_off51 k) (k0_off51_inb k)) (lR i B ST P1 k7 (k0_off52 k) (k0_off52_inb k))
      (lR i B ST P1 k7 (k0_off53 k) (k0_off53_inb k)) (lR i B ST P1 k7 (k0_off54 k) (k0_off54_inb k))
      (lR i B ST P1 k7 (k0_off55 k) (k0_off55_inb k)) (lR i B ST P1 k7 (k0_off56 k) (k0_off56_inb k))
  | 2 => codC (xpT i B P2 k7 k)
      (lR i B ST P1 k7 (k0_off57 k) (k0_off57_inb k)) (lR i B ST P1 k7 (k0_off58 k) (k0_off58_inb k))
      (lR i B ST P1 k7 (k0_off59 k) (k0_off59_inb k)) (lR i B ST P1 k7 (k0_off60 k) (k0_off60_inb k))
      (lR i B ST P1 k7 (k0_off61 k) (k0_off61_inb k)) (lR i B ST P1 k7 (k0_off62 k) (k0_off62_inb k))
      (lR i B ST P1 k7 (k0_off63 k) (k0_off63_inb k)) (lR i B ST P1 k7 (k0_off64 k) (k0_off64_inb k))
  | 3 => codD (xpT i B P2 k7 k)
      (lR i B ST P1 k7 (k0_off65 k) (k0_off65_inb k)) (lR i B ST P1 k7 (k0_off66 k) (k0_off66_inb k))
      (lR i B ST P1 k7 (k0_off67 k) (k0_off67_inb k)) (lR i B ST P1 k7 (k0_off68 k) (k0_off68_inb k))
      (lR i B ST P1 k7 (k0_off69 k) (k0_off69_inb k)) (lR i B ST P1 k7 (k0_off70 k) (k0_off70_inb k))
      (lR i B ST P1 k7 (k0_off71 k) (k0_off71_inb k)) (lR i B ST P1 k7 (k0_off72 k) (k0_off72_inb k))

end Tile3

/-- The iotas the per-head scale array is updated by. -/
def w17 : IVec S1x112 32 := iota .tc S1x112 32 [1] iota_S1x112_d1_w32
def w18 : IVec S3x1 32 := iota .tc S3x1 32 [0] iota_S3x1_d0_w32
def wa0 : BitVec 32 := BitVec.ofNat 32 (i 0).val
def wa1 : BitVec 32 := BitVec.ofNat 32 (i 1).val
def w126 : BitVec 32 := Scalar.addi (Scalar.muli (Scf.iv 0#32 1#32 k7) 4#32) 3#32

/-- The per-head scale array after head `h` of the group. -/
def gT (Y : Vec F S3x112 .f32) : Fin 4 → Vec F S3x112 .f32
  | 0 => k0_pay101 (wa0 i) (wa1 i) w17 w18 0#32 1#32 k7 (g0 i B ST P1 k7) Y
  | 1 => k0_pay107 (wa0 i) (wa1 i) w17 w18 (Scf.iv 0#32 1#32 k7) (g1 i B ST P1 k7) Y
  | 2 => k0_pay112 (wa0 i) (wa1 i) w17 w18 (Scf.iv 0#32 1#32 k7) (g2 i B ST P1 k7) 4#32 Y
  | 3 => k0_pay3 i (w126 k7) (w129 i B ST P1 k7) Y

/-- The per-head scale array after the group. -/
def gS (Y : Vec F S3x112 .f32) : Vec F S3x112 .f32 :=
  gT i B ST P1 k7 (gT i B ST P1 k7 (gT i B ST P1 k7 (gT i B ST P1 k7 Y 0) 1) 2) 3

end Step

section Out

variable (i : grid0.Coords) (B : Vec F S2x640x16x128 .fp8e4m3) (ST : Vec F S5x112x128 .f32) (P1 P2 : Vec F S256x256 .fp8e4m3)

/-- The per-head scale array after the groups before `n`, from `Y`. -/
def gIt (Y : Vec F S3x112 .f32) : ℕ → Vec F S3x112 .f32
  | 0 => Y
  | n + 1 => if hn : n < k0_t7_loop.trips then gS i B ST P1 ⟨n, hn⟩ (gIt Y n) else gIt Y n

theorem div4_lt (n : Fin 16) : n.val / 4 < k0_t7_loop.trips := by rw [trips7]; omega
theorem mod4_lt (n : Fin 16) : n.val % 4 < 4 := by omega

/-- The packed bytes one grid step leaves. -/
def COD : Vec F S1x16x64x640 .i8 := fun j =>
  codT i B ST P1 P2 ⟨(j 1).val / 4, div4_lt (j 1)⟩ ⟨(j 3).val / 128, div_lt (j 3)⟩ ⟨(j 1).val % 4, mod4_lt (j 1)⟩
    (ix4 0 0 (j 2) ⟨(j 3).val % 128, mod_lt (j 3)⟩)

/-- The block scales one grid step leaves. -/
def BS : Vec F S1x16x8x640 .fp8e4m3 := fun j =>
  bsT i B ST P1 ⟨(j 1).val / 4, div4_lt (j 1)⟩ ⟨(j 3).val / 128, div_lt (j 3)⟩ ⟨(j 1).val % 4, mod4_lt (j 1)⟩
    (ix4 0 0 (j 2) ⟨(j 3).val % 128, mod_lt (j 3)⟩)

end Out

end Cert.KernelIdeal.Spec

end
-- ==== Proof.Fill.lean ====
/-
  How far a buffer is filled, and what the filled values are at an index of the rectangle just stored.
-/
module

public import proofs.«01_k».proof.Proof.Spec
public import proofs.«01_k».proof.Proof.Rules

@[expose] public section

noncomputable section

namespace Cert.KernelIdeal.Fill

open Idealize.ShloMosaic Idealize.ShloMosaic.TcCoe Cert.KernelIdeal.Gen Cert.KernelIdeal.Spec

/-! ### Rectangles by coordinates -/

theorem mem3 {n0 n1 n2 s0 s1 s2 o0 o1 o2 : ℕ} {off : Fin 3 → ℕ} (h : off = ![o0, o1, o2])
    {inb : ∀ a, off a + (![s0, s1, s2] : Fin 3 → ℕ) a ≤ (![n0, n1, n2] : Fin 3 → ℕ) a} (j : (⟨3, ![n0, n1, n2]⟩ : Shape).Idx) :
    j ∈ (Rect.unit (s := ⟨3, ![n0, n1, n2]⟩) off ![s0, s1, s2] inb).set
      ↔ (o0 ≤ (j 0).val ∧ (j 0).val < o0 + s0) ∧ (o1 ≤ (j 1).val ∧ (j 1).val < o1 + s1) ∧ (o2 ≤ (j 2).val ∧ (j 2).val < o2 + s2) := by
  subst h
  rw [Rect.mem_set_unit]
  simp only [Fin.forall_fin_succ]
  simp

theorem mem4 {n0 n1 n2 n3 s0 s1 s2 s3 o0 o1 o2 o3 : ℕ} {off : Fin 4 → ℕ} (h : off = ![o0, o1, o2, o3])
    {inb : ∀ a, off a + (![s0, s1, s2, s3] : Fin 4 → ℕ) a ≤ (![n0, n1, n2, n3] : Fin 4 → ℕ) a} (j : (⟨4, ![n0, n1, n2, n3]⟩ : Shape).Idx) :
    j ∈ (Rect.unit (s := ⟨4, ![n0, n1, n2, n3]⟩) off ![s0, s1, s2, s3] inb).set
      ↔ (o0 ≤ (j 0).val ∧ (j 0).val < o0 + s0) ∧ (o1 ≤ (j 1).val ∧ (j 1).val < o1 + s1) ∧ (o2 ≤ (j 2).val ∧ (j 2).val < o2 + s2)
        ∧ (o3 ≤ (j 3).val ∧ (j 3).val < o3 + s3) := by
  subst h
  rw [Rect.mem_set_unit]
  simp only [Fin.forall_fin_succ]
  simp

theorem emb3 {n0 n1 n2 s0 s1 s2 o0 o1 o2 : ℕ} {off : Fin 3 → ℕ} (h : off = ![o0, o1, o2])
    {inb : ∀ a, off a + (![s0, s1, s2] : Fin 3 → ℕ) a ≤ (![n0, n1, n2] : Fin 3 → ℕ) a}
    (x : (Rect.unit (s := ⟨3, ![n0, n1, n2]⟩) off ![s0, s1, s2] inb).shape.Idx) :
    ((Rect.unit (s := ⟨3, ![n0, n1, n2]⟩) off ![s0, s1, s2] inb).emb x 0).val = o0 + (x 0).val
      ∧ ((Rect.unit (s := ⟨3, ![n0, n1, n2]⟩) off ![s0, s1, s2] inb).emb x 1).val = o1 + (x 1).val
      ∧ ((Rect.unit (s := ⟨3, ![n0, n1, n2]⟩) off ![s0, s1, s2] inb).emb x 2).val = o2 + (x 2).val := by
  subst h
  refine ⟨?_, ?_, ?_⟩ <;> (rw [Rect.emb_apply]; simp [Rect.unit])

theorem emb4 {n0 n1 n2 n3 s0 s1 s2 s3 o0 o1 o2 o3 : ℕ} {off : Fin 4 → ℕ} (h : off = ![o0, o1, o2, o3])
    {inb : ∀ a, off a + (![s0, s1, s2, s3] : Fin 4 → ℕ) a ≤ (![n0, n1, n2, n3] : Fin 4 → ℕ) a}
    (x : (Rect.unit (s := ⟨4, ![n0, n1, n2, n3]⟩) off ![s0, s1, s2, s3] inb).shape.Idx) :
    ((Rect.unit (s := ⟨4, ![n0, n1, n2, n3]⟩) off ![s0, s1, s2, s3] inb).emb x 0).val = o0 + (x 0).val
      ∧ ((Rect.unit (s := ⟨4, ![n0, n1, n2, n3]⟩) off ![s0, s1, s2, s3] inb).emb x 1).val = o1 + (x 1).val
      ∧ ((Rect.unit (s := ⟨4, ![n0, n1, n2, n3]⟩) off ![s0, s1, s2, s3] inb).emb x 2).val = o2 + (x 2).val
      ∧ ((Rect.unit (s := ⟨4, ![n0, n1, n2, n3]⟩) off ![s0, s1, s2, s3] inb).emb x 3).val = o3 + (x 3).val := by
  subst h
  refine ⟨?_, ?_, ?_, ?_⟩ <;> (rw [Rect.emb_apply]; simp [Rect.unit])

/-- A load of everything is the value. -/
theorem ld_whole {n0 n1 : ℕ} {α : EltTy → Type} {e : EltTy} (inb : ∀ a, (![0, 0] : Fin 2 → ℕ) a + (![n0, n1] : Fin 2 → ℕ) a ≤ (![n0, n1] : Fin 2 → ℕ) a)
    (X : (⟨2, ![n0, n1]⟩ : Shape).Idx → α e) : View.ld X (Rect.unit (s := ⟨2, ![n0, n1]⟩) ![0, 0] ![n0, n1] inb) = X := by
  funext x
  refine congrArg X (funext fun a => Fin.ext ?_)
  show (![0, 0] : Fin 2 → ℕ) a + 1 * (x a).val = (x a).val
  match a with
  | ⟨0, _⟩ => simp
  | ⟨1, _⟩ => simp

/-- A store over everything replaces the value. -/
theorem overlay_whole {n0 n1 : ℕ} {α : Type} (inb : ∀ a, (![0, 0] : Fin 2 → ℕ) a + (![n0, n1] : Fin 2 → ℕ) a ≤ (![n0, n1] : Fin 2 → ℕ) a)
    (X : (⟨2, ![n0, n1]⟩ : Shape).Idx → α) (w : (⟨2, ![n0, n1]⟩ : Shape).Idx → α) :
    (Rect.unit (s := ⟨2, ![n0, n1]⟩) ![0, 0] ![n0, n1] inb).overlay X w = w := by
  funext x
  have e : (Rect.unit (s := ⟨2, ![n0, n1]⟩) ![0, 0] ![n0, n1] inb).emb x = x := funext fun a => Fin.ext (by
    rw [Rect.emb_apply]
    show (![0, 0] : Fin 2 → ℕ) a + 1 * (x a).val = (x a).val
    match a with
    | ⟨0, _⟩ => simp
    | ⟨1, _⟩ => simp)
  have h := Rect.overlay_emb (Rect.unit (s := ⟨2, ![n0, n1]⟩) ![0, 0] ![n0, n1] inb) X w x
  rwa [e] at h

/-! ### How far each buffer is filled -/

/-- Regrouped codes: the tiles before `k`. -/
def D13 (k : ℕ) (j : S5x256x256.Idx) : Prop := (j 0).val < k
/-- Block maxima: the tiles before `k`, and the heads before `h` of tile `k`. -/
def D14 (h k : ℕ) (j : S4x8x640.Idx) : Prop := (j 2).val / 128 < k ∨ ((j 2).val / 128 = k ∧ (j 0).val < h)
/-- Factors: the heads before `h`, and the tiles before `k` of head `h`. -/
def D15 (h k : ℕ) (j : S4x8x640.Idx) : Prop := (j 0).val < h ∨ ((j 0).val = h ∧ (j 2).val / 128 < k)
/-- Block scales: the groups before `g`, then as for the factors. -/
def D8 (g h k : ℕ) (j : S1x16x8x640.Idx) : Prop :=
  (j 1).val / 4 < g ∨ ((j 1).val / 4 = g ∧ ((j 1).val % 4 < h ∨ ((j 1).val % 4 = h ∧ (j 3).val / 128 < k)))
/-- Packed bytes: the groups before `g`, the tiles before `k` of group `g`, the heads before `h` of tile `k`. -/
def D7 (g h k : ℕ) (j : S1x16x64x640.Idx) : Prop :=
  (j 1).val / 4 < g ∨ ((j 1).val / 4 = g ∧ ((j 3).val / 128 < k ∨ ((j 3).val / 128 = k ∧ (j 1).val % 4 < h)))

variable {F : FTy → Type} [FloatOps F] [Named F]
variable (i : grid0.Coords) (B : Vec F S2x640x16x128 .fp8e4m3) (ST : Vec F S5x112x128 .f32) (P1 P2 : Vec F S256x256 .fp8e4m3)
variable (k7 : Fin k0_t7_loop.trips)

theorem XS_at (k : Fin k0_t8_loop.trips) (x : S1x256x256.Idx) (j : S5x256x256.Idx)
    (h0 : (j 0).val = k.val) (h1 : (j 1).val = (x 1).val) (h2 : (j 2).val = (x 2).val) : XS i B k7 j = xsT i B k7 k x := by
  unfold XS
  have e0 : (⟨(j 0).val, by rw [trips8]; exact (j 0).isLt⟩ : Fin k0_t8_loop.trips) = k := Fin.ext h0
  rw [e0]
  congr 1
  · funext a
    match a with
    | ⟨0, _⟩ => exact Fin.ext (by have := (x 0).isLt; show 0 = (x 0).val; change (x 0).val < 1 at this; omega)
    | ⟨1, _⟩ => exact Fin.ext h1
    | ⟨2, _⟩ => exact Fin.ext h2

theorem tile_ix (x : S1x8x128.Idx) (j : S4x8x640.Idx) {k : ℕ} (h1 : (j 1).val = (x 1).val) (h2 : (j 2).val = 128 * k + (x 2).val) :
    (ix3 0 (j 1) ⟨(j 2).val % 128, mod_lt (j 2)⟩ : S1x8x128.Idx) = x := by
  have l2 : (x 2).val < 128 := (x 2).isLt
  have l0 : (x 0).val < 1 := (x 0).isLt
  funext a
  match a with
  | ⟨0, _⟩ => exact Fin.ext (by show 0 = (x 0).val; omega)
  | ⟨1, _⟩ => exact Fin.ext h1
  | ⟨2, _⟩ => exact Fin.ext (by show (j 2).val % 128 = (x 2).val; omega)

theorem BAM_at (h : Fin 4) (k : Fin k0_t8_loop.trips) (x : S1x8x128.Idx) (j : S4x8x640.Idx)
    (h0 : (j 0).val = h.val) (h1 : (j 1).val = (x 1).val) (h2 : (j 2).val = 128 * k.val + (x 2).val) :
    BAM i B ST P1 k7 j = bamT i B ST P1 k7 k h x := by
  have l2 : (x 2).val < 128 := (x 2).isLt
  unfold BAM
  rw [tile_ix x j h1 h2]
  have e0 : (j 0 : Fin 4) = h := Fin.ext h0
  have e2 : (⟨(j 2).val / 128, div_lt (j 2)⟩ : Fin k0_t8_loop.trips) = k := Fin.ext (by show (j 2).val / 128 = k.val; omega)
  rw [e2]
  exact congrFun (congrArg _ e0) x

theorem RR_at (h : Fin 4) (k : Fin k0_t8_loop.trips) (x : S1x8x128.Idx) (j : S4x8x640.Idx)
    (h0 : (j 0).val = h.val) (h1 : (j 1).val = (x 1).val) (h2 : (j 2).val = 128 * k.val + (x 2).val) :
    RR i B ST P1 k7 j = rrT i B ST P1 k7 k h x := by
  have l2 : (x 2).val < 128 := (x 2).isLt
  unfold RR
  rw [tile_ix x j h1 h2]
  have e0 : (j 0 : Fin 4) = h := Fin.ext h0
  have e2 : (⟨(j 2).val / 128, div_lt (j 2)⟩ : Fin k0_t8_loop.trips) = k := Fin.ext (by show (j 2).val / 128 = k.val; omega)
  rw [e2]
  exact congrFun (congrArg _ e0) x

theorem BS_at (h : Fin 4) (k : Fin k0_t8_loop.trips) (x : S1x1x8x128.Idx) (j : S1x16x8x640.Idx)
    (h1 : (j 1).val = 4 * k7.val + h.val) (h2 : (j 2).val = (x 2).val) (h3 : (j 3).val = 128 * k.val + (x 3).val) :
    BS i B ST P1 j = bsT i B ST P1 k7 k h x := by
  have l3 : (x 3).val < 128 := (x 3).isLt
  have l0 : (x 0).val < 1 := (x 0).isLt
  have l1 : (x 1).val < 1 := (x 1).isLt
  have lh := h.isLt
  unfold BS
  have e1 : (⟨(j 1).val / 4, div4_lt (j 1)⟩ : Fin k0_t7_loop.trips) = k7 := Fin.ext (by show (j 1).val / 4 = k7.val; omega)
  have e2 : (⟨(j 1).val % 4, mod4_lt (j 1)⟩ : Fin 4) = h := Fin.ext (by show (j 1).val % 4 = h.val; omega)
  have e3 : (⟨(j 3).val / 128, div_lt (j 3)⟩ : Fin k0_t8_loop.trips) = k := Fin.ext (by show (j 3).val / 128 = k.val; omega)
  have e4 : (ix4 0 0 (j 2) ⟨(j 3).val % 128, mod_lt (j 3)⟩ : S1x1x8x128.Idx) = x := by
    funext a
    match a with
    | ⟨0, _⟩ => exact Fin.ext (by show 0 = (x 0).val; omega)
    | ⟨1, _⟩ => exact Fin.ext (by show 0 = (x 1).val; omega)
    | ⟨2, _⟩ => exact Fin.ext h2
    | ⟨3, _⟩ => exact Fin.ext (by show (j 3).val % 128 = (x 3).val; omega)
  rw [e1, e2, e3, e4]

theorem COD_at (h : Fin 4) (k : Fin k0_t8_loop.trips) (x : S1x1x64x128.Idx) (j : S1x16x64x640.Idx)
    (h1 : (j 1).val = 4 * k7.val + h.val) (h2 : (j 2).val = (x 2).val) (h3 : (j 3).val = 128 * k.val + (x 3).val) :
    COD i B ST P1 P2 j = codT i B ST P1 P2 k7 k h x := by
  have l3 : (x 3).val < 128 := (x 3).isLt
  have l0 : (x 0).val < 1 := (x 0).isLt
  have l1 : (x 1).val < 1 := (x 1).isLt
  have lh := h.isLt
  unfold COD
  have e1 : (⟨(j 1).val / 4, div4_lt (j 1)⟩ : Fin k0_t7_loop.trips) = k7 := Fin.ext (by show (j 1).val / 4 = k7.val; omega)
  have e2 : (⟨(j 1).val % 4, mod4_lt (j 1)⟩ : Fin 4) = h := Fin.ext (by show (j 1).val % 4 = h.val; omega)
  have e3 : (⟨(j 3).val / 128, div_lt (j 3)⟩ : Fin k0_t8_loop.trips) = k := Fin.ext (by show (j 3).val / 128 = k.val; omega)
  have e4 : (ix4 0 0 (j 2) ⟨(j 3).val % 128, mod_lt (j 3)⟩ : S1x1x64x128.Idx) = x := by
    funext a
    match a with
    | ⟨0, _⟩ => exact Fin.ext (by show 0 = (x 0).val; omega)
    | ⟨1, _⟩ => exact Fin.ext (by show 0 = (x 1).val; omega)
    | ⟨2, _⟩ => exact Fin.ext h2
    | ⟨3, _⟩ => exact Fin.ext (by show (j 3).val % 128 = (x 3).val; omega)
  rw [e1, e2, e3, e4]

end Cert.KernelIdeal.Fill

end
-- ==== Proof.Phase1.lean ====
/-
  The first phase of a group of four heads: every trip gathers one tile's codes into the packed arrangement,
  takes the maximum of each block of sixteen and keeps a running maximum per head.
-/
module

public import proofs.«01_k».proof.Proof.Fill

@[expose] public section

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Spec Cert.KernelIdeal.Fill Cert.Own

variable {F : FTy → Type} [FloatOps F] [Named F]
variable {Ix Name U Lvl : Type} [DecidableEq Ix] [DecidableEq Name] [RA.URA U] [Preorder Lvl]
variable (𝒱 : Variants) (c : Dev nD) (bd : Option 𝒱.V) (E : Set Name)
variable (i : grid0.Coords) (arg2 : Memref sig .tc .smem S3x20 .i32) (harg2 : arg2.IsWhole) (arg3 : Memref sig .tc .hbm S75x32x112x128 .fp8e4m3) (harg3 : arg3.IsWhole) (arg4 : Memref sig .tc .hbm S75x32x112 .f32) (harg4 : arg4.IsWhole) (arg5 : Memref sig .tc .vmem S256x256 .fp8e4m3) (harg5 : arg5.IsWhole) (arg6 : Memref sig .tc .vmem S256x256 .fp8e4m3) (harg6 : arg6.IsWhole) (arg7 : Memref sig .tc .vmem S1x16x64x640 .i8) (harg7 : arg7.IsWhole) (arg8 : Memref sig .tc .vmem S1x16x8x640 .fp8e4m3) (harg8 : arg8.IsWhole) (arg9 : Memref sig .tc .vmem S3x112 .f32) (harg9 : arg9.IsWhole) (arg10 : Memref sig .tc .vmem S2x640x16x128 .fp8e4m3) (harg10 : arg10.IsWhole) (arg11 : Memref sig .tc .vmem S3x640x112 .f32) (harg11 : arg11.IsWhole) (arg12 : Memref sig .tc .vmem S5x112x128 .f32) (harg12 : arg12.IsWhole) (arg13 : Memref sig .tc .vmem S5x256x256 .fp8e4m3) (harg13 : arg13.IsWhole) (arg14 : Memref sig .tc .vmem S4x8x640 .f32) (harg14 : arg14.IsWhole) (arg15 : Memref sig .tc .vmem S4x8x640 .f32) (harg15 : arg15.IsWhole) (arg16 : DmaSems sig S2) (arg17 : DmaSems sig S_)
variable (B : Vec F S2x640x16x128 .fp8e4m3) (ST : Vec F S5x112x128 .f32) (P1 P2 : Vec F S256x256 .fp8e4m3)
variable (k7 : Fin k0_t7_loop.trips) (q5 q6 : PosShare TreeShare)

/-- The slot of gathered codes the grid step reads. -/
def slot (i : grid0.Coords) : Finset S2x640x16x128.Idx := Finset.univ.filter fun j => (j 0).val = (7 * (i 0).val + (i 1).val) % 2

theorem slot_sub (i : grid0.Coords) (k7 : Fin k0_t7_loop.trips) (k : Fin k0_t8_loop.trips) (a b : Fin 4) :
    (Rect.unit (s := S2x640x16x128) (k0_off20 i k7 k (BitVec.ofNat 32 (32 * a.val)) (BitVec.ofNat 32 b.val)) S1x32x1x128.size
      (k0_off20_inb i k7 k a b)).set ⊆ slot i := by
  intro j hj
  rw [mem4 (k0_off20_eq i k7 k a b)] at hj
  simp only [slot, Finset.mem_filter, Finset.mem_univ, true_and]
  omega

/-- The resources of the first phase. -/
abbrev res1 (k : ℕ) : sProp (MT nD τ sig Ix (Elt F) Name U Lvl) :=
  iprop(slotOwn (c : Thread nD τ) arg10 (slot i) B ∗ owns (c : Thread nD τ) arg5 q5 P1 ∗ owns (c : Thread nD τ) arg12 fullShare ST
    ∗ part (c : Thread nD τ) arg13 (D13 k) (XS i B k7) ∗ part (c : Thread nD τ) arg14 (D14 0 k) (BAM i B ST P1 k7))

/-- The running maxima before tile `k`. -/
abbrev accs (k : ℕ) : FVec F S8x128 .f32 × FVec F S8x128 .f32 × FVec F S8x128 .f32 × FVec F S8x128 .f32 :=
  (acc i B ST P1 k7 0 k, acc i B ST P1 k7 1 k, acc i B ST P1 k7 2 k, acc i B ST P1 k7 3 k)

set_option maxHeartbeats 4000000 in
/-- One tile. -/
theorem trip8 (arg0 arg1 v2 : BitVec 32) (v17 : IVec S1x112 32) (v18 : IVec S3x1 32) (c0 c1 arg18 : BitVec 32) (k : Fin k0_t8_loop.trips) :
    res1 (Ix := Ix) (Name := Name) (U := U) (Lvl := Lvl) c i arg5 arg10 arg12 arg13 arg14 B ST P1 k7 q5 k.val
      ⊢ wp frame (wpE (defs₀ (F := F)) 𝒱 (c : Thread nD τ) bd) E
          (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg0 arg1 v2 v17 v18 c0 c1 k7 arg18 k (accs i B ST P1 k7 k.val))
          (fun a => iprop(⌜a = accs i B ST P1 k7 (k.val + 1)⌝ ∗ res1 c i arg5 arg10 arg12 arg13 arg14 B ST P1 k7 q5 (k.val + 1))) := by
  iintro ⟨H10, H5, H12, H13, H14⟩
  unfold k0_t8_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [wp_bind, wp_pure]
  iapply (slot_load (defs := defs₀ (F := F)) 𝒱 (c : Thread nD τ) bd E
    (r := Rect.unit (s := S2x640x16x128) (k0_off20 i k7 k 0#32 0#32) S1x32x1x128.size (k0_off20_inb i k7 k 0 0))
    (slot_sub i k7 k 0 0)) $$ H10
  iintro H10
  iapply (slot_load (defs := defs₀ (F := F)) 𝒱 (c : Thread nD τ) bd E
    (r := Rect.unit (s := S2x640x16x128) (k0_off20 i k7 k 0#32 1#32) S1x32x1x128.size (k0_off20_inb i k7 k 0 1))
    (slot_sub i k7 k 0 1)) $$ H10
  iintro H10
  iapply (slot_load (defs := defs₀ (F := F)) 𝒱 (c : Thread nD τ) bd E
    (r := Rect.unit (s := S2x640x16x128) (k0_off20 i k7 k 0#32 2#32) S1x32x1x128.size (k0_off20_inb i k7 k 0 2))
    (slot_sub i k7 k 0 2)) $$ H10
  iintro H10
  iapply (slot_load (defs := defs₀ (F := F)) 𝒱 (c : Thread nD τ) bd E
    (r := Rect.unit (s := S2x640x16x128) (k0_off20 i k7 k 0#32 3#32) S1x32x1x128.size (k0_off20_inb i k7 k 0 3))
    (slot_sub i k7 k 0 3)) $$ H10
  iintro H10
  iapply (slot_load (defs := defs₀ (F := F)) 𝒱 (c : Thread nD τ) bd E
    (r := Rect.unit (s := S2x640x16x128) (k0_off20 i k7 k 32#32 0#32) S1x32x1x128.size (k0_off20_inb i k7 k 1 0))
    (slot_sub i k7 k 1 0)) $$ H10
  iintro H10
  imodintro
  iapply (slot_load (defs := defs₀ (F := F)) 𝒱 (c : Thread nD τ) bd E
    (r := Rect.unit (s := S2x640x16x128) (k0_off20 i k7 k 32#32 1#32) S1x32x1x128.size (k0_off20_inb i k7 k 1 1))
    (slot_sub i k7 k 1 1)) $$ H10
  iintro H10
  iapply (slot_load (defs := defs₀ (F := F)) 𝒱 (c : Thread nD τ) bd E
    (r := Rect.unit (s := S2x640x16x128) (k0_off20 i k7 k 32#32 2#32) S1x32x1x128.size (k0_off20_inb i k7 k 1 2))
    (slot_sub i k7 k 1 2)) $$ H10
  iintro H10
  iapply (slot_load (defs := defs₀ (F := F)) 𝒱 (c : Thread nD τ) bd E
    (r := Rect.unit (s := S2x640x16x128) (k0_off20 i k7 k 32#32 3#32) S1x32x1x128.size (k0_off20_inb i k7 k 1 3))
    (slot_sub i k7 k 1 3)) $$ H10
  iintro H10
  iapply (slot_load (defs := defs₀ (F := F)) 𝒱 (c : Thread nD τ) bd E
    (r := Rect.unit (s := S2x640x16x128) (k0_off20 i k7 k 64#32 0#32) S1x32x1x128.size (k0_off20_inb i k7 k 2 0))
    (slot_sub i k7 k 2 0)) $$ H10
  iintro H10
  iapply (slot_load (defs := defs₀ (F := F)) 𝒱 (c : Thread nD τ) bd E
    (r := Rect.unit (s := S2x640x16x128) (k0_off20 i k7 k 64#32 1#32) S1x32x1x128.size (k0_off20_inb i k7 k 2 1))
    (slot_sub i k7 k 2 1)) $$ H10
  iintro H10
  imodintro
  iapply (slot_load (defs := defs₀ (F := F)) 𝒱 (c : Thread nD τ) bd E
    (r := Rect.unit (s := S2x640x16x128) (k0_off20 i k7 k 64#32 2#32) S1x32x1x128.size (k0_off20_inb i k7 k 2 2))
    (slot_sub i k7 k 2 2)) $$ H10
  iintro H10
  iapply (slot_load (defs := defs₀ (F := F)) 𝒱 (c : Thread nD τ) bd E
    (r := Rect.unit (s := S2x640x16x128) (k0_off20 i k7 k 64#32 3#32) S1x32x1x128.size (k0_off20_inb i k7 k 2 3))
    (slot_sub i k7 k 2 3)) $$ H10
  iintro H10
  iapply (slot_load (defs := defs₀ (F := F)) 𝒱 (c : Thread nD τ) bd E
    (r := Rect.unit (s := S2x640x16x128) (k0_off20 i k7 k 96#32 0#32) S1x32x1x128.size (k0_off20_inb i k7 k 3 0))
    (slot_sub i k7 k 3 0)) $$ H10
  iintro H10
  iapply (slot_load (defs := defs₀ (F := F)) 𝒱 (c : Thread nD τ) bd E
    (r := Rect.unit (s := S2x640x16x128) (k0_off20 i k7 k 96#32 1#32) S1x32x1x128.size (k0_off20_inb i k7 k 3 1))
    (slot_sub i k7 k 3 1)) $$ H10
  iintro H10
  iapply (slot_load (defs := defs₀ (F := F)) 𝒱 (c : Thread nD τ) bd E
    (r := Rect.unit (s := S2x640x16x128) (k0_off20 i k7 k 96#32 2#32) S1x32x1x128.size (k0_off20_inb i k7 k 3 2))
    (slot_sub i k7 k 3 2)) $$ H10
  iintro H10
  iapply (slot_load (defs := defs₀ (F := F)) 𝒱 (c : Thread nD τ) bd E
    (r := Rect.unit (s := S2x640x16x128) (k0_off20 i k7 k 96#32 3#32) S1x32x1x128.size (k0_off20_inb i k7 k 3 3))
    (slot_sub i k7 k 3 3)) $$ H10
  iintro H10
  imodintro
  iapply (part_load (defs := defs₀ (F := F)) 𝒱 (c : Thread nD τ) bd E) $$ H13
  iintro %_ H13
  iapply (part_store (defs := defs₀ (F := F)) 𝒱 (c : Thread nD τ) bd E (D13 (k.val + 1)) ?_ ?_) $$ H13
  · intro x
    obtain ⟨h0, h1, h2⟩ := emb3 (k0_off21_eq k) x
    have l0 : (x 0).val < 1 := (x 0).isLt
    rw [XS_at i B k7 k x _ (by rw [h0]; omega) (by rw [h1]; omega) (by rw [h2]; omega)]
    simp only [xsT, c188, c218, c248, c278, c279, c280, c281]
  · intro j hj
    rw [mem3 (k0_off21_eq k)]
    have l1 : (j 1).val < 256 := (j 1).isLt
    have l2 : (j 2).val < 256 := (j 2).isLt
    simp only [D13] at hj ⊢
    omega
  iintro H13
  iapply (own_load (defs := defs₀ (F := F)) 𝒱 (c : Thread nD τ) bd E) $$ H5
  iintro H5
  rw [ld_whole]
  iapply (own_load (defs := defs₀ (F := F)) 𝒱 (c : Thread nD τ) bd E) $$ H12
  iintro H12
  iapply (part_load (defs := defs₀ (F := F)) 𝒱 (c : Thread nD τ) bd E) $$ H14
  iintro %_ H14
  iapply (part_store (defs := defs₀ (F := F)) 𝒱 (c : Thread nD τ) bd E (D14 1 k.val) ?_ ?_) $$ H14
  · intro x
    obtain ⟨h0, h1, h2⟩ := emb3 (k0_off23_eq k) x
    have l0 : (x 0).val < 1 := (x 0).isLt
    rw [BAM_at i B ST P1 k7 0 k x _ (by rw [h0]; simp; omega) (by rw [h1]; omega) (by rw [h2])]
    simp only [xsT, bamT, mxT, m317, c188, c218, c248, c278, c279, c280, c281]
  · intro j hj
    rw [mem3 (k0_off23_eq k)]
    have l1 : (j 1).val < 8 := (j 1).isLt
    simp only [D14] at hj ⊢
    omega
  iintro H14
  imodintro
  iapply (own_load (defs := defs₀ (F := F)) 𝒱 (c : Thread nD τ) bd E) $$ H12
  iintro H12
  iapply (part_load (defs := defs₀ (F := F)) 𝒱 (c : Thread nD τ) bd E) $$ H14
  iintro %_ H14
  iapply (part_store (defs := defs₀ (F := F)) 𝒱 (c : Thread nD τ) bd E (D14 2 k.val) ?_ ?_) $$ H14
  · intro x
    obtain ⟨h0, h1, h2⟩ := emb3 (k0_off24_eq k) x
    have l0 : (x 0).val < 1 := (x 0).isLt
    rw [BAM_at i B ST P1 k7 1 k x _ (by rw [h0]; simp; omega) (by rw [h1]; omega) (by rw [h2])]
    simp only [xsT, bamT, mxT, m317, c188, c218, c248, c278, c279, c280, c281]
  · intro j hj
    rw [mem3 (k0_off24_eq k)]
    have l1 : (j 1).val < 8 := (j 1).isLt
    simp only [D14] at hj ⊢
    omega
  iintro H14
  iapply (own_load (defs := defs₀ (F := F)) 𝒱 (c : Thread nD τ) bd E) $$ H12
  iintro H12
  iapply (part_load (defs := defs₀ (F := F)) 𝒱 (c : Thread nD τ) bd E) $$ H14
  iintro %_ H14
  iapply (part_store (defs := defs₀ (F := F)) 𝒱 (c : Thread nD τ) bd E (D14 3 k.val) ?_ ?_) $$ H14
  · intro x
    obtain ⟨h0, h1, h2⟩ := emb3 (k0_off25_eq k) x
    have l0 : (x 0).val < 1 := (x 0).isLt
    rw [BAM_at i B ST P1 k7 2 k x _ (by rw [h0]; simp; omega) (by rw [h1]; omega) (by rw [h2])]
    simp only [xsT, bamT, mxT, m317, c188, c218, c248, c278, c279, c280, c281]
  · intro j hj
    rw [mem3 (k0_off25_eq k)]
    have l1 : (j 1).val < 8 := (j 1).isLt
    simp only [D14] at hj ⊢
    omega
  iintro H14
  iapply (own_load (defs := defs₀ (F := F)) 𝒱 (c : Thread nD τ) bd E) $$ H12
  iintro H12
  imodintro
  iapply (part_load (defs := defs₀ (F := F)) 𝒱 (c : Thread nD τ) bd E) $$ H14
  iintro %_ H14
  iapply (part_store (defs := defs₀ (F := F)) 𝒱 (c : Thread nD τ) bd E (D14 4 k.val) ?_ ?_) $$ H14
  · intro x
    obtain ⟨h0, h1, h2⟩ := emb3 (k0_off26_eq k) x
    have l0 : (x 0).val < 1 := (x 0).isLt
    rw [BAM_at i B ST P1 k7 3 k x _ (by rw [h0]; simp; omega) (by rw [h1]; omega) (by rw [h2])]
    simp only [xsT, bamT, mxT, m317, c188, c218, c248, c278, c279, c280, c281]
  · intro j hj
    rw [mem3 (k0_off26_eq k)]
    have l1 : (j 1).val < 8 := (j 1).isLt
    simp only [D14] at hj ⊢
    omega
  iintro H14
  imodintro
  isplitr
  · ipureintro
    have hk : ∀ h, acc i B ST P1 k7 h (k.val + 1) = accT i B ST P1 k7 k (acc i B ST P1 k7 h k.val) h := fun h => by
      rw [acc, dif_pos k.isLt]
    simp only [accs, hk, accT, mxT, m317, c188, c218, c248, c278, c279, c280, c281]
  isplitl [H10]; · iexact H10
  isplitl [H5]; · iexact H5
  isplitl [H12]; · iexact H12
  isplitl [H13]; · iexact H13
  iapply (part_mono (D := D14 4 k.val) ?_) $$ H14
  intro j hj
  have l0 : (j 0).val < 4 := (j 0).isLt
  exact ⟨by simp only [D14] at hj ⊢; omega, rfl⟩

/-- All tiles: the running maxima, the regrouped codes and the block maxima of the group. -/
theorem loop8 (arg0 arg1 v2 : BitVec 32) (v17 : IVec S1x112 32) (v18 : IVec S3x1 32) (c0 c1 arg18 : BitVec 32)
    {Q : (FVec F S8x128 .f32 × FVec F S8x128 .f32 × FVec F S8x128 .f32 × FVec F S8x128 .f32) → sProp (MT nD τ sig Ix (Elt F) Name U Lvl)} :
    res1 c i arg5 arg10 arg12 arg13 arg14 B ST P1 k7 q5 0
      ⊢ iprop((slotOwn (c : Thread nD τ) arg10 (slot i) B ∗ owns (c : Thread nD τ) arg5 q5 P1 ∗ owns (c : Thread nD τ) arg12 fullShare ST
            ∗ owns (c : Thread nD τ) arg13 fullShare (XS i B k7) ∗ owns (c : Thread nD τ) arg14 fullShare (BAM i B ST P1 k7)
          -∗ Q (g0 i B ST P1 k7, g1 i B ST P1 k7, g2 i B ST P1 k7, g3 i B ST P1 k7))
        -∗ wp frame (wpE (defs₀ (F := F)) 𝒱 (c : Thread nD τ) bd) E
            (Scf.Loop.for k0_t8_loop k0_t8_ok (k0_pay93 (F := F), k0_pay94 (F := F), k0_pay95 (F := F), k0_pay96 (F := F))
              (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg0 arg1 v2 v17 v18 c0 c1 k7 arg18)) Q) := by
  iintro H HK
  unfold Scf.Loop.for
  iapply (Scf.wp_for frame (wpE (defs₀ (F := F)) 𝒱 (c : Thread nD τ) bd) E _ _ _ _ _ _
    (fun k a => iprop(⌜a = accs i B ST P1 k7 k⌝ ∗ res1 c i arg5 arg10 arg12 arg13 arg14 B ST P1 k7 q5 k)) (fun k a => by
      iintro ⟨%ha, H⟩
      subst ha
      iapply (trip8 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 k7 q5 arg0 arg1 v2 v17 v18 c0 c1 arg18 k) $$ H))
  isplitl [H]
  · isplitr
    · ipureintro; rfl
    · iexact H
  iintro %a ⟨%ha, H10, H5, H12, H13, H14⟩
  rw [ha, show accs i B ST P1 k7 (Scf.trips k0_t8_loop.lb k0_t8_loop.ub k0_t8_loop.st)
    = (g0 i B ST P1 k7, g1 i B ST P1 k7, g2 i B ST P1 k7, g3 i B ST P1 k7) from by unfold g0 g1 g2 g3; rfl]
  iapply HK
  isplitl [H10]; · iexact H10
  isplitl [H5]; · iexact H5
  isplitl [H12]; · iexact H12
  isplitl [H13]
  · iapply (part_full ?_) $$ H13
    intro j
    have l0 : (j 0).val < 5 := (j 0).isLt
    rw [show Scf.trips k0_t8_loop.lb k0_t8_loop.ub k0_t8_loop.st = 5 by decide]
    exact l0
  · iapply (part_full ?_) $$ H14
    intro j
    have l2 : (j 2).val < 640 := (j 2).isLt
    rw [show Scf.trips k0_t8_loop.lb k0_t8_loop.ub k0_t8_loop.st = 5 by decide]
    simp only [D14]
    omega

end Cert.KernelIdeal.Compute

end
-- ==== Proof.Phase2.lean ====
/-
  The phase of a grid step that turns block maxima into block scales and factors, one head at a time: every
  trip stores the scales and factors of one tile. The phase packs `k` tiles by filling the two buffers with
  the values `Spec.BS` and `Spec.RR`.
-/
module

public import proofs.«01_k».proof.Proof.Fill

@[expose] public section

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Spec Cert.KernelIdeal.Fill Cert.Own

variable {F : FTy → Type} [FloatOps F] [Named F]
variable {Ix Name U Lvl : Type} [DecidableEq Ix] [DecidableEq Name] [RA.URA U] [Preorder Lvl]
variable (𝒱 : Variants) (c : Dev nD) (bd : Option 𝒱.V) (E : Set Name)
variable (i : grid0.Coords) (arg2 : Memref sig .tc .smem S3x20 .i32) (harg2 : arg2.IsWhole) (arg3 : Memref sig .tc .hbm S75x32x112x128 .fp8e4m3) (harg3 : arg3.IsWhole) (arg4 : Memref sig .tc .hbm S75x32x112 .f32) (harg4 : arg4.IsWhole) (arg5 : Memref sig .tc .vmem S256x256 .fp8e4m3) (harg5 : arg5.IsWhole) (arg6 : Memref sig .tc .vmem S256x256 .fp8e4m3) (harg6 : arg6.IsWhole) (arg7 : Memref sig .tc .vmem S1x16x64x640 .i8) (harg7 : arg7.IsWhole) (arg8 : Memref sig .tc .vmem S1x16x8x640 .fp8e4m3) (harg8 : arg8.IsWhole) (arg9 : Memref sig .tc .vmem S3x112 .f32) (harg9 : arg9.IsWhole) (arg10 : Memref sig .tc .vmem S2x640x16x128 .fp8e4m3) (harg10 : arg10.IsWhole) (arg11 : Memref sig .tc .vmem S3x640x112 .f32) (harg11 : arg11.IsWhole) (arg12 : Memref sig .tc .vmem S5x112x128 .f32) (harg12 : arg12.IsWhole) (arg13 : Memref sig .tc .vmem S5x256x256 .fp8e4m3) (harg13 : arg13.IsWhole) (arg14 : Memref sig .tc .vmem S4x8x640 .f32) (harg14 : arg14.IsWhole) (arg15 : Memref sig .tc .vmem S4x8x640 .f32) (harg15 : arg15.IsWhole) (arg16 : DmaSems sig S2) (arg17 : DmaSems sig S_)
variable (B : Vec F S2x640x16x128 .fp8e4m3) (ST : Vec F S5x112x128 .f32) (P1 P2 : Vec F S256x256 .fp8e4m3)
variable (k7 : Fin k0_t7_loop.trips)

/-- The resources of the second phase of a group: the block maxima and the scales at their values, the block
    scales and the factors filled so far. -/
abbrev res2 (h k : ℕ) : sProp (MT nD τ sig Ix (Elt F) Name U Lvl) :=
  iprop(owns (c : Thread nD τ) arg14 fullShare (BAM i B ST P1 k7) ∗ owns (c : Thread nD τ) arg12 fullShare ST
    ∗ part (c : Thread nD τ) arg8 (D8 k7.val h k) (BS i B ST P1) ∗ part (c : Thread nD τ) arg15 (D15 h k) (RR i B ST P1 k7))

/-- One tile of head 0. -/
theorem trip9 (arg0 arg1 : BitVec 32) (v17 : IVec S1x112 32) (v18 : IVec S3x1 32) (arg18 : BitVec 32) (v25_1 : FVec F S8x128 .f32) (v27 : BitVec 32) (k : Fin k0_t9_loop.trips) :
    res2 (Ix := Ix) (Name := Name) (U := U) (Lvl := Lvl) c i arg8 arg12 arg14 arg15 B ST P1 k7 0 k.val
      ⊢ wp frame (wpE (defs₀ (F := F)) 𝒱 (c : Thread nD τ) bd) E (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg0 arg1 v17 v18 k7 arg18 v25_1 v27 (w37 i B ST P1 k7) (w56 i B ST P1 k7) k ())
          (fun _ => res2 c i arg8 arg12 arg14 arg15 B ST P1 k7 0 (k.val + 1)) := by
  iintro ⟨H14, H12, H8, H15⟩
  unfold k0_t9_body
  simp only [wp_bind, wp_pure]
  iapply (own_load (defs := defs₀ (F := F)) 𝒱 (c : Thread nD τ) bd E) $$ H14
  iintro H14
  iapply (part_load (defs := defs₀ (F := F)) 𝒱 (c : Thread nD τ) bd E) $$ H8
  iintro %v H8
  iapply (part_store (defs := defs₀ (F := F)) 𝒱 (c : Thread nD τ) bd E (D8 k7.val 0 (k.val + 1)) ?_ ?_) $$ H8
  · intro x
    obtain ⟨_, h1, h2, h3⟩ := emb4 (k0_off28_eq k7 k) x
    have l1 : (x 1).val < 1 := (x 1).isLt
    exact BS_at i B ST P1 k7 0 k x _ (by rw [h1]; simp; omega) (by rw [h2]; omega) (by rw [h3])
  · intro j hj
    rw [mem4 (k0_off28_eq k7 k)]
    have l2 := (j 2).isLt
    have l0 := (j 0).isLt
    simp only [D8] at hj ⊢
    simp at l0 l2
    omega
  iintro H8
  iapply (own_load (defs := defs₀ (F := F)) 𝒱 (c : Thread nD τ) bd E) $$ H12
  iintro H12
  iapply (part_load (defs := defs₀ (F := F)) 𝒱 (c : Thread nD τ) bd E) $$ H15
  iintro %v' H15
  iapply (part_store (defs := defs₀ (F := F)) 𝒱 (c : Thread nD τ) bd E (D15 0 (k.val + 1)) ?_ ?_) $$ H15
  · intro x
    obtain ⟨h0, h1, h2⟩ := emb3 (k0_off27_eq k) x
    have l0 : (x 0).val < 1 := (x 0).isLt
    exact RR_at i B ST P1 k7 0 k x _ (by rw [h0]; simp; omega) (by rw [h1]; omega) (by rw [h2])
  · intro j hj
    rw [mem3 (k0_off27_eq k)]
    have l1 := (j 1).isLt
    simp only [D15] at hj ⊢
    simp at l1
    omega
  iintro H15
  imodintro
  isplitl [H14]; · iexact H14
  isplitl [H12]; · iexact H12
  isplitl [H8]; · iexact H8
  iexact H15

/-- All tiles of head 0. -/
theorem loop9 (arg0 arg1 : BitVec 32) (v17 : IVec S1x112 32) (v18 : IVec S3x1 32) (arg18 : BitVec 32) (v25_1 : FVec F S8x128 .f32) (v27 : BitVec 32) {Q : Unit → sProp (MT nD τ sig Ix (Elt F) Name U Lvl)} :
    res2 c i arg8 arg12 arg14 arg15 B ST P1 k7 0 0
      ⊢ iprop((res2 c i arg8 arg12 arg14 arg15 B ST P1 k7 1 0 -∗ Q ())
        -∗ wp frame (wpE (defs₀ (F := F)) 𝒱 (c : Thread nD τ) bd) E
            (Scf.Loop.for k0_t9_loop k0_t9_ok () (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg0 arg1 v17 v18 k7 arg18 v25_1 v27 (w37 i B ST P1 k7) (w56 i B ST P1 k7))) Q) := by
  iintro H HK
  unfold Scf.Loop.for
  iapply (Scf.wp_for frame (wpE (defs₀ (F := F)) 𝒱 (c : Thread nD τ) bd) E _ _ _ _ _ _
    (fun k _ => res2 c i arg8 arg12 arg14 arg15 B ST P1 k7 0 k) (fun k _ => trip9 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 k7 arg0 arg1 v17 v18 arg18 v25_1 v27 k))
  isplitl [H]
  · iexact H
  iintro %a ⟨H14, H12, H8, H15⟩
  iapply HK
  isplitl [H14]; · iexact H14
  isplitl [H12]; · iexact H12
  isplitl [H8]
  · iapply (part_mono (D := D8 k7.val 0 (Scf.trips k0_t9_loop.lb k0_t9_loop.ub k0_t9_loop.st)) ?_) $$ H8
    intro j hj
    have l3 : (j 3).val < 640 := (j 3).isLt
    rw [show Scf.trips k0_t9_loop.lb k0_t9_loop.ub k0_t9_loop.st = 5 by decide]
    exact ⟨by simp only [D8] at hj ⊢; omega, rfl⟩
  · iapply (part_mono (D := D15 0 (Scf.trips k0_t9_loop.lb k0_t9_loop.ub k0_t9_loop.st)) ?_) $$ H15
    intro j hj
    have l2 : (j 2).val < 640 := (j 2).isLt
    rw [show Scf.trips k0_t9_loop.lb k0_t9_loop.ub k0_t9_loop.st = 5 by decide]
    exact ⟨by simp only [D15] at hj ⊢; omega, rfl⟩

/-- One tile of head 1. -/
theorem trip10 (arg0 arg1 : BitVec 32) (v17 : IVec S1x112 32) (v18 : IVec S3x1 32) (arg18 : BitVec 32) (v27 : BitVec 32) (v37 : FVec F S1x1 .f32) (v56 : FVec F S8x128 .f32) (k : Fin k0_t10_loop.trips) :
    res2 (Ix := Ix) (Name := Name) (U := U) (Lvl := Lvl) c i arg8 arg12 arg14 arg15 B ST P1 k7 1 k.val
      ⊢ wp frame (wpE (defs₀ (F := F)) 𝒱 (c : Thread nD τ) bd) E (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg0 arg1 v17 v18 k7 arg18 (g1 i B ST P1 k7) v27 v37 v56 k ())
          (fun _ => res2 c i arg8 arg12 arg14 arg15 B ST P1 k7 1 (k.val + 1)) := by
  iintro ⟨H14, H12, H8, H15⟩
  unfold k0_t10_body
  simp only [wp_bind, wp_pure]
  iapply (own_load (defs := defs₀ (F := F)) 𝒱 (c : Thread nD τ) bd E) $$ H14
  iintro H14
  iapply (part_load (defs := defs₀ (F := F)) 𝒱 (c : Thread nD τ) bd E) $$ H8
  iintro %v H8
  iapply (part_store (defs := defs₀ (F := F)) 𝒱 (c : Thread nD τ) bd E (D8 k7.val 1 (k.val + 1)) ?_ ?_) $$ H8
  · intro x
    obtain ⟨_, h1, h2, h3⟩ := emb4 (k0_off31_eq k7 k) x
    have l1 : (x 1).val < 1 := (x 1).isLt
    exact BS_at i B ST P1 k7 1 k x _ (by rw [h1]; simp; omega) (by rw [h2]; omega) (by rw [h3])
  · intro j hj
    rw [mem4 (k0_off31_eq k7 k)]
    have l2 := (j 2).isLt
    have l0 := (j 0).isLt
    simp only [D8] at hj ⊢
    simp at l0 l2
    omega
  iintro H8
  iapply (own_load (defs := defs₀ (F := F)) 𝒱 (c : Thread nD τ) bd E) $$ H12
  iintro H12
  iapply (part_load (defs := defs₀ (F := F)) 𝒱 (c : Thread nD τ) bd E) $$ H15
  iintro %v' H15
  iapply (part_store (defs := defs₀ (F := F)) 𝒱 (c : Thread nD τ) bd E (D15 1 (k.val + 1)) ?_ ?_) $$ H15
  · intro x
    obtain ⟨h0, h1, h2⟩ := emb3 (k0_off30_eq k) x
    have l0 : (x 0).val < 1 := (x 0).isLt
    exact RR_at i B ST P1 k7 1 k x _ (by rw [h0]; simp; omega) (by rw [h1]; omega) (by rw [h2])
  · intro j hj
    rw [mem3 (k0_off30_eq k)]
    have l1 := (j 1).isLt
    simp only [D15] at hj ⊢
    simp at l1
    omega
  iintro H15
  imodintro
  isplitl [H14]; · iexact H14
  isplitl [H12]; · iexact H12
  isplitl [H8]; · iexact H8
  iexact H15

/-- All tiles of head 1. -/
theorem loop10 (arg0 arg1 : BitVec 32) (v17 : IVec S1x112 32) (v18 : IVec S3x1 32) (arg18 : BitVec 32) (v27 : BitVec 32) (v37 : FVec F S1x1 .f32) (v56 : FVec F S8x128 .f32) {Q : Unit → sProp (MT nD τ sig Ix (Elt F) Name U Lvl)} :
    res2 c i arg8 arg12 arg14 arg15 B ST P1 k7 1 0
      ⊢ iprop((res2 c i arg8 arg12 arg14 arg15 B ST P1 k7 2 0 -∗ Q ())
        -∗ wp frame (wpE (defs₀ (F := F)) 𝒱 (c : Thread nD τ) bd) E
            (Scf.Loop.for k0_t10_loop k0_t10_ok () (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg0 arg1 v17 v18 k7 arg18 (g1 i B ST P1 k7) v27 v37 v56)) Q) := by
  iintro H HK
  unfold Scf.Loop.for
  iapply (Scf.wp_for frame (wpE (defs₀ (F := F)) 𝒱 (c : Thread nD τ) bd) E _ _ _ _ _ _
    (fun k _ => res2 c i arg8 arg12 arg14 arg15 B ST P1 k7 1 k) (fun k _ => trip10 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 k7 arg0 arg1 v17 v18 arg18 v27 v37 v56 k))
  isplitl [H]
  · iexact H
  iintro %a ⟨H14, H12, H8, H15⟩
  iapply HK
  isplitl [H14]; · iexact H14
  isplitl [H12]; · iexact H12
  isplitl [H8]
  · iapply (part_mono (D := D8 k7.val 1 (Scf.trips k0_t10_loop.lb k0_t10_loop.ub k0_t10_loop.st)) ?_) $$ H8
    intro j hj
    have l3 : (j 3).val < 640 := (j 3).isLt
    rw [show Scf.trips k0_t10_loop.lb k0_t10_loop.ub k0_t10_loop.st = 5 by decide]
    exact ⟨by simp only [D8] at hj ⊢; omega, rfl⟩
  · iapply (part_mono (D := D15 1 (Scf.trips k0_t10_loop.lb k0_t10_loop.ub k0_t10_loop.st)) ?_) $$ H15
    intro j hj
    have l2 : (j 2).val < 640 := (j 2).isLt
    rw [show Scf.trips k0_t10_loop.lb k0_t10_loop.ub k0_t10_loop.st = 5 by decide]
    exact ⟨by simp only [D15] at hj ⊢; omega, rfl⟩

/-- One tile of head 2. -/
theorem trip11 (arg0 arg1 : BitVec 32) (v17 : IVec S1x112 32) (v18 : IVec S3x1 32) (arg18 : BitVec 32) (v25_3 : FVec F S8x128 .f32) (c4 : BitVec 32) (k : Fin k0_t11_loop.trips) :
    res2 (Ix := Ix) (Name := Name) (U := U) (Lvl := Lvl) c i arg8 arg12 arg14 arg15 B ST P1 k7 2 k.val
      ⊢ wp frame (wpE (defs₀ (F := F)) 𝒱 (c : Thread nD τ) bd) E (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg0 arg1 v17 v18 k7 arg18 (g2 i B ST P1 k7) v25_3 c4 k ())
          (fun _ => res2 c i arg8 arg12 arg14 arg15 B ST P1 k7 2 (k.val + 1)) := by
  iintro ⟨H14, H12, H8, H15⟩
  unfold k0_t11_body
  simp only [wp_bind, wp_pure]
  iapply (own_load (defs := defs₀ (F := F)) 𝒱 (c : Thread nD τ) bd E) $$ H14
  iintro H14
  iapply (part_load (defs := defs₀ (F := F)) 𝒱 (c : Thread nD τ) bd E) $$ H8
  iintro %v H8
  iapply (part_store (defs := defs₀ (F := F)) 𝒱 (c : Thread nD τ) bd E (D8 k7.val 2 (k.val + 1)) ?_ ?_) $$ H8
  · intro x
    obtain ⟨_, h1, h2, h3⟩ := emb4 (k0_off34_eq k7 k) x
    have l1 : (x 1).val < 1 := (x 1).isLt
    exact BS_at i B ST P1 k7 2 k x _ (by rw [h1]; simp; omega) (by rw [h2]; omega) (by rw [h3])
  · intro j hj
    rw [mem4 (k0_off34_eq k7 k)]
    have l2 := (j 2).isLt
    have l0 := (j 0).isLt
    simp only [D8] at hj ⊢
    simp at l0 l2
    omega
  iintro H8
  iapply (own_load (defs := defs₀ (F := F)) 𝒱 (c : Thread nD τ) bd E) $$ H12
  iintro H12
  iapply (part_load (defs := defs₀ (F := F)) 𝒱 (c : Thread nD τ) bd E) $$ H15
  iintro %v' H15
  iapply (part_store (defs := defs₀ (F := F)) 𝒱 (c : Thread nD τ) bd E (D15 2 (k.val + 1)) ?_ ?_) $$ H15
  · intro x
    obtain ⟨h0, h1, h2⟩ := emb3 (k0_off33_eq k) x
    have l0 : (x 0).val < 1 := (x 0).isLt
    exact RR_at i B ST P1 k7 2 k x _ (by rw [h0]; simp; omega) (by rw [h1]; omega) (by rw [h2])
  · intro j hj
    rw [mem3 (k0_off33_eq k)]
    have l1 := (j 1).isLt
    simp only [D15] at hj ⊢
    simp at l1
    omega
  iintro H15
  imodintro
  isplitl [H14]; · iexact H14
  isplitl [H12]; · iexact H12
  isplitl [H8]; · iexact H8
  iexact H15

/-- All tiles of head 2. -/
theorem loop11 (arg0 arg1 : BitVec 32) (v17 : IVec S1x112 32) (v18 : IVec S3x1 32) (arg18 : BitVec 32) (v25_3 : FVec F S8x128 .f32) (c4 : BitVec 32) {Q : Unit → sProp (MT nD τ sig Ix (Elt F) Name U Lvl)} :
    res2 c i arg8 arg12 arg14 arg15 B ST P1 k7 2 0
      ⊢ iprop((res2 c i arg8 arg12 arg14 arg15 B ST P1 k7 3 0 -∗ Q ())
        -∗ wp frame (wpE (defs₀ (F := F)) 𝒱 (c : Thread nD τ) bd) E
            (Scf.Loop.for k0_t11_loop k0_t11_ok () (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg0 arg1 v17 v18 k7 arg18 (g2 i B ST P1 k7) v25_3 c4)) Q) := by
  iintro H HK
  unfold Scf.Loop.for
  iapply (Scf.wp_for frame (wpE (defs₀ (F := F)) 𝒱 (c : Thread nD τ) bd) E _ _ _ _ _ _
    (fun k _ => res2 c i arg8 arg12 arg14 arg15 B ST P1 k7 2 k) (fun k _ => trip11 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 k7 arg0 arg1 v17 v18 arg18 v25_3 c4 k))
  isplitl [H]
  · iexact H
  iintro %a ⟨H14, H12, H8, H15⟩
  iapply HK
  isplitl [H14]; · iexact H14
  isplitl [H12]; · iexact H12
  isplitl [H8]
  · iapply (part_mono (D := D8 k7.val 2 (Scf.trips k0_t11_loop.lb k0_t11_loop.ub k0_t11_loop.st)) ?_) $$ H8
    intro j hj
    have l3 : (j 3).val < 640 := (j 3).isLt
    rw [show Scf.trips k0_t11_loop.lb k0_t11_loop.ub k0_t11_loop.st = 5 by decide]
    exact ⟨by simp only [D8] at hj ⊢; omega, rfl⟩
  · iapply (part_mono (D := D15 2 (Scf.trips k0_t11_loop.lb k0_t11_loop.ub k0_t11_loop.st)) ?_) $$ H15
    intro j hj
    have l2 : (j 2).val < 640 := (j 2).isLt
    rw [show Scf.trips k0_t11_loop.lb k0_t11_loop.ub k0_t11_loop.st = 5 by decide]
    exact ⟨by simp only [D15] at hj ⊢; omega, rfl⟩

/-- One tile of head 3. -/
theorem trip12  (k : Fin k0_t12_loop.trips) :
    res2 (Ix := Ix) (Name := Name) (U := U) (Lvl := Lvl) c i arg8 arg12 arg14 arg15 B ST P1 k7 3 k.val
      ⊢ wp frame (wpE (defs₀ (F := F)) 𝒱 (c : Thread nD τ) bd) E (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 k7 (w129 i B ST P1 k7) k ())
          (fun _ => res2 c i arg8 arg12 arg14 arg15 B ST P1 k7 3 (k.val + 1)) := by
  iintro ⟨H14, H12, H8, H15⟩
  unfold k0_t12_body
  simp only [wp_bind, wp_pure]
  iapply (own_load (defs := defs₀ (F := F)) 𝒱 (c : Thread nD τ) bd E) $$ H14
  iintro H14
  iapply (part_load (defs := defs₀ (F := F)) 𝒱 (c : Thread nD τ) bd E) $$ H8
  iintro %v H8
  iapply (part_store (defs := defs₀ (F := F)) 𝒱 (c : Thread nD τ) bd E (D8 k7.val 3 (k.val + 1)) ?_ ?_) $$ H8
  · intro x
    obtain ⟨_, h1, h2, h3⟩ := emb4 (k0_off37_eq k7 k) x
    have l1 : (x 1).val < 1 := (x 1).isLt
    exact BS_at i B ST P1 k7 3 k x _ (by rw [h1]; simp; omega) (by rw [h2]; omega) (by rw [h3])
  · intro j hj
    rw [mem4 (k0_off37_eq k7 k)]
    have l2 := (j 2).isLt
    have l0 := (j 0).isLt
    simp only [D8] at hj ⊢
    simp at l0 l2
    omega
  iintro H8
  iapply (own_load (defs := defs₀ (F := F)) 𝒱 (c : Thread nD τ) bd E) $$ H12
  iintro H12
  iapply (part_load (defs := defs₀ (F := F)) 𝒱 (c : Thread nD τ) bd E) $$ H15
  iintro %v' H15
  iapply (part_store (defs := defs₀ (F := F)) 𝒱 (c : Thread nD τ) bd E (D15 3 (k.val + 1)) ?_ ?_) $$ H15
  · intro x
    obtain ⟨h0, h1, h2⟩ := emb3 (k0_off36_eq k) x
    have l0 : (x 0).val < 1 := (x 0).isLt
    exact RR_at i B ST P1 k7 3 k x _ (by rw [h0]; simp; omega) (by rw [h1]; omega) (by rw [h2])
  · intro j hj
    rw [mem3 (k0_off36_eq k)]
    have l1 := (j 1).isLt
    simp only [D15] at hj ⊢
    simp at l1
    omega
  iintro H15
  imodintro
  isplitl [H14]; · iexact H14
  isplitl [H12]; · iexact H12
  isplitl [H8]; · iexact H8
  iexact H15

/-- All tiles of head 3. -/
theorem loop12  {Q : Unit → sProp (MT nD τ sig Ix (Elt F) Name U Lvl)} :
    res2 c i arg8 arg12 arg14 arg15 B ST P1 k7 3 0
      ⊢ iprop((res2 c i arg8 arg12 arg14 arg15 B ST P1 k7 4 0 -∗ Q ())
        -∗ wp frame (wpE (defs₀ (F := F)) 𝒱 (c : Thread nD τ) bd) E
            (Scf.Loop.for k0_t12_loop k0_t12_ok () (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 k7 (w129 i B ST P1 k7))) Q) := by
  iintro H HK
  unfold Scf.Loop.for
  iapply (Scf.wp_for frame (wpE (defs₀ (F := F)) 𝒱 (c : Thread nD τ) bd) E _ _ _ _ _ _
    (fun k _ => res2 c i arg8 arg12 arg14 arg15 B ST P1 k7 3 k) (fun k _ => trip12 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 k7  k))
  isplitl [H]
  · iexact H
  iintro %a ⟨H14, H12, H8, H15⟩
  iapply HK
  isplitl [H14]; · iexact H14
  isplitl [H12]; · iexact H12
  isplitl [H8]
  · iapply (part_mono (D := D8 k7.val 3 (Scf.trips k0_t12_loop.lb k0_t12_loop.ub k0_t12_loop.st)) ?_) $$ H8
    intro j hj
    have l3 : (j 3).val < 640 := (j 3).isLt
    rw [show Scf.trips k0_t12_loop.lb k0_t12_loop.ub k0_t12_loop.st = 5 by decide]
    exact ⟨by simp only [D8] at hj ⊢; omega, rfl⟩
  · iapply (part_mono (D := D15 3 (Scf.trips k0_t12_loop.lb k0_t12_loop.ub k0_t12_loop.st)) ?_) $$ H15
    intro j hj
    have l2 : (j 2).val < 640 := (j 2).isLt
    rw [show Scf.trips k0_t12_loop.lb k0_t12_loop.ub k0_t12_loop.st = 5 by decide]
    exact ⟨by simp only [D15] at hj ⊢; omega, rfl⟩

end Cert.KernelIdeal.Compute

end
-- ==== Proof.Phase3.lean ====
/-
  The third phase of a group of four heads: every trip rounds one tile's quotients to four-bit codes and packs
  them into bytes.
-/
module

public import proofs.«01_k».proof.Proof.Fill

@[expose] public section

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Spec Cert.KernelIdeal.Fill Cert.Own

variable {F : FTy → Type} [FloatOps F] [Named F]
variable {Ix Name U Lvl : Type} [DecidableEq Ix] [DecidableEq Name] [RA.URA U] [Preorder Lvl]
variable (𝒱 : Variants) (c : Dev nD) (bd : Option 𝒱.V) (E : Set Name)
variable (i : grid0.Coords) (arg2 : Memref sig .tc .smem S3x20 .i32) (harg2 : arg2.IsWhole) (arg3 : Memref sig .tc .hbm S75x32x112x128 .fp8e4m3) (harg3 : arg3.IsWhole) (arg4 : Memref sig .tc .hbm S75x32x112 .f32) (harg4 : arg4.IsWhole) (arg5 : Memref sig .tc .vmem S256x256 .fp8e4m3) (harg5 : arg5.IsWhole) (arg6 : Memref sig .tc .vmem S256x256 .fp8e4m3) (harg6 : arg6.IsWhole) (arg7 : Memref sig .tc .vmem S1x16x64x640 .i8) (harg7 : arg7.IsWhole) (arg8 : Memref sig .tc .vmem S1x16x8x640 .fp8e4m3) (harg8 : arg8.IsWhole) (arg9 : Memref sig .tc .vmem S3x112 .f32) (harg9 : arg9.IsWhole) (arg10 : Memref sig .tc .vmem S2x640x16x128 .fp8e4m3) (harg10 : arg10.IsWhole) (arg11 : Memref sig .tc .vmem S3x640x112 .f32) (harg11 : arg11.IsWhole) (arg12 : Memref sig .tc .vmem S5x112x128 .f32) (harg12 : arg12.IsWhole) (arg13 : Memref sig .tc .vmem S5x256x256 .fp8e4m3) (harg13 : arg13.IsWhole) (arg14 : Memref sig .tc .vmem S4x8x640 .f32) (harg14 : arg14.IsWhole) (arg15 : Memref sig .tc .vmem S4x8x640 .f32) (harg15 : arg15.IsWhole) (arg16 : DmaSems sig S2) (arg17 : DmaSems sig S_)
variable (B : Vec F S2x640x16x128 .fp8e4m3) (ST : Vec F S5x112x128 .f32) (P1 P2 : Vec F S256x256 .fp8e4m3)
variable (k7 : Fin k0_t7_loop.trips) (q5 q6 : PosShare TreeShare)

/-- The resources of the third phase. -/
abbrev res3 (k : ℕ) : sProp (MT nD τ sig Ix (Elt F) Name U Lvl) :=
  iprop(owns (c : Thread nD τ) arg6 q6 P2 ∗ owns (c : Thread nD τ) arg13 fullShare (XS i B k7)
    ∗ owns (c : Thread nD τ) arg15 fullShare (RR i B ST P1 k7) ∗ part (c : Thread nD τ) arg7 (D7 k7.val 0 k) (COD i B ST P1 P2))

set_option maxHeartbeats 4000000 in
/-- One tile. -/
theorem trip13 (arg18 : BitVec 32) (k : Fin k0_t13_loop.trips) :
    res3 (Ix := Ix) (Name := Name) (U := U) (Lvl := Lvl) c i arg6 arg7 arg13 arg15 B ST P1 P2 k7 q6 k.val
      ⊢ wp frame (wpE (defs₀ (F := F)) 𝒱 (c : Thread nD τ) bd) E (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 k7 arg18 k ())
          (fun _ => res3 c i arg6 arg7 arg13 arg15 B ST P1 P2 k7 q6 (k.val + 1)) := by
  iintro ⟨H6, H13, H15, H7⟩
  unfold k0_t13_body
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part6_skel k0_part7_skel k0_part8_skel k0_part9_skel k0_part10_skel k0_part11_skel k0_part12_skel k0_part13_skel k0_part14_skel k0_part15_skel k0_part16_skel k0_part17_skel k0_part18_skel
  simp only [wp_bind, wp_pure]
  iapply (own_load (defs := defs₀ (F := F)) 𝒱 (c : Thread nD τ) bd E) $$ H13
  iintro H13
  iapply (own_load (defs := defs₀ (F := F)) 𝒱 (c : Thread nD τ) bd E) $$ H6
  iintro H6
  rw [ld_whole]
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  imodintro
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  imodintro
  imodintro
  iapply (part_load (defs := defs₀ (F := F)) 𝒱 (c : Thread nD τ) bd E) $$ H7
  iintro %_ H7
  iapply (part_store (defs := defs₀ (F := F)) 𝒱 (c : Thread nD τ) bd E (D7 k7.val 1 k.val) ?_ ?_) $$ H7
  · intro x
    obtain ⟨_, h1, h2, h3⟩ := emb4 (show k0_off48 k7 k 0#32 = _ from k0_off48_eq k7 k 0) x
    have l1 : (x 1).val < 1 := (x 1).isLt
    rw [COD_at i B ST P1 P2 k7 0 k x _ (by rw [h1]; simp; omega) (by rw [h2]; omega) (by rw [h3])]
    simp only [codT, codA, codB, codC, codD, xpT]
  · intro j hj
    rw [mem4 (show k0_off48 k7 k 0#32 = _ from k0_off48_eq k7 k 0)]
    have l2 : (j 2).val < 64 := (j 2).isLt
    have l0 : (j 0).val < 1 := (j 0).isLt
    have e : ((0 : Fin 4)).val = 0 := rfl
    rw [e]
    simp only [D7] at hj ⊢
    omega
  iintro H7
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  imodintro
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  imodintro
  imodintro
  iapply (part_load (defs := defs₀ (F := F)) 𝒱 (c : Thread nD τ) bd E) $$ H7
  iintro %_ H7
  iapply (part_store (defs := defs₀ (F := F)) 𝒱 (c : Thread nD τ) bd E (D7 k7.val 2 k.val) ?_ ?_) $$ H7
  · intro x
    obtain ⟨_, h1, h2, h3⟩ := emb4 (show k0_off48 k7 k 1#32 = _ from k0_off48_eq k7 k 1) x
    have l1 : (x 1).val < 1 := (x 1).isLt
    rw [COD_at i B ST P1 P2 k7 1 k x _ (by rw [h1]; simp; omega) (by rw [h2]; omega) (by rw [h3])]
    simp only [codT, codA, codB, codC, codD, xpT]
  · intro j hj
    rw [mem4 (show k0_off48 k7 k 1#32 = _ from k0_off48_eq k7 k 1)]
    have l2 : (j 2).val < 64 := (j 2).isLt
    have l0 : (j 0).val < 1 := (j 0).isLt
    have e : ((1 : Fin 4)).val = 1 := rfl
    rw [e]
    simp only [D7] at hj ⊢
    omega
  iintro H7
  iapply (own_load (defs := defs₀ (F := F)) 𝒱 (c : Thread nD τ) bd E) $$ H15
  iintro H15
  iapply (own_load (defs := defs₀ (F := F)) 𝒱 (c : Thread nD τ) bd E) $$ H15
  iintro H15
  imodintro
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  imodintro
  imodintro
  iapply (part_load (defs := defs₀ (F := F)) 𝒱 (c : Thread nD τ) bd E) $$ H7
  iintro %_ H7
  iapply (part_store (defs := defs₀ (F := F)) 𝒱 (c : Thread nD τ) bd E (D7 k7.val 3 k.val) ?_ ?_) $$ H7
  · intro x
    obtain ⟨_, h1, h2, h3⟩ := emb4 (show k0_off48 k7 k 2#32 = _ from k0_off48_eq k7 k 2) x
    have l1 : (x 1).val < 1 := (x 1).isLt
    rw [COD_at i B ST P1 P2 k7 2 k x _ (by rw [h1]; simp; omega) (by rw [h2]; omega) (by rw [h3])]
    simp only [codT, codA, codB, codC, codD, xpT]
  · intro j hj
    rw [mem4 (show k0_off48 k7 k 2#32 = _ from k0_off48_eq k7 k 2)]
    have l2 : (j 2).val < 64 := (j 2).isLt
    have l0 : (j 0).val < 1 := (j 0).isLt
    have e : ((2 : Fin 4)).val = 2 := rfl
    rw [e]
    simp only [D7] at hj ⊢
    omega
  iintro H7
  imodintro
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  iapply (own_load (defs := defs₀ (F := F)) 𝒱 (c : Thread nD τ) bd E) $$ H15
  iintro H15
  imodintro
  iapply (own_load (defs := defs₀ (F := F)) 𝒱 (c : Thread nD τ) bd E) $$ H15
  iintro H15
  imodintro
  imodintro
  iapply (part_load (defs := defs₀ (F := F)) 𝒱 (c : Thread nD τ) bd E) $$ H7
  iintro %_ H7
  iapply (part_store (defs := defs₀ (F := F)) 𝒱 (c : Thread nD τ) bd E (D7 k7.val 4 k.val) ?_ ?_) $$ H7
  · intro x
    obtain ⟨_, h1, h2, h3⟩ := emb4 (show k0_off48 k7 k 3#32 = _ from k0_off48_eq k7 k 3) x
    have l1 : (x 1).val < 1 := (x 1).isLt
    rw [COD_at i B ST P1 P2 k7 3 k x _ (by rw [h1]; simp; omega) (by rw [h2]; omega) (by rw [h3])]
    simp only [codT, codA, codB, codC, codD, xpT]
  · intro j hj
    rw [mem4 (show k0_off48 k7 k 3#32 = _ from k0_off48_eq k7 k 3)]
    have l2 : (j 2).val < 64 := (j 2).isLt
    have l0 : (j 0).val < 1 := (j 0).isLt
    have e : ((3 : Fin 4)).val = 3 := rfl
    rw [e]
    simp only [D7] at hj ⊢
    omega
  iintro H7
  imodintro
  isplitl [H6]; · iexact H6
  isplitl [H13]; · iexact H13
  isplitl [H15]; · iexact H15
  iapply (part_mono (D := D7 k7.val 4 k.val) ?_) $$ H7
  intro j hj
  exact ⟨by simp only [D7] at hj ⊢; omega, rfl⟩

/-- All tiles. -/
theorem loop13 (arg18 : BitVec 32) {Q : Unit → sProp (MT nD τ sig Ix (Elt F) Name U Lvl)} :
    res3 c i arg6 arg7 arg13 arg15 B ST P1 P2 k7 q6 0
      ⊢ iprop((owns (c : Thread nD τ) arg6 q6 P2 ∗ owns (c : Thread nD τ) arg13 fullShare (XS i B k7)
            ∗ owns (c : Thread nD τ) arg15 fullShare (RR i B ST P1 k7)
            ∗ part (c : Thread nD τ) arg7 (D7 (k7.val + 1) 0 0) (COD i B ST P1 P2) -∗ Q ())
        -∗ wp frame (wpE (defs₀ (F := F)) 𝒱 (c : Thread nD τ) bd) E
            (Scf.Loop.for k0_t13_loop k0_t13_ok () (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 k7 arg18)) Q) := by
  iintro H HK
  unfold Scf.Loop.for
  iapply (Scf.wp_for frame (wpE (defs₀ (F := F)) 𝒱 (c : Thread nD τ) bd) E _ _ _ _ _ _
    (fun k _ => res3 c i arg6 arg7 arg13 arg15 B ST P1 P2 k7 q6 k) (fun k _ => trip13 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 P2 k7 q6 arg18 k))
  isplitl [H]
  · iexact H
  iintro %a ⟨H6, H13, H15, H7⟩
  iapply HK
  isplitl [H6]; · iexact H6
  isplitl [H13]; · iexact H13
  isplitl [H15]; · iexact H15
  iapply (part_mono (D := D7 k7.val 0 (Scf.trips k0_t13_loop.lb k0_t13_loop.ub k0_t13_loop.st)) ?_) $$ H7
  intro j hj
  have l3 : (j 3).val < 640 := (j 3).isLt
  rw [show Scf.trips k0_t13_loop.lb k0_t13_loop.ub k0_t13_loop.st = 5 by decide]
  exact ⟨by simp only [D7] at hj ⊢; omega, rfl⟩

end Cert.KernelIdeal.Compute

end
-- ==== Proof.Group.lean ====
/-
  A group of four heads, and all groups: the packed bytes, the block scales and the per-head scale array of a
  grid step, from the gathered codes and the transposed scales.
-/
module

public import proofs.«01_k».proof.Proof.Phase1
public import proofs.«01_k».proof.Proof.Phase2
public import proofs.«01_k».proof.Proof.Phase3

@[expose] public section

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Spec Cert.KernelIdeal.Fill Cert.Own

variable {F : FTy → Type} [FloatOps F] [Named F]
variable {Ix Name U Lvl : Type} [DecidableEq Ix] [DecidableEq Name] [RA.URA U] [Preorder Lvl]
variable (𝒱 : Variants) (c : Dev nD) (bd : Option 𝒱.V) (E : Set Name)
variable (i : grid0.Coords) (arg2 : Memref sig .tc .smem S3x20 .i32) (harg2 : arg2.IsWhole) (arg3 : Memref sig .tc .hbm S75x32x112x128 .fp8e4m3) (harg3 : arg3.IsWhole) (arg4 : Memref sig .tc .hbm S75x32x112 .f32) (harg4 : arg4.IsWhole) (arg5 : Memref sig .tc .vmem S256x256 .fp8e4m3) (harg5 : arg5.IsWhole) (arg6 : Memref sig .tc .vmem S256x256 .fp8e4m3) (harg6 : arg6.IsWhole) (arg7 : Memref sig .tc .vmem S1x16x64x640 .i8) (harg7 : arg7.IsWhole) (arg8 : Memref sig .tc .vmem S1x16x8x640 .fp8e4m3) (harg8 : arg8.IsWhole) (arg9 : Memref sig .tc .vmem S3x112 .f32) (harg9 : arg9.IsWhole) (arg10 : Memref sig .tc .vmem S2x640x16x128 .fp8e4m3) (harg10 : arg10.IsWhole) (arg11 : Memref sig .tc .vmem S3x640x112 .f32) (harg11 : arg11.IsWhole) (arg12 : Memref sig .tc .vmem S5x112x128 .f32) (harg12 : arg12.IsWhole) (arg13 : Memref sig .tc .vmem S5x256x256 .fp8e4m3) (harg13 : arg13.IsWhole) (arg14 : Memref sig .tc .vmem S4x8x640 .f32) (harg14 : arg14.IsWhole) (arg15 : Memref sig .tc .vmem S4x8x640 .f32) (harg15 : arg15.IsWhole) (arg16 : DmaSems sig S2) (arg17 : DmaSems sig S_)
variable (B : Vec F S2x640x16x128 .fp8e4m3) (ST : Vec F S5x112x128 .f32) (P1 P2 : Vec F S256x256 .fp8e4m3)
variable (q5 q6 : PosShare TreeShare)

/-- A memref owned at some value. -/
abbrev any {s : Shape} {e : EltTy} (c : Dev nD) (m : Memref sig .tc .vmem s e) : sProp (MT nD τ sig Ix (Elt F) Name U Lvl) :=
  iprop(∃ X, owns (c : Thread nD τ) m fullShare X)

/-- The resources between groups. -/
abbrev res7 (Y : Vec F S3x112 .f32) (g : ℕ) : sProp (MT nD τ sig Ix (Elt F) Name U Lvl) :=
  iprop(slotOwn (c : Thread nD τ) arg10 (slot i) B ∗ owns (c : Thread nD τ) arg5 q5 P1 ∗ owns (c : Thread nD τ) arg6 q6 P2
    ∗ owns (c : Thread nD τ) arg12 fullShare ST ∗ any c arg13 ∗ any c arg14 ∗ any c arg15
    ∗ part (c : Thread nD τ) arg7 (D7 g 0 0) (COD i B ST P1 P2) ∗ part (c : Thread nD τ) arg8 (D8 g 0 0) (BS i B ST P1)
    ∗ owns (c : Thread nD τ) arg9 fullShare (gIt i B ST P1 Y g))

set_option maxHeartbeats 4000000 in
/-- One group. -/
theorem trip7 (Y : Vec F S3x112 .f32) (v2 : BitVec 32) (k7 : Fin k0_t7_loop.trips) :
    res7 (Ix := Ix) (Name := Name) (U := U) (Lvl := Lvl) c i arg5 arg6 arg7 arg8 arg9 arg10 arg12 arg13 arg14 arg15 B ST P1 P2 q5 q6 Y k7.val
      ⊢ wp frame (wpE (defs₀ (F := F)) 𝒱 (c : Thread nD τ) bd) E
          (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 (wa0 i) (wa1 i) v2 w17 w18 k7 ())
          (fun _ => res7 c i arg5 arg6 arg7 arg8 arg9 arg10 arg12 arg13 arg14 arg15 B ST P1 P2 q5 q6 Y (k7.val + 1)) := by
  iintro ⟨H10, H5, H6, H12, H13, H14, H15, H7, H8, H9⟩
  icases H13 with ⟨%X13, H13⟩
  icases H14 with ⟨%X14, H14⟩
  icases H15 with ⟨%X15, H15⟩
  unfold k0_t7_body
  simp only [k0_part19_eq_skeleton, k0_part20_eq_skeleton, k0_part21_eq_skeleton]
  unfold k0_part19_skel k0_part20_skel k0_part21_skel
  simp only [wp_bind, wp_pure]
  iapply (loop8 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 k7 q5 (wa0 i) (wa1 i) v2 w17 w18) $$ [H10 H5 H12 H13 H14]
  · isplitl [H10]; · iexact H10
    isplitl [H5]; · iexact H5
    isplitl [H12]; · iexact H12
    isplitl [H13]
    · iapply (part_intro _ (fun j hj => absurd hj (by simp [D13]))) $$ H13
    · iapply (part_intro _ (fun j hj => absurd hj (by simp [D14]))) $$ H14
  iintro ⟨H10, H5, H12, H13, H14⟩
  dsimp only
  iapply (own_load (defs := defs₀ (F := F)) 𝒱 (c : Thread nD τ) bd E) $$ H9
  iintro H9
  rw [ld_whole]
  iapply (own_load (defs := defs₀ (F := F)) 𝒱 (c : Thread nD τ) bd E) $$ H9
  iintro H9
  iapply (own_store (defs := defs₀ (F := F)) 𝒱 (c : Thread nD τ) bd E) $$ H9
  iintro H9
  rw [overlay_whole]
  imodintro
  ihave H15 := (part_intro (c := (c : Thread nD τ)) (m := arg15) (D := D15 0 0) (T := RR i B ST P1 k7) (fun j hj => absurd hj (by simp [D15]))) $$ H15
  rw [show k0_pay100 (g0 i B ST P1 k7) = w37 i B ST P1 k7 from rfl, show k0_pay102 (g0 i B ST P1 k7) = w56 i B ST P1 k7 from rfl,
    show k0_pay116 (g3 i B ST P1 k7) = w129 i B ST P1 k7 from rfl]
  iapply (loop9 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 k7 (wa0 i) (wa1 i) w17 w18 (Scf.iv 0#32 1#32 k7) (g1 i B ST P1 k7) _) $$ [H14 H12 H8 H15]
  · isplitl [H14]; · iexact H14
    isplitl [H12]; · iexact H12
    isplitl [H8]; · iexact H8
    iexact H15
  iintro ⟨H14, H12, H8, H15⟩
  iapply (own_load (defs := defs₀ (F := F)) 𝒱 (c : Thread nD τ) bd E) $$ H9
  iintro H9
  rw [ld_whole]
  iapply (own_load (defs := defs₀ (F := F)) 𝒱 (c : Thread nD τ) bd E) $$ H9
  iintro H9
  iapply (own_store (defs := defs₀ (F := F)) 𝒱 (c : Thread nD τ) bd E) $$ H9
  iintro H9
  rw [overlay_whole]
  iapply (loop10 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 k7 (wa0 i) (wa1 i) w17 w18 (Scf.iv 0#32 1#32 k7) _ _ _) $$ [H14 H12 H8 H15]
  · isplitl [H14]; · iexact H14
    isplitl [H12]; · iexact H12
    isplitl [H8]; · iexact H8
    iexact H15
  iintro ⟨H14, H12, H8, H15⟩
  imodintro
  iapply (own_load (defs := defs₀ (F := F)) 𝒱 (c : Thread nD τ) bd E) $$ H9
  iintro H9
  rw [ld_whole]
  iapply (own_load (defs := defs₀ (F := F)) 𝒱 (c : Thread nD τ) bd E) $$ H9
  iintro H9
  iapply (own_store (defs := defs₀ (F := F)) 𝒱 (c : Thread nD τ) bd E) $$ H9
  iintro H9
  rw [overlay_whole]
  iapply (loop11 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 k7 (wa0 i) (wa1 i) w17 w18 (Scf.iv 0#32 1#32 k7) (g3 i B ST P1 k7) _) $$ [H14 H12 H8 H15]
  · isplitl [H14]; · iexact H14
    isplitl [H12]; · iexact H12
    isplitl [H8]; · iexact H8
    iexact H15
  iintro ⟨H14, H12, H8, H15⟩
  imodintro
  iapply (own_load (defs := defs₀ (F := F)) 𝒱 (c : Thread nD τ) bd E) $$ H9
  iintro H9
  rw [ld_whole]
  iapply (own_load (defs := defs₀ (F := F)) 𝒱 (c : Thread nD τ) bd E) $$ H9
  iintro H9
  iapply (own_store (defs := defs₀ (F := F)) 𝒱 (c : Thread nD τ) bd E) $$ H9
  iintro H9
  rw [overlay_whole]
  iapply (loop12 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 k7 ) $$ [H14 H12 H8 H15]
  · isplitl [H14]; · iexact H14
    isplitl [H12]; · iexact H12
    isplitl [H8]; · iexact H8
    iexact H15
  iintro ⟨H14, H12, H8, H15⟩
  ihave H15 := (part_full (c := (c : Thread nD τ)) (m := arg15) (D := D15 4 0) (T := RR i B ST P1 k7) (fun j => .inl (j 0).isLt)) $$ H15
  iapply (loop13 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 P2 k7 q6 (Scf.iv 0#32 1#32 k7)) $$ [H6 H13 H15 H7]
  · isplitl [H6]; · iexact H6
    isplitl [H13]; · iexact H13
    isplitl [H15]; · iexact H15
    iexact H7
  iintro ⟨H6, H13, H15, H7⟩
  imodintro
  isplitl [H10]; · iexact H10
  isplitl [H5]; · iexact H5
  isplitl [H6]; · iexact H6
  isplitl [H12]; · iexact H12
  isplitl [H13]; · iexists _; iexact H13
  isplitl [H14]; · iexists _; iexact H14
  isplitl [H15]; · iexists _; iexact H15
  isplitl [H7]; · iexact H7
  isplitl [H8]
  · iapply (part_mono (D := D8 k7.val 4 0) ?_) $$ H8
    intro j hj
    exact ⟨by simp only [D8] at hj ⊢; omega, rfl⟩
  have hg : gIt i B ST P1 Y (k7.val + 1) = gS i B ST P1 k7 (gIt i B ST P1 Y k7.val) := by rw [gIt, dif_pos k7.isLt]
  rw [hg]
  simp only [gS, gT, w126, w129]
  iexact H9

/-- All groups: what a grid step leaves. -/
theorem loop7 (Y : Vec F S3x112 .f32) (v2 : BitVec 32) {Q : Unit → sProp (MT nD τ sig Ix (Elt F) Name U Lvl)} :
    iprop(slotOwn (c : Thread nD τ) arg10 (slot i) B ∗ owns (c : Thread nD τ) arg5 q5 P1 ∗ owns (c : Thread nD τ) arg6 q6 P2
        ∗ owns (c : Thread nD τ) arg12 fullShare ST ∗ any c arg13 ∗ any c arg14 ∗ any c arg15 ∗ any c arg7 ∗ any c arg8
        ∗ owns (c : Thread nD τ) arg9 fullShare Y)
      ⊢ iprop((slotOwn (c : Thread nD τ) arg10 (slot i) B ∗ owns (c : Thread nD τ) arg5 q5 P1 ∗ owns (c : Thread nD τ) arg6 q6 P2
            ∗ owns (c : Thread nD τ) arg12 fullShare ST ∗ any c arg13 ∗ any c arg14 ∗ any c arg15
            ∗ owns (c : Thread nD τ) arg7 fullShare (COD i B ST P1 P2) ∗ owns (c : Thread nD τ) arg8 fullShare (BS i B ST P1)
            ∗ owns (c : Thread nD τ) arg9 fullShare (gIt i B ST P1 Y k0_t7_loop.trips) -∗ Q ())
        -∗ wp frame (wpE (defs₀ (F := F)) 𝒱 (c : Thread nD τ) bd) E
            (Scf.Loop.for k0_t7_loop k0_t7_ok () (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 (wa0 i) (wa1 i) v2 w17 w18)) Q) := by
  iintro ⟨H10, H5, H6, H12, H13, H14, H15, H7, H8, H9⟩ HK
  icases H7 with ⟨%X7, H7⟩
  icases H8 with ⟨%X8, H8⟩
  unfold Scf.Loop.for
  iapply (Scf.wp_for frame (wpE (defs₀ (F := F)) 𝒱 (c : Thread nD τ) bd) E _ _ _ _ _ _
    (fun k _ => res7 c i arg5 arg6 arg7 arg8 arg9 arg10 arg12 arg13 arg14 arg15 B ST P1 P2 q5 q6 Y k)
    (fun k _ => trip7 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 arg17 B ST P1 P2 q5 q6 Y v2 k))
  isplitr [HK]
  · isplitl [H10]; · iexact H10
    isplitl [H5]; · iexact H5
    isplitl [H6]; · iexact H6
    isplitl [H12]; · iexact H12
    isplitl [H13]; · iexact H13
    isplitl [H14]; · iexact H14
    isplitl [H15]; · iexact H15
    isplitl [H7]; · iapply (part_intro (c : Thread nD τ) (D := D7 0 0 0) (fun j hj => absurd hj (by simp [D7]))) $$ H7
    isplitl [H8]; · iapply (part_intro (c : Thread nD τ) (D := D8 0 0 0) (fun j hj => absurd hj (by simp [D8]))) $$ H8
    iexact H9
  iintro %a ⟨H10, H5, H6, H12, H13, H14, H15, H7, H8, H9⟩
  iapply HK
  isplitl [H10]; · iexact H10
  isplitl [H5]; · iexact H5
  isplitl [H6]; · iexact H6
  isplitl [H12]; · iexact H12
  isplitl [H13]; · iexact H13
  isplitl [H14]; · iexact H14
  isplitl [H15]; · iexact H15
  isplitl [H7]
  · iapply (part_full (D := D7 (Scf.trips k0_t7_loop.lb k0_t7_loop.ub k0_t7_loop.st) 0 0) ?_) $$ H7
    intro j
    have l1 : (j 1).val < 16 := (j 1).isLt
    rw [show Scf.trips k0_t7_loop.lb k0_t7_loop.ub k0_t7_loop.st = 4 by decide]
    simp only [D7]; omega
  isplitl [H8]
  · iapply (part_full (D := D8 (Scf.trips k0_t7_loop.lb k0_t7_loop.ub k0_t7_loop.st) 0 0) ?_) $$ H8
    intro j
    have l1 : (j 1).val < 16 := (j 1).isLt
    rw [show Scf.trips k0_t7_loop.lb k0_t7_loop.ub k0_t7_loop.st = 4 by decide]
    simp only [D8]; omega
  iexact H9

end Cert.KernelIdeal.Compute

end
-- ==== Proof.Gather.lean ====
/-
  Where the copies go: page `k` of step `t` (batch row `t / 7`, head group `t % 7`) is the page the table
  names, its sixteen heads of the group copied to rows `32 k …` of the buffer's slot `t % 2`; page `k % 20`
  of batch row `k / 20` of the scales is copied to rows `32 (k % 20) …` of that row of the scale buffer.
-/
module

public import proofs.«01_k».proof.Proof.Copy
public import proofs.«01_k».proof.Proof.Group

@[expose] public section

noncomputable section

namespace Cert.KernelIdeal.Gather

open Idealize.ShloMosaic Idealize.ShloMosaic.TcCoe Cert.KernelIdeal.Gen Cert.KernelIdeal.Spec Cert.KernelIdeal.Fill

variable {F : FTy → Type} [FloatOps F] [Named F]

/-- The page the table names, kept in range. -/
def pg (T : S3x20.Idx → BitVec 32) (b k : ℕ) : ℕ :=
  min (T (ix2 ⟨b % 3, Nat.mod_lt _ (by decide)⟩ ⟨k % 20, Nat.mod_lt _ (by decide)⟩)).toNat 74

theorem pg_lt (T : S3x20.Idx → BitVec 32) (b k : ℕ) : pg T b k < 75 := by unfold pg; omega

/-- The codes step `t` works on. -/
def codeAt (T : S3x20.Idx → BitVec 32) (A3 : Vec F S75x32x112x128 .fp8e4m3) (t : ℕ) : Vec F S2x640x16x128 .fp8e4m3 := fun j =>
  A3 (ix4 ⟨pg T (t / 7) ((j 1).val / 32), pg_lt _ _ _⟩ ⟨(j 1).val % 32, Nat.mod_lt _ (by decide)⟩
    ⟨(16 * (t % 7) + (j 2).val) % 112, Nat.mod_lt _ (by decide)⟩ (j 3))

/-- Every scale, by batch row. -/
def scaleAt (T : S3x20.Idx → BitVec 32) (A4 : Vec F S75x32x112 .f32) : Vec F S3x640x112 .f32 := fun j =>
  A4 (ix3 ⟨pg T (j 0).val ((j 1).val / 32), pg_lt _ _ _⟩ ⟨(j 1).val % 32, Nat.mod_lt _ (by decide)⟩ (j 2))

/-- The block of the buffer page `k` of step `t` fills, the blocks from `k` on, and the window it reads. -/
def DSc (t k : ℕ) : Finset S2x640x16x128.Idx := Finset.univ.filter fun j => (j 0).val = t % 2 ∧ 32 * k ≤ (j 1).val ∧ (j 1).val < 32 * k + 32
def DFc (t k : ℕ) : Finset S2x640x16x128.Idx := Finset.univ.filter fun j => (j 0).val = t % 2 ∧ 32 * k ≤ (j 1).val
def WSc (T : S3x20.Idx → BitVec 32) (t k : ℕ) : Finset S75x32x112x128.Idx :=
  Finset.univ.filter fun j => (j 0).val = pg T (t / 7) k ∧ 16 * (t % 7) ≤ (j 2).val ∧ (j 2).val < 16 * (t % 7) + 16
/-- The same for the scales. -/
def DSs (k : ℕ) : Finset S3x640x112.Idx := Finset.univ.filter fun j => (j 0).val = k / 20 ∧ 32 * (k % 20) ≤ (j 1).val ∧ (j 1).val < 32 * (k % 20) + 32
def DFs (k : ℕ) : Finset S3x640x112.Idx := Finset.univ.filter fun j => 32 * k ≤ 640 * (j 0).val + (j 1).val
def WSs (T : S3x20.Idx → BitVec 32) (k : ℕ) : Finset S75x32x112.Idx := Finset.univ.filter fun j => (j 0).val = pg T (k / 20) k

theorem DFc_split (t k : ℕ) : DFc t k = DSc t k ∪ DFc t (k + 1) := by
  ext j; simp only [DFc, DSc, Finset.mem_union, Finset.mem_filter, Finset.mem_univ, true_and]; omega
theorem DFc_disj (t k : ℕ) : Disjoint (DSc t k) (DFc t (k + 1)) := by
  refine Finset.disjoint_left.mpr fun j h1 h2 => ?_
  simp only [DFc, DSc, Finset.mem_filter, Finset.mem_univ, true_and] at h1 h2; omega
theorem DSc_disj (t i j : ℕ) (h : i < j) : Disjoint (DSc t i) (DSc t j) := by
  refine Finset.disjoint_left.mpr fun x h1 h2 => ?_
  simp only [DSc, Finset.mem_filter, Finset.mem_univ, true_and] at h1 h2; omega
theorem DSc_union (t : ℕ) : (Finset.range 20).biUnion (DSc t) = DFc t 0 := by
  ext j
  have l1 : (j 1).val < 640 := (j 1).isLt
  simp only [DFc, DSc, Finset.mem_biUnion, Finset.mem_range, Finset.mem_filter, Finset.mem_univ, true_and]
  constructor
  · rintro ⟨a, h1, h2⟩; omega
  · rintro ⟨h1, h2⟩; exact ⟨(j 1).val / 32, by omega, h1, by omega, by omega⟩
theorem DFs_split (k : ℕ) : DFs k = DSs k ∪ DFs (k + 1) := by
  ext j
  have l1 : (j 1).val < 640 := (j 1).isLt
  simp only [DFs, DSs, Finset.mem_union, Finset.mem_filter, Finset.mem_univ, true_and]; omega
theorem DFs_disj (k : ℕ) : Disjoint (DSs k) (DFs (k + 1)) := by
  refine Finset.disjoint_left.mpr fun j h1 h2 => ?_
  simp only [DFs, DSs, Finset.mem_filter, Finset.mem_univ, true_and] at h1 h2; omega
theorem DSs_disj (i j : ℕ) (h : i < j) : Disjoint (DSs i) (DSs j) := by
  refine Finset.disjoint_left.mpr fun x h1 h2 => ?_
  simp only [DSs, Finset.mem_filter, Finset.mem_univ, true_and] at h1 h2; omega
theorem DSs_union : (Finset.range 60).biUnion DSs = Finset.univ := by
  ext j
  have l0 : (j 0).val < 3 := (j 0).isLt
  have l1 : (j 1).val < 640 := (j 1).isLt
  simp only [DSs, Finset.mem_biUnion, Finset.mem_range, Finset.mem_filter, Finset.mem_univ, true_and, iff_true]
  exact ⟨20 * (j 0).val + (j 1).val / 32, by omega, by omega, by omega, by omega⟩
theorem DFs_zero : DFs 0 = Finset.univ := by
  ext j; simp [DFs]
theorem slot_eq (i : grid0.Coords) : DFc (7 * (i 0).val + (i 1).val) 0 = Compute.slot i := by
  ext j; simp [DFc, Compute.slot]

/-! ### The rectangles of the program -/

theorem rectB {off : Fin 4 → ℕ} {t k : ℕ} (h : off = ![t % 2, 32 * k, 0, 0]) {inb} :
    (Rect.unit (s := S2x640x16x128) off S1x32x16x128.size inb).set = DSc t k := by
  ext j
  have l2 : (j 2).val < 16 := (j 2).isLt
  have l3 : (j 3).val < 128 := (j 3).isLt
  refine (mem4 h j).trans ?_
  simp only [DSc, Finset.mem_filter, Finset.mem_univ, true_and]; omega

theorem rectA {off : Fin 4 → ℕ} {T : S3x20.Idx → BitVec 32} {t k : ℕ} (h : off = ![pg T (t / 7) k, 0, 16 * (t % 7), 0]) {inb} :
    (Rect.unit (s := S75x32x112x128) off S1x32x16x128.size inb).set = WSc T t k := by
  ext j
  have l1 : (j 1).val < 32 := (j 1).isLt
  have l3 : (j 3).val < 128 := (j 3).isLt
  refine (mem4 h j).trans ?_
  simp only [WSc, Finset.mem_filter, Finset.mem_univ, true_and]; omega

theorem rectS {off : Fin 3 → ℕ} {k : ℕ} (h : off = ![k / 20, 32 * (k % 20), 0]) {inb} :
    (Rect.unit (s := S3x640x112) off S1x32x112.size inb).set = DSs k := by
  ext j
  have l2 : (j 2).val < 112 := (j 2).isLt
  refine (mem3 h j).trans ?_
  simp only [DSs, Finset.mem_filter, Finset.mem_univ, true_and]; omega

theorem rectR {off : Fin 3 → ℕ} {T : S3x20.Idx → BitVec 32} {k : ℕ} (h : off = ![pg T (k / 20) k, 0, 0]) {inb} :
    (Rect.unit (s := S75x32x112) off S1x32x112.size inb).set = WSs T k := by
  ext j
  have l1 : (j 1).val < 32 := (j 1).isLt
  have l2 : (j 2).val < 112 := (j 2).isLt
  refine (mem3 h j).trans ?_
  simp only [WSs, Finset.mem_filter, Finset.mem_univ, true_and]; omega

theorem code_copy {T : S3x20.Idx → BitVec 32} {A3 : Vec F S75x32x112x128 .fp8e4m3} {t k : ℕ} (hk : k < 20)
    {off : Fin 4 → ℕ} {inb} {off3 : Fin 4 → ℕ} {inb3}
    (h : off = ![t % 2, 32 * k, 0, 0]) (h3 : off3 = ![pg T (t / 7) k, 0, 16 * (t % 7), 0]) (y : S1x32x16x128.Idx) :
    A3 ((Rect.unit (s := S75x32x112x128) off3 S1x32x16x128.size inb3).emb y)
      = codeAt T A3 t ((Rect.unit (s := S2x640x16x128) off S1x32x16x128.size inb).emb y) := by
  have y0 : (y 0).val < 1 := (y 0).isLt
  have y1 : (y 1).val < 32 := (y 1).isLt
  have y2 : (y 2).val < 16 := (y 2).isLt
  obtain ⟨b0, b1, b2, b3⟩ := emb4 h (inb := inb) y
  obtain ⟨a0, a1, a2, a3⟩ := emb4 h3 (inb := inb3) y
  unfold codeAt
  have ek : (32 * k + (y 1).val) / 32 = k := by omega
  refine congrArg A3 (funext fun a => Fin.ext ?_)
  match a with
  | ⟨0, _⟩ => refine a0.trans ?_; show _ = pg T (t / 7) (_ / 32); rw [b1, ek]; omega
  | ⟨1, _⟩ => refine a1.trans ?_; show _ = _ % 32; rw [b1]; omega
  | ⟨2, _⟩ => refine a2.trans ?_; show _ = (16 * (t % 7) + _) % 112; rw [b2]; omega
  | ⟨3, _⟩ => exact a3.trans b3.symm

theorem scale_copy {T : S3x20.Idx → BitVec 32} {A4 : Vec F S75x32x112 .f32} {k : ℕ} (hk : k < 60)
    {off : Fin 3 → ℕ} {inb} {off3 : Fin 3 → ℕ} {inb3}
    (h : off = ![k / 20, 32 * (k % 20), 0]) (h3 : off3 = ![pg T (k / 20) k, 0, 0]) (y : S1x32x112.Idx) :
    A4 ((Rect.unit (s := S75x32x112) off3 S1x32x112.size inb3).emb y)
      = scaleAt T A4 ((Rect.unit (s := S3x640x112) off S1x32x112.size inb).emb y) := by
  have y0 : (y 0).val < 1 := (y 0).isLt
  have y1 : (y 1).val < 32 := (y 1).isLt
  obtain ⟨b0, b1, b2⟩ := emb3 h (inb := inb) y
  obtain ⟨a0, a1, a2⟩ := emb3 h3 (inb := inb3) y
  unfold scaleAt
  have ek : (32 * (k % 20) + (y 1).val) / 32 = k % 20 := by omega
  refine congrArg A4 (funext fun a => Fin.ext ?_)
  match a with
  | ⟨0, _⟩ =>
    refine a0.trans ?_
    show _ = pg T _ (_ / 32)
    rw [b0, b1, ek]
    have e0 : k / 20 + (y 0).val = k / 20 := by omega
    rw [e0]
    unfold pg
    simp only [Nat.mod_mod]
    omega
  | ⟨1, _⟩ => refine a1.trans ?_; show _ = _ % 32; rw [b1]; omega
  | ⟨2, _⟩ => exact a2.trans b2.symm

/-! ### The program's conditions -/

theorem cond1 : ∀ i : grid0.Coords, k0_cond1 i = 1#1 ↔ 7 * (i 0).val + (i 1).val = 0 := by decide +kernel
theorem cond2 : ∀ i : grid0.Coords, k0_cond2 i = 1#1 ↔ 7 * (i 0).val + (i 1).val + 1 < 21 := by decide +kernel
theorem cond3 : ∀ i : grid0.Coords, k0_cond3 i = 1#1 ↔ 7 * (i 0).val + (i 1).val = 0 := by decide +kernel
theorem cond4 : ∀ i : grid0.Coords, k0_cond4 i = 1#1 ↔ (i 1).val = 0 := by decide +kernel

/-! ### Offsets in closed form, and the assumptions of the words read -/

theorem off16_eq : ∀ (i : grid0.Coords) (k : Fin k0_t6_loop.trips), k0_off16 i k = ![(i 0).val, k.val] := by decide +kernel
theorem row10 : ∀ i : grid0.Coords, k0_off10 i 0#32 2 = 16 * ((7 * (i 0).val + (i 1).val + 1) % 7) := by decide +kernel
theorem row19 : ∀ i : grid0.Coords, k0_off19 i 0#32 2 = 16 * ((7 * (i 0).val + (i 1).val) % 7) := by decide +kernel
theorem row6 : k0_off6 0#32 2 = 0 := by decide +kernel

theorem off10_eq (i : grid0.Coords) (v : BitVec 32) : k0_off10 i v = ![v.toNat, 0, 16 * ((7 * (i 0).val + (i 1).val + 1) % 7), 0] := by
  rw [← row10 i]; rfl
theorem off19_eq (i : grid0.Coords) (v : BitVec 32) : k0_off19 i v = ![v.toNat, 0, 16 * ((7 * (i 0).val + (i 1).val) % 7), 0] := by
  rw [← row19 i]; rfl
theorem off6_eq (v : BitVec 32) : k0_off6 v = ![v.toNat, 0, 0, 0] := by
  have h : k0_off6 v = ![v.toNat, 0, k0_off6 0#32 2, 0] := rfl
  rw [h, row6]

theorem inbA {v g : ℕ} (hv : v < 75) (hg : g < 7) {off : Fin 4 → ℕ} (h : off = ![v, 0, 16 * g, 0]) : ∀ a, off a + S1x32x16x128.size a ≤ S75x32x112x128.size a := by
  subst h
  intro a
  match a with
  | ⟨0, _⟩ => show v + 1 ≤ 75; omega
  | ⟨1, _⟩ => show 0 + 32 ≤ 32; omega
  | ⟨2, _⟩ => show 16 * g + 16 ≤ 112; omega
  | ⟨3, _⟩ => show 0 + 128 ≤ 128; omega

theorem inbR {v : ℕ} (hv : v < 75) {off : Fin 3 → ℕ} (h : off = ![v, 0, 0]) : ∀ a, off a + S1x32x112.size a ≤ S75x32x112.size a := by
  subst h
  intro a
  match a with
  | ⟨0, _⟩ => show v + 1 ≤ 75; omega
  | ⟨1, _⟩ => show 0 + 32 ≤ 32; omega
  | ⟨2, _⟩ => show 0 + 112 ≤ 112; omega

theorem wordsA {v g : ℕ} {off : Fin 4 → ℕ} (h : off = ![v, 0, 16 * g, 0]) (inb : ∀ a, off a + S1x32x16x128.size a ≤ S75x32x112x128.size a) :
    (Rect.unit (s := S75x32x112x128) off S1x32x16x128.size inb).WholeWords (EltTy.packing .fp8e4m3) := by
  subst h
  refine Affine.words_of_packed (Affine.packed_dvd (of_decide_eq_true rfl) ?_ ?_)
  · show 4 ∣ 16 * g; omega
  · show 4 ∣ 16; decide

theorem chk1 (i : grid0.Coords) {v : BitVec 32} (hv : v.toNat < 75) : k0_chk1 i v := fun _ => inbR hv rfl
theorem chk4 (i : grid0.Coords) {v : BitVec 32} (hv : v.toNat < 75) : k0_chk4 i v := fun _ => inbR hv rfl
theorem chk2 (i : grid0.Coords) {v : BitVec 32} (hv : v.toNat < 75) : k0_chk2 i v :=
  ⟨fun _ => inbA (g := 0) hv (by decide) (off6_eq v), fun _ inb => wordsA (g := 0) (off6_eq v) inb⟩
theorem chk3 (i : grid0.Coords) {v : BitVec 32} (hv : v.toNat < 75) : k0_chk3 i v :=
  ⟨fun _ => inbA hv (Nat.mod_lt _ (by decide)) (off10_eq i v), fun _ inb => wordsA (off10_eq i v) inb⟩
theorem chk5 (i : grid0.Coords) {v : BitVec 32} (hv : v.toNat < 75) : k0_chk5 i v :=
  ⟨inbA hv (Nat.mod_lt _ (by decide)) (off19_eq i v), fun inb => wordsA (off19_eq i v) inb⟩

/-- The table entry the program reads is the page. -/
theorem entry {T : S3x20.Idx → BitVec 32} (hT : ∀ j, (T j).toNat < 75) {off : Fin 2 → ℕ} {b k : ℕ} (h : off = ![b, k % 20]) (hb : b < 3) {inb} (x : S1x1.Idx) :
    (T ((Rect.unit (s := S3x20) off S1x1.size inb).emb x)).toNat = pg T b k := by
  unfold pg
  have x0 : (x 0).val < 1 := (x 0).isLt
  have x1 : (x 1).val < 1 := (x 1).isLt
  have e : (Rect.unit (s := S3x20) off S1x1.size inb).emb x = ix2 ⟨b % 3, Nat.mod_lt _ (by decide)⟩ ⟨k % 20, Nat.mod_lt _ (by decide)⟩ := by
    subst h
    refine funext fun a => Fin.ext ?_
    rw [Rect.emb_apply]
    match a with
    | ⟨0, _⟩ => show b + 1 * (x 0).val = b % 3; omega
    | ⟨1, _⟩ => show k % 20 + 1 * (x 1).val = k % 20; omega
  rw [e]
  have := hT (ix2 ⟨b % 3, Nat.mod_lt _ (by decide)⟩ ⟨k % 20, Nat.mod_lt _ (by decide)⟩)
  omega

end Cert.KernelIdeal.Gather

end
-- ==== Proof.Copies.lean ====
/-
  The loops that start and await the kernel's own copies: each trip reads a word of the page table, whose
  range settles what the trip assumes, and starts or awaits the copy of that page.
-/
module

public import proofs.«01_k».proof.Proof.Gather

@[expose] public section

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Spec Cert.KernelIdeal.Fill Cert.KernelIdeal.Gather Cert.Own

section Words

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)

/-- A word of a table owned at `X`. -/
theorem own_word {s : Shape} {e : EltTy} {m : Memref sig c.2.kind .smem s e} {r : Rect s} {h1 : r.shape.numel = 1} {hp : e.packing = 1}
    {Q : Val e → sProp (MT nD τ sig Ix Val Name U Lvl)} {q : PosShare TreeShare} {X : s.Idx → Val e} :
    owns c m q X
      ⊢ iprop((owns c m q X -∗ Q (X (r.emb (Shape.Idx.first (h1.symm ▸ Nat.one_pos))))) -∗ wp frame (wpE defs 𝒱 c bd) E (smemLoad m r h1 hp) Q) := by
  iintro H HK
  ihave H' := (show owns c m q X ⊢ iprop(∃ g, ⌜m.view.read Val g = X⌝ ∗ m.view.loc c ↦[m.view.set]{q} g) from .rfl) $$ H
  icases H' with ⟨%g, %hg, H⟩
  iapply (wp_smemLoadElt (defs := defs) 𝒱 c bd E (m := m) (r := r) (S := m.view.set) (f := g) (k := .ret)
    (m.view.set_slice_subset r)) $$ H
  iintro H
  rw [wp_ret]
  imodintro
  have e1 : (m.access r).read Val g (Shape.Idx.first (h1.symm ▸ Nat.one_pos)) = X (r.emb (Shape.Idx.first (h1.symm ▸ Nat.one_pos))) := by rw [← hg]; rfl
  rw [e1]
  iapply HK
  iapply (show iprop(∃ g, ⌜m.view.read Val g = X⌝ ∗ m.view.loc c ↦[m.view.set]{q} g) ⊢ owns c m q X from .rfl)
  iexists g
  isplitr
  · ipureintro; exact hg
  · iexact H

/-- An assumption that holds. -/
theorem own_assume {P : Prop} {d : Decidable P} (h : P) {Q : PLift P → sProp (MT nD τ sig Ix Val Name U Lvl)} :
    Q ⟨h⟩ ⊢ wp frame (wpE defs 𝒱 c bd) E (Prog.lift (TpuEff.assume P d)) Q := by
  iintro H
  iapply (wp_assume (defs := defs) 𝒱 c bd E (k := .ret) h)
  rw [wp_ret]
  imodintro
  iexact H

end Words

/-- What one copy of a page of codes, and of a page of scales, credits its semaphore. -/
abbrev NC (m : Memref sig .tc .vmem S2x640x16x128 .fp8e4m3) : ℕ := sig.dmaCredit .tc _ m.view.buf S32x16x128 .fp8e4m3
abbrev NS (m : Memref sig .tc .vmem S3x640x112 .f32) : ℕ := sig.dmaCredit .tc _ m.view.buf S32x112 .f32
theorem NC_pos (m : Memref sig .tc .vmem S2x640x16x128 .fp8e4m3) : 0 < NC m := sig.dmaCredit_pos .tc _ m.view.buf _ _ (by decide)
theorem NS_pos (m : Memref sig .tc .vmem S3x640x112 .f32) : 0 < NS m := sig.dmaCredit_pos .tc _ m.view.buf _ _ (by decide)

variable {F : FTy → Type} [FloatOps F] [Named F]
variable {U : Type} [URA U] [CountersIn U]
variable (𝒱 : Variants) (c : Dev nD) (bd : Option 𝒱.V)
variable (i : grid0.Coords) (arg2 : Memref sig .tc .smem S3x20 .i32) (harg2 : arg2.IsWhole) (arg3 : Memref sig .tc .hbm S75x32x112x128 .fp8e4m3) (harg3 : arg3.IsWhole) (arg4 : Memref sig .tc .hbm S75x32x112 .f32) (harg4 : arg4.IsWhole) (arg5 : Memref sig .tc .vmem S256x256 .fp8e4m3) (harg5 : arg5.IsWhole) (arg6 : Memref sig .tc .vmem S256x256 .fp8e4m3) (harg6 : arg6.IsWhole) (arg7 : Memref sig .tc .vmem S1x16x64x640 .i8) (harg7 : arg7.IsWhole) (arg8 : Memref sig .tc .vmem S1x16x8x640 .fp8e4m3) (harg8 : arg8.IsWhole) (arg9 : Memref sig .tc .vmem S3x112 .f32) (harg9 : arg9.IsWhole) (arg10 : Memref sig .tc .vmem S2x640x16x128 .fp8e4m3) (harg10 : arg10.IsWhole) (arg11 : Memref sig .tc .vmem S3x640x112 .f32) (harg11 : arg11.IsWhole) (arg12 : Memref sig .tc .vmem S5x112x128 .f32) (harg12 : arg12.IsWhole) (arg13 : Memref sig .tc .vmem S5x256x256 .fp8e4m3) (harg13 : arg13.IsWhole) (arg14 : Memref sig .tc .vmem S4x8x640 .f32) (harg14 : arg14.IsWhole) (arg15 : Memref sig .tc .vmem S4x8x640 .f32) (harg15 : arg15.IsWhole) (arg16 : DmaSems sig S2) (arg17 : DmaSems sig S_)
variable (T : S3x20.Idx → BitVec 32) (hT : ∀ j, (T j).toNat < 75) (q2 q : PosShare TreeShare)

local notation "𝕄" => MT nD τ sig Unit (Elt F) ℕ U ℕ

/-- The copies of the codes of step `t` on semaphore `sm`, `k` started; and the first `u` awaited. -/
abbrev issuedC (sm : DmaSem sig) (t : ℕ) (f3 : Buf (Elt F) (arg3.view.loc (c : Thread nD τ))) (k : ℕ) : sProp 𝕄 :=
  issued (c : Thread nD τ) arg10 arg3 sm 20 (NC arg10) (DSc t) (DFc t) (WSc T t) (codeAt T (arg3.view.read (Elt F) f3) t) q f3 k
abbrev drainC (sm : DmaSem sig) (t : ℕ) (f3 : Buf (Elt F) (arg3.view.loc (c : Thread nD τ))) (u : ℕ) : sProp 𝕄 :=
  draining (c : Thread nD τ) arg10 arg3 sm 20 (NC arg10) (DSc t) (WSc T t) (codeAt T (arg3.view.read (Elt F) f3) t) q f3 u
abbrev issuedS (sm : DmaSem sig) (f4 : Buf (Elt F) (arg4.view.loc (c : Thread nD τ))) (k : ℕ) : sProp 𝕄 :=
  issued (c : Thread nD τ) arg11 arg4 sm 60 (NS arg11) DSs DFs (WSs T) (scaleAt T (arg4.view.read (Elt F) f4)) q f4 k
abbrev drainS (sm : DmaSem sig) (f4 : Buf (Elt F) (arg4.view.loc (c : Thread nD τ))) (u : ℕ) : sProp 𝕄 :=
  draining (c : Thread nD τ) arg11 arg4 sm 60 (NS arg11) DSs (WSs T) (scaleAt T (arg4.view.read (Elt F) f4)) q f4 u

set_option maxHeartbeats 4000000 in
include hT in
theorem trip1 (h : k0_cond1 i = 1#1) (f4 : Buf (Elt F) (arg4.view.loc (c : Thread nD τ))) (k : Fin k0_t1_loop.trips) :
    iprop(owns (c : Thread nD τ) arg2 q2 T ∗ issuedS c arg4 arg11 T q arg17.sem f4 k.val)
      ⊢ (wp frame (wpE (defs₀ (F := F)) 𝒱 (c : Thread nD τ) bd) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h k ())
          (fun _ => iprop(owns (c : Thread nD τ) arg2 q2 T ∗ issuedS c arg4 arg11 T q arg17.sem f4 (k.val + 1))) : sProp 𝕄) := by
  have hk : k.val < 60 := Nat.lt_of_lt_of_eq k.isLt (by decide)
  iintro ⟨H2, H⟩
  unfold k0_t1_body
  simp only [wp_bind, wp_pure]
  iapply (own_word (defs := defs₀ (F := F)) 𝒱 (c : Thread nD τ) bd Set.univ) $$ H2
  iintro H2
  have hv := entry hT (b := k.val / 20) (k := k.val) (off := k0_off1 k) (inb := k0_off1_inb i k h) (k0_off1_eq k) (by omega) (Shape.Idx.first (numel1_S1x1.symm ▸ Nat.one_pos))
  iapply (own_assume (defs := defs₀ (F := F)) 𝒱 (c : Thread nD τ) bd Set.univ (chk1 i (hT _)))
  have e3 : k0_off3 _ = ![pg T (k.val / 20) k.val, 0, 0] := (show k0_off3 _ = ![_, 0, 0] from rfl).trans (by rw [hv])
  iapply (issue_step (defs := defs₀ (F := F)) 𝒱 (c : Thread nD τ) bd _ _ _ 60 _ _ _ _ _ _ _ k.val hk (rectS (k0_off2_eq k)) (rectR e3)
    (fun y => scale_copy hk (k0_off2_eq k) e3 y) rfl (DFs_split _) (DFs_disj _)) $$ H
  iintro H
  imodintro
  isplitl [H2]; · iexact H2
  iexact H

set_option maxHeartbeats 4000000 in
include hT in
theorem loop1 (h : k0_cond1 i = 1#1) (f4 : Buf (Elt F) (arg4.view.loc (c : Thread nD τ))) {Q : Unit → sProp 𝕄} :
    iprop(owns (c : Thread nD τ) arg2 q2 T ∗ issuedS c arg4 arg11 T q arg17.sem f4 0)
      ⊢ iprop((owns (c : Thread nD τ) arg2 q2 T ∗ issuedS c arg4 arg11 T q arg17.sem f4 60 -∗ Q ()) -∗
        wp frame (wpE (defs₀ (F := F)) 𝒱 (c : Thread nD τ) bd) Set.univ
          (Scf.Loop.for k0_t1_loop (k0_t1_ok i h) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h )) Q) := by
  iintro ⟨H2, H⟩ HK
  have et : Scf.trips k0_t1_loop.lb k0_t1_loop.ub k0_t1_loop.st = 60 := by decide
  unfold Scf.Loop.for
  iapply (Scf.wp_for frame (wpE (defs₀ (F := F)) 𝒱 (c : Thread nD τ) bd) Set.univ _ _ _ _ _ _
    (fun k _ => iprop(owns (c : Thread nD τ) arg2 q2 T ∗ issuedS c arg4 arg11 T q arg17.sem f4 k))
    (fun k _ => trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 q h f4 k))
  isplitr [HK]
  · isplitl [H2]; · iexact H2
    iexact H
  iintro %a ⟨H2, H⟩
  rw [et]
  iapply HK
  isplitl [H2]; · iexact H2
  iexact H

set_option maxHeartbeats 4000000 in
include hT in
theorem trip2 (h : k0_cond1 i = 1#1) (sm : DmaSem sig) (hsm : ((arg16.slice (Rect.unit (s := S2) ![0] S1.size inb_S2_S1_0)).squeeze S_ squeezes_S1_S_).sem = sm) (f3 : Buf (Elt F) (arg3.view.loc (c : Thread nD τ))) (k : Fin k0_t2_loop.trips) :
    iprop(owns (c : Thread nD τ) arg2 q2 T ∗ issuedC c arg3 arg10 T q sm 0 f3 k.val)
      ⊢ (wp frame (wpE (defs₀ (F := F)) 𝒱 (c : Thread nD τ) bd) Set.univ
          (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h k ())
          (fun _ => iprop(owns (c : Thread nD τ) arg2 q2 T ∗ issuedC c arg3 arg10 T q sm 0 f3 (k.val + 1))) : sProp 𝕄) := by
  have hk : k.val < 20 := Nat.lt_of_lt_of_eq k.isLt (by decide)
  iintro ⟨H2, H⟩
  subst hsm
  unfold k0_t2_body
  simp only [wp_bind, wp_pure]
  iapply (own_word (defs := defs₀ (F := F)) 𝒱 (c : Thread nD τ) bd Set.univ) $$ H2
  iintro H2
  have hv := entry hT (b := 0) (k := k.val) (off := k0_off4 k) (inb := k0_off4_inb i k h) ((k0_off4_eq k).trans (by rw [Nat.mod_eq_of_lt hk])) (by omega) (Shape.Idx.first (numel1_S1x1.symm ▸ Nat.one_pos))
  iapply (own_assume (defs := defs₀ (F := F)) 𝒱 (c : Thread nD τ) bd Set.univ (chk2 i (hT _)))
  have e3 : k0_off6 _ = ![pg T (0 / 7) k.val, 0, 16 * (0 % 7), 0] := (off6_eq _).trans (by rw [hv])
  iapply (issue_step (defs := defs₀ (F := F)) 𝒱 (c : Thread nD τ) bd _ _ _ 20 _ _ _ _ _ _ _ k.val hk (rectB (t := 0) (k0_off5_eq k)) (rectA e3)
    (fun y => code_copy hk (t := 0) (k0_off5_eq k) e3 y) rfl (DFc_split _ _) (DFc_disj _ _)) $$ H
  iintro H
  imodintro
  isplitl [H2]; · iexact H2
  iexact H

set_option maxHeartbeats 4000000 in
include hT in
theorem loop2 (h : k0_cond1 i = 1#1) (sm : DmaSem sig) (hsm : ((arg16.slice (Rect.unit (s := S2) ![0] S1.size inb_S2_S1_0)).squeeze S_ squeezes_S1_S_).sem = sm) (f3 : Buf (Elt F) (arg3.view.loc (c : Thread nD τ))) {Q : Unit → sProp 𝕄} :
    iprop(owns (c : Thread nD τ) arg2 q2 T ∗ issuedC c arg3 arg10 T q sm 0 f3 0)
      ⊢ iprop((owns (c : Thread nD τ) arg2 q2 T ∗ issuedC c arg3 arg10 T q sm 0 f3 20 -∗ Q ()) -∗
        wp frame (wpE (defs₀ (F := F)) 𝒱 (c : Thread nD τ) bd) Set.univ
          (Scf.Loop.for k0_t2_loop (k0_t2_ok i h) () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h )) Q) := by
  iintro ⟨H2, H⟩ HK
  have et : Scf.trips k0_t2_loop.lb k0_t2_loop.ub k0_t2_loop.st = 20 := by decide
  unfold Scf.Loop.for
  iapply (Scf.wp_for frame (wpE (defs₀ (F := F)) 𝒱 (c : Thread nD τ) bd) Set.univ _ _ _ _ _ _
    (fun k _ => iprop(owns (c : Thread nD τ) arg2 q2 T ∗ issuedC c arg3 arg10 T q sm 0 f3 k))
    (fun k _ => trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 q h sm hsm f3 k))
  isplitr [HK]
  · isplitl [H2]; · iexact H2
    iexact H
  iintro %a ⟨H2, H⟩
  rw [et]
  iapply HK
  isplitl [H2]; · iexact H2
  iexact H

set_option maxHeartbeats 4000000 in
include hT in
theorem trip3 (h : k0_cond2 i = 1#1) (sm : DmaSem sig) (hsm : ((arg16.slice (Rect.unit (s := S2) (k0_off8 i) S1.size (k0_off8_inb i h))).squeeze S_ squeezes_S1_S_).sem = sm) (f3 : Buf (Elt F) (arg3.view.loc (c : Thread nD τ))) (k : Fin k0_t3_loop.trips) :
    iprop(owns (c : Thread nD τ) arg2 q2 T ∗ issuedC c arg3 arg10 T q sm ((7 * (i 0).val + (i 1).val) + 1) f3 k.val)
      ⊢ (wp frame (wpE (defs₀ (F := F)) 𝒱 (c : Thread nD τ) bd) Set.univ
          (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h k ())
          (fun _ => iprop(owns (c : Thread nD τ) arg2 q2 T ∗ issuedC c arg3 arg10 T q sm ((7 * (i 0).val + (i 1).val) + 1) f3 (k.val + 1))) : sProp 𝕄) := by
  have hk : k.val < 20 := Nat.lt_of_lt_of_eq k.isLt (by decide)
  iintro ⟨H2, H⟩
  subst hsm
  unfold k0_t3_body
  simp only [wp_bind, wp_pure]
  iapply (own_word (defs := defs₀ (F := F)) 𝒱 (c : Thread nD τ) bd Set.univ) $$ H2
  iintro H2
  have hv := entry hT (b := ((7 * (i 0).val + (i 1).val) + 1) / 7) (k := k.val) (off := k0_off7 i k) (inb := k0_off7_inb i k h) ((k0_off7_eq i k).trans (by rw [Nat.mod_eq_of_lt hk])) (by have := (cond2 i).mp h; omega) (Shape.Idx.first (numel1_S1x1.symm ▸ Nat.one_pos))
  iapply (own_assume (defs := defs₀ (F := F)) 𝒱 (c : Thread nD τ) bd Set.univ (chk3 i (hT _)))
  have e3 : k0_off10 i _ = ![pg T (((7 * (i 0).val + (i 1).val) + 1) / 7) k.val, 0, 16 * (((7 * (i 0).val + (i 1).val) + 1) % 7), 0] := (off10_eq i _).trans (by rw [hv])
  have e9 : k0_off9 i k = ![((7 * (i 0).val + (i 1).val) + 1) % 2, 32 * k.val, 0, 0] := (k0_off9_eq i k).trans (by rw [show 1 - (7 * (i 0).val + (i 1).val) % 2 = ((7 * (i 0).val + (i 1).val) + 1) % 2 by omega])
  iapply (issue_step (defs := defs₀ (F := F)) 𝒱 (c : Thread nD τ) bd _ _ _ 20 _ _ _ _ _ _ _ k.val hk (rectB e9) (rectA e3)
    (fun y => code_copy hk e9 e3 y) rfl (DFc_split _ _) (DFc_disj _ _)) $$ H
  iintro H
  imodintro
  isplitl [H2]; · iexact H2
  iexact H

set_option maxHeartbeats 4000000 in
include hT in
theorem loop3 (h : k0_cond2 i = 1#1) (sm : DmaSem sig) (hsm : ((arg16.slice (Rect.unit (s := S2) (k0_off8 i) S1.size (k0_off8_inb i h))).squeeze S_ squeezes_S1_S_).sem = sm) (f3 : Buf (Elt F) (arg3.view.loc (c : Thread nD τ))) {Q : Unit → sProp 𝕄} :
    iprop(owns (c : Thread nD τ) arg2 q2 T ∗ issuedC c arg3 arg10 T q sm ((7 * (i 0).val + (i 1).val) + 1) f3 0)
      ⊢ iprop((owns (c : Thread nD τ) arg2 q2 T ∗ issuedC c arg3 arg10 T q sm ((7 * (i 0).val + (i 1).val) + 1) f3 20 -∗ Q ()) -∗
        wp frame (wpE (defs₀ (F := F)) 𝒱 (c : Thread nD τ) bd) Set.univ
          (Scf.Loop.for k0_t3_loop (k0_t3_ok i h) () (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h )) Q) := by
  iintro ⟨H2, H⟩ HK
  have et : Scf.trips k0_t3_loop.lb k0_t3_loop.ub k0_t3_loop.st = 20 := by decide
  unfold Scf.Loop.for
  iapply (Scf.wp_for frame (wpE (defs₀ (F := F)) 𝒱 (c : Thread nD τ) bd) Set.univ _ _ _ _ _ _
    (fun k _ => iprop(owns (c : Thread nD τ) arg2 q2 T ∗ issuedC c arg3 arg10 T q sm ((7 * (i 0).val + (i 1).val) + 1) f3 k))
    (fun k _ => trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 q h sm hsm f3 k))
  isplitr [HK]
  · isplitl [H2]; · iexact H2
    iexact H
  iintro %a ⟨H2, H⟩
  rw [et]
  iapply HK
  isplitl [H2]; · iexact H2
  iexact H

set_option maxHeartbeats 4000000 in
include hT in
theorem trip4 (h : k0_cond3 i = 1#1) (f4 : Buf (Elt F) (arg4.view.loc (c : Thread nD τ))) (k : Fin k0_t4_loop.trips) :
    iprop(owns (c : Thread nD τ) arg2 q2 T ∗ drainS c arg4 arg11 T q arg17.sem f4 k.val)
      ⊢ (wp frame (wpE (defs₀ (F := F)) 𝒱 (c : Thread nD τ) bd) Set.univ
          (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h k ())
          (fun _ => iprop(owns (c : Thread nD τ) arg2 q2 T ∗ drainS c arg4 arg11 T q arg17.sem f4 (k.val + 1))) : sProp 𝕄) := by
  have hk : k.val < 60 := Nat.lt_of_lt_of_eq k.isLt (by decide)
  iintro ⟨H2, H⟩
  unfold k0_t4_body
  simp only [wp_bind, wp_pure]
  iapply (own_word (defs := defs₀ (F := F)) 𝒱 (c : Thread nD τ) bd Set.univ) $$ H2
  iintro H2
  have hv := entry hT (b := k.val / 20) (k := k.val) (off := k0_off11 k) (inb := k0_off11_inb i k h) (k0_off11_eq k) (by omega) (Shape.Idx.first (numel1_S1x1.symm ▸ Nat.one_pos))
  iapply (own_assume (defs := defs₀ (F := F)) 𝒱 (c : Thread nD τ) bd Set.univ (chk4 i (hT _)))
  iapply (drain_step (defs := defs₀ (F := F)) (dstw := (arg11.slice (Rect.unit (s := S3x640x112) (k0_off12 k) S1x32x112.size (k0_off12_inb i k h)) (fun _ => rfl)).squeeze S32x112 squeezes_S1x32x112_S32x112) 𝒱 (c : Thread nD τ) bd arg11 arg4 _ 60 _ _ _ _ _ _ k.val hk rfl (NS_pos _)) $$ H
  iintro H
  imodintro
  isplitl [H2]; · iexact H2
  iexact H

set_option maxHeartbeats 4000000 in
include hT in
theorem loop4 (h : k0_cond3 i = 1#1) (f4 : Buf (Elt F) (arg4.view.loc (c : Thread nD τ))) {Q : Unit → sProp 𝕄} :
    iprop(owns (c : Thread nD τ) arg2 q2 T ∗ drainS c arg4 arg11 T q arg17.sem f4 0)
      ⊢ iprop((owns (c : Thread nD τ) arg2 q2 T ∗ drainS c arg4 arg11 T q arg17.sem f4 60 -∗ Q ()) -∗
        wp frame (wpE (defs₀ (F := F)) 𝒱 (c : Thread nD τ) bd) Set.univ
          (Scf.Loop.for k0_t4_loop (k0_t4_ok i h) () (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h )) Q) := by
  iintro ⟨H2, H⟩ HK
  have et : Scf.trips k0_t4_loop.lb k0_t4_loop.ub k0_t4_loop.st = 60 := by decide
  unfold Scf.Loop.for
  iapply (Scf.wp_for frame (wpE (defs₀ (F := F)) 𝒱 (c : Thread nD τ) bd) Set.univ _ _ _ _ _ _
    (fun k _ => iprop(owns (c : Thread nD τ) arg2 q2 T ∗ drainS c arg4 arg11 T q arg17.sem f4 k))
    (fun k _ => trip4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 q h f4 k))
  isplitr [HK]
  · isplitl [H2]; · iexact H2
    iexact H
  iintro %a ⟨H2, H⟩
  rw [et]
  iapply HK
  isplitl [H2]; · iexact H2
  iexact H

set_option maxHeartbeats 4000000 in
include hT in
theorem trip6 (sm : DmaSem sig) (hsm : ((arg16.slice (Rect.unit (s := S2) (k0_off17 i) S1.size (k0_off17_inb i))).squeeze S_ squeezes_S1_S_).sem = sm) (f3 : Buf (Elt F) (arg3.view.loc (c : Thread nD τ))) (k : Fin k0_t6_loop.trips) :
    iprop(owns (c : Thread nD τ) arg2 q2 T ∗ drainC c arg3 arg10 T q sm (7 * (i 0).val + (i 1).val) f3 k.val)
      ⊢ (wp frame (wpE (defs₀ (F := F)) 𝒱 (c : Thread nD τ) bd) Set.univ
          (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 k ())
          (fun _ => iprop(owns (c : Thread nD τ) arg2 q2 T ∗ drainC c arg3 arg10 T q sm (7 * (i 0).val + (i 1).val) f3 (k.val + 1))) : sProp 𝕄) := by
  have hk : k.val < 20 := Nat.lt_of_lt_of_eq k.isLt (by decide)
  iintro ⟨H2, H⟩
  subst hsm
  unfold k0_t6_body
  simp only [wp_bind, wp_pure]
  iapply (own_word (defs := defs₀ (F := F)) 𝒱 (c : Thread nD τ) bd Set.univ) $$ H2
  iintro H2
  have hv := entry hT (b := (i 0).val) (k := k.val) (off := k0_off16 i k) (inb := k0_off16_inb i k) ((off16_eq i k).trans (by rw [Nat.mod_eq_of_lt hk])) (i 0).isLt (Shape.Idx.first (numel1_S1x1.symm ▸ Nat.one_pos))
  iapply (own_assume (defs := defs₀ (F := F)) 𝒱 (c : Thread nD τ) bd Set.univ (chk5 i (hT _)))
  iapply (drain_step (defs := defs₀ (F := F)) (dstw := (arg10.slice (Rect.unit (s := S2x640x16x128) (k0_off18 i k) S1x32x16x128.size (k0_off18_inb i k)) (fun _ => rfl)).squeeze S32x16x128 squeezes_S1x32x16x128_S32x16x128) 𝒱 (c : Thread nD τ) bd arg10 arg3 _ 20 _ _ _ _ _ _ k.val hk rfl (NC_pos _)) $$ H
  iintro H
  imodintro
  isplitl [H2]; · iexact H2
  iexact H

set_option maxHeartbeats 4000000 in
include hT in
theorem loop6 (sm : DmaSem sig) (hsm : ((arg16.slice (Rect.unit (s := S2) (k0_off17 i) S1.size (k0_off17_inb i))).squeeze S_ squeezes_S1_S_).sem = sm) (f3 : Buf (Elt F) (arg3.view.loc (c : Thread nD τ))) {Q : Unit → sProp 𝕄} :
    iprop(owns (c : Thread nD τ) arg2 q2 T ∗ drainC c arg3 arg10 T q sm (7 * (i 0).val + (i 1).val) f3 0)
      ⊢ iprop((owns (c : Thread nD τ) arg2 q2 T ∗ drainC c arg3 arg10 T q sm (7 * (i 0).val + (i 1).val) f3 20 -∗ Q ()) -∗
        wp frame (wpE (defs₀ (F := F)) 𝒱 (c : Thread nD τ) bd) Set.univ
          (Scf.Loop.for k0_t6_loop k0_t6_ok () (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 )) Q) := by
  iintro ⟨H2, H⟩ HK
  have et : Scf.trips k0_t6_loop.lb k0_t6_loop.ub k0_t6_loop.st = 20 := by decide
  unfold Scf.Loop.for
  iapply (Scf.wp_for frame (wpE (defs₀ (F := F)) 𝒱 (c : Thread nD τ) bd) Set.univ _ _ _ _ _ _
    (fun k _ => iprop(owns (c : Thread nD τ) arg2 q2 T ∗ drainC c arg3 arg10 T q sm (7 * (i 0).val + (i 1).val) f3 k))
    (fun k _ => trip6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 q sm hsm f3 k))
  isplitr [HK]
  · isplitl [H2]; · iexact H2
    iexact H
  iintro %a ⟨H2, H⟩
  rw [et]
  iapply HK
  isplitl [H2]; · iexact H2
  iexact H

end Cert.KernelIdeal.Compute

end
-- ==== Proof.Body.lean ====
/-
  One grid step: the first starts the copies of every scale and of its own codes; every step but the last
  starts the next step's codes into the other slot; the first awaits the scales; the first step of a batch
  row transposes the row's scales; then the step awaits its codes and packs them.
-/
module

public import proofs.«01_k».proof.Proof.Copies
public import Idealize.ShloMosaic.Lib.Pointwise

@[expose] public section

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Spec Cert.KernelIdeal.Fill Cert.KernelIdeal.Gather Cert.Own

variable {F : FTy → Type} [FloatOps F] [Named F]

/-- The scales of batch row `b`, sequence along the lanes: tile, head, lane. -/
def STb (b : ℕ) (SB : Vec F S3x640x112 .f32) : Vec F S5x112x128 .f32 := fun j =>
  SB (ix3 ⟨b % 3, Nat.mod_lt _ (by decide)⟩ ⟨(128 * (j 0).val + (j 2).val) % 640, Nat.mod_lt _ (by decide)⟩ (j 1))

theorem pay1_at (i : grid0.Coords) (k : Fin k0_t5_loop.trips) (SB : Vec F S3x640x112 .f32) {inb1 inb2} (x : S1x112x128.Idx) :
    STb (i 0).val SB ((Rect.unit (s := S5x112x128) (k0_off15 k) S1x112x128.size inb2).emb x)
      = k0_pay1 (View.ld SB (Rect.unit (s := S3x640x112) (k0_off14 i k) S1x128x112.size inb1)) x := by
  have hk : k.val < 5 := Nat.lt_of_lt_of_eq k.isLt (by decide)
  have hi : (i 0).val < 3 := (i 0).isLt
  have x0 : (x 0).val < 1 := (x 0).isLt
  have x1 : (x 1).val < 112 := (x 1).isLt
  have x2 : (x 2).val < 128 := (x 2).isLt
  obtain ⟨b0, b1, b2⟩ := emb3 (k0_off15_eq k) (inb := inb2) x
  have ex : x = ix3 0 (x 1) (x 2) := by
    refine funext fun a => Fin.ext ?_
    match a with
    | ⟨0, _⟩ => show (x 0).val = 0; omega
    | ⟨1, _⟩ => rfl
    | ⟨2, _⟩ => rfl
  have er : k0_pay1 (View.ld SB (Rect.unit (s := S3x640x112) (k0_off14 i k) S1x128x112.size inb1)) x
      = View.ld SB (Rect.unit (s := S3x640x112) (k0_off14 i k) S1x128x112.size inb1) (ix3 0 (x 2) (x 1)) := by
    rw [ex]
    pointwise [k0_pay1]
  rw [er]
  show SB _ = SB _
  obtain ⟨a0, a1, a2⟩ := emb3 (k0_off14_eq i k) (inb := inb1) (ix3 0 (x 2) (x 1))
  refine congrArg SB (funext fun a => Fin.ext ?_)
  match a with
  | ⟨0, _⟩ => refine Eq.trans ?_ a0.symm; show (i 0).val % 3 = (i 0).val + 0; omega
  | ⟨1, _⟩ => refine Eq.trans ?_ a1.symm; show (128 * _ + _) % 640 = 128 * k.val + (x 2).val; rw [b0, b2]; omega
  | ⟨2, _⟩ => refine Eq.trans ?_ a2.symm; exact b1.trans (by show _ + (x 1).val = _ + (x 1).val; rfl)

variable {U : Type} [URA U] [CountersIn U]
variable (𝒱 : Variants) (c : Dev nD) (bd : Option 𝒱.V)
variable (i : grid0.Coords) (arg2 : Memref sig .tc .smem S3x20 .i32) (harg2 : arg2.IsWhole) (arg3 : Memref sig .tc .hbm S75x32x112x128 .fp8e4m3) (harg3 : arg3.IsWhole) (arg4 : Memref sig .tc .hbm S75x32x112 .f32) (harg4 : arg4.IsWhole) (arg5 : Memref sig .tc .vmem S256x256 .fp8e4m3) (harg5 : arg5.IsWhole) (arg6 : Memref sig .tc .vmem S256x256 .fp8e4m3) (harg6 : arg6.IsWhole) (arg7 : Memref sig .tc .vmem S1x16x64x640 .i8) (harg7 : arg7.IsWhole) (arg8 : Memref sig .tc .vmem S1x16x8x640 .fp8e4m3) (harg8 : arg8.IsWhole) (arg9 : Memref sig .tc .vmem S3x112 .f32) (harg9 : arg9.IsWhole) (arg10 : Memref sig .tc .vmem S2x640x16x128 .fp8e4m3) (harg10 : arg10.IsWhole) (arg11 : Memref sig .tc .vmem S3x640x112 .f32) (harg11 : arg11.IsWhole) (arg12 : Memref sig .tc .vmem S5x112x128 .f32) (harg12 : arg12.IsWhole) (arg13 : Memref sig .tc .vmem S5x256x256 .fp8e4m3) (harg13 : arg13.IsWhole) (arg14 : Memref sig .tc .vmem S4x8x640 .f32) (harg14 : arg14.IsWhole) (arg15 : Memref sig .tc .vmem S4x8x640 .f32) (harg15 : arg15.IsWhole) (arg16 : DmaSems sig S2) (arg17 : DmaSems sig S_)
variable (T : S3x20.Idx → BitVec 32) (hT : ∀ j, (T j).toNat < 75) (q2 q : PosShare TreeShare)

local notation "𝕄" => MT nD τ sig Unit (Elt F) ℕ U ℕ

/-- The tiles transposed so far. -/
def D12 (n : ℕ) (j : S5x112x128.Idx) : Prop := (j 0).val < n

set_option maxHeartbeats 4000000 in
theorem trip5 (h : k0_cond4 i = 1#1) (SB : Vec F S3x640x112 .f32) (k : Fin k0_t5_loop.trips) :
    iprop(owns (c : Thread nD τ) arg11 fullShare SB ∗ part (c : Thread nD τ) arg12 (D12 k.val) (STb (i 0).val SB))
      ⊢ (wp frame (wpE (defs₀ (F := F)) 𝒱 (c : Thread nD τ) bd) Set.univ
          (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h k ())
          (fun _ => iprop(owns (c : Thread nD τ) arg11 fullShare SB ∗ part (c : Thread nD τ) arg12 (D12 (k.val + 1)) (STb (i 0).val SB))) : sProp 𝕄) := by
  iintro ⟨H11, H12⟩
  unfold k0_t5_body
  simp only [wp_bind, wp_pure]
  iapply (own_load (defs := defs₀ (F := F)) 𝒱 (c : Thread nD τ) bd Set.univ) $$ H11
  iintro H11
  iapply (part_load (defs := defs₀ (F := F)) 𝒱 (c : Thread nD τ) bd Set.univ) $$ H12
  iintro %X H12
  iapply (part_store (defs := defs₀ (F := F)) 𝒱 (c : Thread nD τ) bd Set.univ (D12 (k.val + 1)) (fun x => pay1_at i k SB x) ?_) $$ H12
  · intro j hj
    have l1 : (j 1).val < 112 := (j 1).isLt
    have l2 : (j 2).val < 128 := (j 2).isLt
    rw [mem3 (k0_off15_eq k)]
    unfold D12 at hj ⊢
    omega
  iintro H12
  imodintro
  isplitl [H11]; · iexact H11
  iexact H12

set_option maxHeartbeats 4000000 in
theorem loop5 (h : k0_cond4 i = 1#1) (SB : Vec F S3x640x112 .f32) {Q : Unit → sProp 𝕄} :
    iprop(owns (c : Thread nD τ) arg11 fullShare SB ∗ any c arg12)
      ⊢ iprop((owns (c : Thread nD τ) arg11 fullShare SB ∗ owns (c : Thread nD τ) arg12 fullShare (STb (i 0).val SB) -∗ Q ()) -∗
        wp frame (wpE (defs₀ (F := F)) 𝒱 (c : Thread nD τ) bd) Set.univ
          (Scf.Loop.for k0_t5_loop (k0_t5_ok i h) () (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h)) Q) := by
  iintro ⟨H11, ⟨%X, H12⟩⟩ HK
  have et : Scf.trips k0_t5_loop.lb k0_t5_loop.ub k0_t5_loop.st = 5 := by decide
  unfold Scf.Loop.for
  iapply (Scf.wp_for frame (wpE (defs₀ (F := F)) 𝒱 (c : Thread nD τ) bd) Set.univ _ _ _ _ _ _
    (fun k _ => iprop(owns (c : Thread nD τ) arg11 fullShare SB ∗ part (c : Thread nD τ) arg12 (D12 k) (STb (i 0).val SB)))
    (fun k _ => trip5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 h SB k))
  isplitr [HK]
  · isplitl [H11]; · iexact H11
    iapply (part_intro (c : Thread nD τ) (D := D12 0) (fun j hj => absurd hj (by simp [D12]))) $$ H12
  iintro %a ⟨H11, H12⟩
  rw [et]
  iapply HK
  isplitl [H11]; · iexact H11
  iapply (part_full (c : Thread nD τ) (D := D12 5) (fun j => (j 0).isLt)) $$ H12

/-! ### The state between steps -/

theorem semC_inb (t : ℕ) : ∀ a, (![t % 2] : Fin 1 → ℕ) a + S1.size a ≤ S2.size a := by
  intro a
  match a with
  | ⟨0, _⟩ => show t % 2 + 1 ≤ 2; omega

/-- The semaphore of slot `t % 2`, and that slot's half of the codes. -/
def semC (t : ℕ) : DmaSem sig := ((arg16.slice (Rect.unit (s := S2) ![t % 2] S1.size (semC_inb t))).squeeze S_ squeezes_S1_S_).sem
def halfq (t : ℕ) : PosShare TreeShare := if t % 2 = 0 then fullShare.left else fullShare.right

theorem semC_eq {off : Fin 1 → ℕ} {t : ℕ} (h : off = ![t % 2]) {inb} :
    ((arg16.slice (Rect.unit (s := S2) off S1.size inb)).squeeze S_ squeezes_S1_S_).sem = semC arg16 t := by subst h; rfl

/-- Slot `t % 2` idle, and with step `t`'s codes on their way. -/
def idle (f3 : Buf (Elt F) (arg3.view.loc (c : Thread nD τ))) (t : ℕ) : sProp 𝕄 :=
  iprop(semVal ((c : Thread nD τ), .dma (semC arg16 t)) 0 ∗ (∃ f, arg10.view.loc (c : Thread nD τ) ↦[arg10.view.setOn (DFc t 0)]{fullShare} f)
    ∗ (arg3.view.loc (c : Thread nD τ) ↦[arg3.view.set]{halfq t} f3))
def flight (f3 : Buf (Elt F) (arg3.view.loc (c : Thread nD τ))) (t : ℕ) : sProp 𝕄 :=
  issuedC c arg3 arg10 T (halfq t) (semC arg16 t) t f3 20

theorem idle_congr (f3 : Buf (Elt F) (arg3.view.loc (c : Thread nD τ))) {t t' : ℕ} (h : t % 2 = t' % 2) :
    (idle c arg3 arg10 arg16 f3 t : sProp 𝕄) = idle c arg3 arg10 arg16 f3 t' := by
  have e1 : semC arg16 t = semC arg16 t' := by unfold semC; congr 4; rw [h]
  have e2 : DFc t 0 = DFc t' 0 := by unfold DFc; rw [h]
  have e3 : halfq t = halfq t' := by unfold halfq; rw [h]
  unfold idle
  rw [e1, e2, e3]

/-- The scales before the first copy, with all copies started, and landed. -/
def sc0 (f4 : Buf (Elt F) (arg4.view.loc (c : Thread nD τ))) : sProp 𝕄 :=
  iprop(semVal ((c : Thread nD τ), .dma arg17.sem) 0 ∗ any c arg11 ∗ (arg4.view.loc (c : Thread nD τ) ↦[arg4.view.set]{fullShare} f4))
def sc1 (f4 : Buf (Elt F) (arg4.view.loc (c : Thread nD τ))) : sProp 𝕄 :=
  iprop(semVal ((c : Thread nD τ), .dma arg17.sem) 0 ∗ owns (c : Thread nD τ) arg11 fullShare (scaleAt T (arg4.view.read (Elt F) f4))
    ∗ (arg4.view.loc (c : Thread nD τ) ↦[arg4.view.set]{fullShare} f4))

/-- The transposed scales before step `t`. -/
def stA (f4 : Buf (Elt F) (arg4.view.loc (c : Thread nD τ))) (t : ℕ) : sProp 𝕄 :=
  if t % 7 = 0 then any c arg12 else owns (c : Thread nD τ) arg12 fullShare (STb (t / 7) (scaleAt T (arg4.view.read (Elt F) f4)))

/-- The copies before step `t`. -/
def codesAt (f3 : Buf (Elt F) (arg3.view.loc (c : Thread nD τ))) (t : ℕ) : sProp 𝕄 :=
  if t = 0 ∨ 21 ≤ t then iprop(idle c arg3 arg10 arg16 f3 t ∗ idle c arg3 arg10 arg16 f3 (t + 1))
  else iprop(flight c arg3 arg10 arg16 T f3 t ∗ idle c arg3 arg10 arg16 f3 (t + 1))

/-- Everything of the kernel's own before step `t`. -/
def Own (f3 : Buf (Elt F) (arg3.view.loc (c : Thread nD τ))) (f4 : Buf (Elt F) (arg4.view.loc (c : Thread nD τ))) (t : ℕ) : sProp 𝕄 :=
  iprop(owns (c : Thread nD τ) arg2 q2 T
    ∗ (if t = 0 then sc0 c arg4 arg11 arg17 f4 else sc1 c arg4 arg11 arg17 T f4)
    ∗ stA c arg4 arg12 T f4 t ∗ codesAt c arg3 arg10 arg16 T f3 t ∗ any c arg13 ∗ any c arg14 ∗ any c arg15)

theorem any_open (m : Memref sig .tc .vmem S3x640x112 .f32) :
    any c m ⊢ (iprop(∃ f, m.view.loc (c : Thread nD τ) ↦[m.view.setOn (DFs 0)]{fullShare} f) : sProp 𝕄) := by
  rw [DFs_zero]
  iintro ⟨%X, H⟩
  ihave H' := (show owns (c : Thread nD τ) m fullShare X ⊢ (iprop(∃ g, ⌜m.view.read (Elt F) g = X⌝ ∗ m.view.loc (c : Thread nD τ) ↦[m.view.set]{fullShare} g) : sProp 𝕄) from .rfl) $$ H
  icases H' with ⟨%g, %hg, H⟩
  iexists g
  iexact H

theorem slot_all (m : Memref sig .tc .vmem S3x640x112 .f32) (X : Vec F S3x640x112 .f32) :
    slotOwn (c : Thread nD τ) m Finset.univ X ⊢ (owns (c : Thread nD τ) m fullShare X : sProp 𝕄) := by
  unfold slotOwn
  iintro ⟨%f, %hf, H⟩
  iapply (show (iprop(∃ g, ⌜m.view.read (Elt F) g = X⌝ ∗ m.view.loc (c : Thread nD τ) ↦[m.view.set]{fullShare} g) : sProp 𝕄) ⊢ owns (c : Thread nD τ) m fullShare X from .rfl)
  iexists f
  isplitr
  · ipureintro; exact funext fun j => hf j (Finset.mem_univ j)
  · iexact H

/-! ### The step, condition by condition -/

variable (f3 : Buf (Elt F) (arg3.view.loc (c : Thread nD τ))) (f4 : Buf (Elt F) (arg4.view.loc (c : Thread nD τ)))

set_option maxHeartbeats 4000000 in
include hT in
theorem stage1 (h : k0_cond1 i = 1#1) {R : Prog (TpuEff nD τ sig (Elt F) Λ₀ .tc) PUnit} {Q : PUnit → sProp 𝕄} :
    iprop(owns (c : Thread nD τ) arg2 q2 T ∗ sc0 c arg4 arg11 arg17 f4 ∗ idle c arg3 arg10 arg16 f3 0)
      ⊢ iprop((owns (c : Thread nD τ) arg2 q2 T ∗ issuedS c arg4 arg11 T fullShare arg17.sem f4 60 ∗ flight c arg3 arg10 arg16 T f3 0 -∗ wp frame (wpE (defs₀ (F := F)) 𝒱 (c : Thread nD τ) bd) Set.univ R Q) -∗
        wp frame (wpE (defs₀ (F := F)) 𝒱 (c : Thread nD τ) bd) Set.univ (do
          Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h)
          Scf.Loop.for k0_t2_loop (k0_t2_ok i h) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h)
          R) Q) := by
  unfold sc0 idle flight
  iintro ⟨H2, ⟨HS, H11, H4⟩, ⟨HS0, H10, H3⟩⟩ HK
  simp only [wp_bind]
  ihave H11' := (any_open c arg11) $$ H11
  imod (issue_start (c : Thread nD τ) arg11 arg4 arg17.sem 60 (NS arg11) DSs DFs (WSs T) (scaleAt T (arg4.view.read (Elt F) f4)) fullShare f4) $$ [HS H11' H4] with HI
  · isplitl [HS]; · iexact HS
    isplitl [H11']; · iexact H11'
    iexact H4
  iapply (loop1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 fullShare h f4) $$ [H2 HI]
  · isplitl [H2]; · iexact H2
    iexact HI
  iintro ⟨H2, HI⟩
  imod (issue_start (c : Thread nD τ) arg10 arg3 (semC arg16 0) 20 (NC arg10) (DSc 0) (DFc 0) (WSc T 0) (codeAt T (arg3.view.read (Elt F) f3) 0) (halfq 0) f3) $$ [HS0 H10 H3] with HC
  · isplitl [HS0]; · iexact HS0
    isplitl [H10]; · iexact H10
    iexact H3
  iapply (loop2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 (halfq 0) h (semC arg16 0) (semC_eq arg16 (t := 0) rfl) f3) $$ [H2 HC]
  · isplitl [H2]; · iexact H2
    iexact HC
  iintro ⟨H2, HC⟩
  iapply HK
  isplitl [H2]; · iexact H2
  isplitl [HI]; · iexact HI
  iexact HC

set_option maxHeartbeats 4000000 in
include hT in
theorem stage2 (h : k0_cond2 i = 1#1) {R : Prog (TpuEff nD τ sig (Elt F) Λ₀ .tc) PUnit} {Q : PUnit → sProp 𝕄} :
    iprop(owns (c : Thread nD τ) arg2 q2 T ∗ idle c arg3 arg10 arg16 f3 (7 * (i 0).val + (i 1).val + 1))
      ⊢ iprop((owns (c : Thread nD τ) arg2 q2 T ∗ flight c arg3 arg10 arg16 T f3 (7 * (i 0).val + (i 1).val + 1) -∗ wp frame (wpE (defs₀ (F := F)) 𝒱 (c : Thread nD τ) bd) Set.univ R Q) -∗
        wp frame (wpE (defs₀ (F := F)) 𝒱 (c : Thread nD τ) bd) Set.univ (do
          Scf.Loop.for k0_t3_loop (k0_t3_ok i h) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h)
          R) Q) := by
  unfold idle flight
  iintro ⟨H2, ⟨HS0, H10, H3⟩⟩ HK
  simp only [wp_bind]
  imod (issue_start (c : Thread nD τ) arg10 arg3 (semC arg16 (7 * (i 0).val + (i 1).val + 1)) 20 (NC arg10) (DSc (7 * (i 0).val + (i 1).val + 1)) (DFc (7 * (i 0).val + (i 1).val + 1)) (WSc T (7 * (i 0).val + (i 1).val + 1)) (codeAt T (arg3.view.read (Elt F) f3) (7 * (i 0).val + (i 1).val + 1)) (halfq (7 * (i 0).val + (i 1).val + 1)) f3) $$ [HS0 H10 H3] with HC
  · isplitl [HS0]; · iexact HS0
    isplitl [H10]; · iexact H10
    iexact H3
  iapply (loop3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 (halfq (7 * (i 0).val + (i 1).val + 1)) h (semC arg16 (7 * (i 0).val + (i 1).val + 1))
    (semC_eq arg16 ((k0_off8_eq i).trans (by rw [show 1 - (7 * (i 0).val + (i 1).val) % 2 = (7 * (i 0).val + (i 1).val + 1) % 2 by omega]))) f3) $$ [H2 HC]
  · isplitl [H2]; · iexact H2
    iexact HC
  iintro ⟨H2, HC⟩
  iapply HK
  isplitl [H2]; · iexact H2
  iexact HC

set_option maxHeartbeats 4000000 in
include hT in
theorem stage3 (h : k0_cond3 i = 1#1) {R : Prog (TpuEff nD τ sig (Elt F) Λ₀ .tc) PUnit} {Q : PUnit → sProp 𝕄} :
    iprop(owns (c : Thread nD τ) arg2 q2 T ∗ (∃ W, owes (c : Thread nD τ) 0 W) ∗ issuedS c arg4 arg11 T fullShare arg17.sem f4 60)
      ⊢ iprop((owns (c : Thread nD τ) arg2 q2 T ∗ (∃ W, owes (c : Thread nD τ) 0 W) ∗ sc1 c arg4 arg11 arg17 T f4 -∗ wp frame (wpE (defs₀ (F := F)) 𝒱 (c : Thread nD τ) bd) Set.univ R Q) -∗
        wp frame (wpE (defs₀ (F := F)) 𝒱 (c : Thread nD τ) bd) Set.univ (do
          Scf.Loop.for k0_t4_loop (k0_t4_ok i h) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h)
          R) Q) := by
  unfold sc1 issuedS issued
  iintro ⟨H2, HO, ⟨HB, -, HK4⟩⟩ HK
  simp only [wp_bind]
  iapply (loop4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 fullShare h f4) $$ [H2 HO HB]
  · isplitl [H2]; · iexact H2
    unfold drainS draining
    isplitl [HO]; · iexact HO
    rw [if_pos (by decide), Nat.zero_mul]
    iexact HB
  iintro ⟨H2, HD⟩
  ihave HD' := (drain_done (c : Thread nD τ) arg11 arg4 arg17.sem 60 (NS arg11) DSs (WSs T) (scaleAt T (arg4.view.read (Elt F) f4)) fullShare f4 DSs_disj) $$ [HD HK4]
  · isplitl [HD]; · iexact HD
    iexact HK4
  icases HD' with ⟨HO, HS, H11, H4⟩
  rw [DSs_union]
  iapply HK
  isplitl [H2]; · iexact H2
  isplitl [HO]; · iexact HO
  isplitl [HS]; · iexact HS
  isplitl [H11]; · iapply (slot_all c arg11 _) $$ H11
  iexact H4

set_option maxHeartbeats 4000000 in
theorem stage4 (h : k0_cond4 i = 1#1) (SB : Vec F S3x640x112 .f32) {R : Prog (TpuEff nD τ sig (Elt F) Λ₀ .tc) PUnit} {Q : PUnit → sProp 𝕄} :
    iprop(owns (c : Thread nD τ) arg11 fullShare SB ∗ any c arg12)
      ⊢ iprop((owns (c : Thread nD τ) arg11 fullShare SB ∗ owns (c : Thread nD τ) arg12 fullShare (STb (i 0).val SB) -∗ wp frame (wpE (defs₀ (F := F)) 𝒱 (c : Thread nD τ) bd) Set.univ R Q) -∗
        wp frame (wpE (defs₀ (F := F)) 𝒱 (c : Thread nD τ) bd) Set.univ (do
          Scf.Loop.for k0_t5_loop (k0_t5_ok i h) ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h)
          R) Q) := by
  iintro H HK
  simp only [wp_bind]
  iapply (loop5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 h SB) $$ H
  iintro H
  iapply HK
  iexact H

set_option maxHeartbeats 4000000 in
include hT in
theorem stage6 {Q : Unit → sProp 𝕄} :
    iprop(owns (c : Thread nD τ) arg2 q2 T ∗ (∃ W, owes (c : Thread nD τ) 0 W) ∗ flight c arg3 arg10 arg16 T f3 (7 * (i 0).val + (i 1).val))
      ⊢ iprop((owns (c : Thread nD τ) arg2 q2 T ∗ (∃ W, owes (c : Thread nD τ) 0 W)
            ∗ slotOwn (c : Thread nD τ) arg10 (slot i) (codeAt T (arg3.view.read (Elt F) f3) (7 * (i 0).val + (i 1).val))
            ∗ semVal ((c : Thread nD τ), .dma (semC arg16 (7 * (i 0).val + (i 1).val))) 0
            ∗ (arg3.view.loc (c : Thread nD τ) ↦[arg3.view.set]{halfq (7 * (i 0).val + (i 1).val)} f3) -∗ Q ()) -∗
        wp frame (wpE (defs₀ (F := F)) 𝒱 (c : Thread nD τ) bd) Set.univ
          (Scf.Loop.for k0_t6_loop k0_t6_ok ⟨⟩ (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17)) Q) := by
  unfold flight issuedC issued
  iintro ⟨H2, HO, ⟨HB, -, HK3⟩⟩ HK
  iapply (loop6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 (halfq (7 * (i 0).val + (i 1).val)) (semC arg16 (7 * (i 0).val + (i 1).val)) (semC_eq arg16 (k0_off17_eq i)) f3) $$ [H2 HO HB]
  · isplitl [H2]; · iexact H2
    unfold drainC draining
    isplitl [HO]; · iexact HO
    rw [if_pos (by decide), Nat.zero_mul]
    iexact HB
  iintro ⟨H2, HD⟩
  ihave HD' := (drain_done (c : Thread nD τ) arg10 arg3 (semC arg16 (7 * (i 0).val + (i 1).val)) 20 (NC arg10) (DSc (7 * (i 0).val + (i 1).val)) (WSc T (7 * (i 0).val + (i 1).val)) (codeAt T (arg3.view.read (Elt F) f3) (7 * (i 0).val + (i 1).val)) (halfq (7 * (i 0).val + (i 1).val)) f3 (DSc_disj _)) $$ [HD HK3]
  · isplitl [HD]; · iexact HD
    iexact HK3
  icases HD' with ⟨HO, HS, H10, H3⟩
  rw [DSc_union, slot_eq]
  iapply HK
  isplitl [H2]; · iexact H2
  isplitl [HO]; · iexact HO
  isplitl [H10]; · iexact H10
  isplitl [HS]; · iexact HS
  iexact H3

/-! ### The step -/

set_option maxHeartbeats 4000000 in
include hT in
theorem cond1_step {R : Prog (TpuEff nD τ sig (Elt F) Λ₀ .tc) PUnit} {Q : PUnit → sProp 𝕄} :
    iprop(owns (c : Thread nD τ) arg2 q2 T ∗ (if 7 * (i 0).val + (i 1).val = 0 then sc0 c arg4 arg11 arg17 f4 else sc1 c arg4 arg11 arg17 T f4)
        ∗ codesAt c arg3 arg10 arg16 T f3 (7 * (i 0).val + (i 1).val))
      ⊢ iprop((owns (c : Thread nD τ) arg2 q2 T ∗ (if 7 * (i 0).val + (i 1).val = 0 then issuedS c arg4 arg11 T fullShare arg17.sem f4 60 else sc1 c arg4 arg11 arg17 T f4)
            ∗ flight c arg3 arg10 arg16 T f3 (7 * (i 0).val + (i 1).val) ∗ idle c arg3 arg10 arg16 f3 (7 * (i 0).val + (i 1).val + 1) -∗ wp frame (wpE (defs₀ (F := F)) 𝒱 (c : Thread nD τ) bd) Set.univ R Q) -∗
        wp frame (wpE (defs₀ (F := F)) 𝒱 (c : Thread nD τ) bd) Set.univ (if h : k0_cond1 i = 1#1 then (do
          Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h)
          Scf.Loop.for k0_t2_loop (k0_t2_ok i h) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h)
          R) else R) Q) := by
  have hi0 : (i 0).val < 3 := (i 0).isLt
  have hi1 : (i 1).val < 7 := (i 1).isLt
  unfold codesAt
  by_cases hz : 7 * (i 0).val + (i 1).val = 0
  · have hc := (cond1 i).mpr hz
    rw [if_pos hz, if_pos hz, if_pos (Or.inl hz), dif_pos hc, hz]
    iintro ⟨H2, HS, HI, HJ⟩ HK
    iapply (stage1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 f3 f4 hc) $$ [H2 HS HI]
    · isplitl [H2]; · iexact H2
      isplitl [HS]; · iexact HS
      iexact HI
    iintro ⟨H2, HS, HI⟩
    iapply HK
    isplitl [H2]; · iexact H2
    isplitl [HS]; · iexact HS
    isplitl [HI]; · iexact HI
    iexact HJ
  · rw [if_neg hz, if_neg hz, if_neg (by omega), dif_neg (fun h => hz ((cond1 i).mp h))]
    iintro H HK
    iapply HK
    iexact H

set_option maxHeartbeats 4000000 in
include hT in
theorem cond2_step {R : Prog (TpuEff nD τ sig (Elt F) Λ₀ .tc) PUnit} {Q : PUnit → sProp 𝕄} :
    iprop(owns (c : Thread nD τ) arg2 q2 T ∗ idle c arg3 arg10 arg16 f3 (7 * (i 0).val + (i 1).val + 1))
      ⊢ iprop((owns (c : Thread nD τ) arg2 q2 T
            ∗ (if 7 * (i 0).val + (i 1).val + 1 < 21 then flight c arg3 arg10 arg16 T f3 (7 * (i 0).val + (i 1).val + 1) else idle c arg3 arg10 arg16 f3 (7 * (i 0).val + (i 1).val + 1)) -∗ wp frame (wpE (defs₀ (F := F)) 𝒱 (c : Thread nD τ) bd) Set.univ R Q) -∗
        wp frame (wpE (defs₀ (F := F)) 𝒱 (c : Thread nD τ) bd) Set.univ (if h : k0_cond2 i = 1#1 then (do
          Scf.Loop.for k0_t3_loop (k0_t3_ok i h) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h)
          R) else R) Q) := by
  by_cases hz : 7 * (i 0).val + (i 1).val + 1 < 21
  · rw [if_pos hz, dif_pos ((cond2 i).mpr hz)]
    iintro H HK
    iapply (stage2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 f3 ((cond2 i).mpr hz)) $$ H
    iintro H
    iapply HK
    iexact H
  · rw [if_neg hz, dif_neg (fun h => hz ((cond2 i).mp h))]
    iintro H HK
    iapply HK
    iexact H

set_option maxHeartbeats 4000000 in
include hT in
theorem cond3_step {R : Prog (TpuEff nD τ sig (Elt F) Λ₀ .tc) PUnit} {Q : PUnit → sProp 𝕄} :
    iprop(owns (c : Thread nD τ) arg2 q2 T ∗ (∃ W, owes (c : Thread nD τ) 0 W)
        ∗ (if 7 * (i 0).val + (i 1).val = 0 then issuedS c arg4 arg11 T fullShare arg17.sem f4 60 else sc1 c arg4 arg11 arg17 T f4))
      ⊢ iprop((owns (c : Thread nD τ) arg2 q2 T ∗ (∃ W, owes (c : Thread nD τ) 0 W) ∗ sc1 c arg4 arg11 arg17 T f4 -∗ wp frame (wpE (defs₀ (F := F)) 𝒱 (c : Thread nD τ) bd) Set.univ R Q) -∗
        wp frame (wpE (defs₀ (F := F)) 𝒱 (c : Thread nD τ) bd) Set.univ (if h : k0_cond3 i = 1#1 then (do
          Scf.Loop.for k0_t4_loop (k0_t4_ok i h) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h)
          R) else R) Q) := by
  by_cases hz : 7 * (i 0).val + (i 1).val = 0
  · rw [if_pos hz, dif_pos ((cond3 i).mpr hz)]
    iintro H HK
    iapply (stage3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 f4 ((cond3 i).mpr hz)) $$ H
    iintro H
    iapply HK
    iexact H
  · rw [if_neg hz, dif_neg (fun h => hz ((cond3 i).mp h))]
    iintro H HK
    iapply HK
    iexact H

set_option maxHeartbeats 4000000 in
theorem cond4_step {R : Prog (TpuEff nD τ sig (Elt F) Λ₀ .tc) PUnit} {Q : PUnit → sProp 𝕄} :
    iprop(owns (c : Thread nD τ) arg11 fullShare (scaleAt T (arg4.view.read (Elt F) f4)) ∗ stA c arg4 arg12 T f4 (7 * (i 0).val + (i 1).val))
      ⊢ iprop((owns (c : Thread nD τ) arg11 fullShare (scaleAt T (arg4.view.read (Elt F) f4))
            ∗ owns (c : Thread nD τ) arg12 fullShare (STb (i 0).val (scaleAt T (arg4.view.read (Elt F) f4))) -∗ wp frame (wpE (defs₀ (F := F)) 𝒱 (c : Thread nD τ) bd) Set.univ R Q) -∗
        wp frame (wpE (defs₀ (F := F)) 𝒱 (c : Thread nD τ) bd) Set.univ (if h : k0_cond4 i = 1#1 then (do
          Scf.Loop.for k0_t5_loop (k0_t5_ok i h) ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 h)
          R) else R) Q) := by
  have hi1 : (i 1).val < 7 := (i 1).isLt
  unfold stA
  by_cases hz : (i 1).val = 0
  · rw [if_pos (by omega), dif_pos ((cond4 i).mpr hz)]
    iintro H HK
    iapply (stage4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 ((cond4 i).mpr hz) (scaleAt T (arg4.view.read (Elt F) f4))) $$ H
    iintro H
    iapply HK
    iexact H
  · rw [if_neg (by omega), dif_neg (fun h => hz ((cond4 i).mp h)), show (7 * (i 0).val + (i 1).val) / 7 = (i 0).val by omega]
    iintro H HK
    iapply HK
    iexact H

set_option maxHeartbeats 8000000 in
include hT in
/-- One grid step. -/
theorem step (P1 P2 : Vec F S256x256 .fp8e4m3) (q5 q6 : PosShare TreeShare) (Y : Vec F S3x112 .f32) (X7 : Vec F S1x16x64x640 .i8) (X8 : Vec F S1x16x8x640 .fp8e4m3) :
    iprop(Own c arg2 arg3 arg4 arg10 arg11 arg12 arg13 arg14 arg15 arg16 arg17 T q2 f3 f4 (7 * (i 0).val + (i 1).val) ∗ (∃ W, owes (c : Thread nD τ) 0 W)
        ∗ owns (c : Thread nD τ) arg5 q5 P1 ∗ owns (c : Thread nD τ) arg6 q6 P2 ∗ owns (c : Thread nD τ) arg7 fullShare X7
        ∗ owns (c : Thread nD τ) arg8 fullShare X8 ∗ owns (c : Thread nD τ) arg9 fullShare Y)
      ⊢ (wp frame (wpE (defs₀ (F := F)) 𝒱 (c : Thread nD τ) bd) Set.univ (cc0_kv_to_nvfp4 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17) (fun _ =>
          iprop(Own c arg2 arg3 arg4 arg10 arg11 arg12 arg13 arg14 arg15 arg16 arg17 T q2 f3 f4 (7 * (i 0).val + (i 1).val + 1) ∗ (∃ W, owes (c : Thread nD τ) 0 W)
            ∗ owns (c : Thread nD τ) arg5 q5 P1 ∗ owns (c : Thread nD τ) arg6 q6 P2
            ∗ owns (c : Thread nD τ) arg7 fullShare (COD i (codeAt T (arg3.view.read (Elt F) f3) (7 * (i 0).val + (i 1).val)) (STb (i 0).val (scaleAt T (arg4.view.read (Elt F) f4))) P1 P2)
            ∗ owns (c : Thread nD τ) arg8 fullShare (BS i (codeAt T (arg3.view.read (Elt F) f3) (7 * (i 0).val + (i 1).val)) (STb (i 0).val (scaleAt T (arg4.view.read (Elt F) f4))) P1)
            ∗ owns (c : Thread nD τ) arg9 fullShare (gIt i (codeAt T (arg3.view.read (Elt F) f3) (7 * (i 0).val + (i 1).val)) (STb (i 0).val (scaleAt T (arg4.view.read (Elt F) f4))) P1 Y k0_t7_loop.trips))) : sProp 𝕄) := by
  have hi0 : (i 0).val < 3 := (i 0).isLt
  have hi1 : (i 1).val < 7 := (i 1).isLt
  unfold Own
  iintro ⟨⟨H2, HS, HST, HC, H13, H14, H15⟩, HO, H5, H6, H7, H8, H9⟩
  rw [cc0_kv_to_nvfp4_eq_skeleton]
  unfold cc0_kv_to_nvfp4_skel
  simp only [wp_bind]
  iapply (cond1_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 f3 f4) $$ [H2 HS HC]
  · isplitl [H2]; · iexact H2
    isplitl [HS]; · iexact HS
    iexact HC
  iintro ⟨H2, HS, HF, HI⟩
  iapply (cond2_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 f3) $$ [H2 HI]
  · isplitl [H2]; · iexact H2
    iexact HI
  iintro ⟨H2, HI⟩
  iapply (cond3_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 f4) $$ [H2 HO HS]
  · isplitl [H2]; · iexact H2
    isplitl [HO]; · iexact HO
    iexact HS
  iintro ⟨H2, HO, HS⟩
  ihave HS' := (Entails.of_eq (show sc1 c arg4 arg11 arg17 T f4 = (iprop(semVal ((c : Thread nD τ), .dma arg17.sem) 0 ∗ owns (c : Thread nD τ) arg11 fullShare (scaleAt T (arg4.view.read (Elt F) f4))
    ∗ (arg4.view.loc (c : Thread nD τ) ↦[arg4.view.set]{fullShare} f4)) : sProp 𝕄) from rfl)) $$ HS
  icases HS' with ⟨HV, H11, H4⟩
  iapply (cond4_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T f4) $$ [H11 HST]
  · isplitl [H11]; · iexact H11
    iexact HST
  iintro ⟨H11, H12⟩
  simp only [wp_bind, wp_pure]
  iapply (stage6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 arg17 T hT q2 f3) $$ [H2 HO HF]
  · isplitl [H2]; · iexact H2
    isplitl [HO]; · iexact HO
    iexact HF
  iintro ⟨H2, HO, H10, HV0, H3⟩
  iapply (loop7 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 arg17 (codeAt T (arg3.view.read (Elt F) f3) (7 * (i 0).val + (i 1).val)) (STb (i 0).val (scaleAt T (arg4.view.read (Elt F) f4))) P1 P2 q5 q6 Y _) $$ [H10 H5 H6 H12 H13 H14 H15 H7 H8 H9]
  · isplitl [H10]; · iexact H10
    isplitl [H5]; · iexact H5
    isplitl [H6]; · iexact H6
    isplitl [H12]; · iexact H12
    isplitl [H13]; · iexact H13
    isplitl [H14]; · iexact H14
    isplitl [H15]; · iexact H15
    isplitl [H7]; · iexists _; iexact H7
    isplitl [H8]; · iexists _; iexact H8
    iexact H9
  iintro ⟨H10, H5, H6, H12, H13, H14, H15, H7, H8, H9⟩
  imodintro
  isplitr [HO H5 H6 H7 H8 H9]
  · isplitl [H2]; · iexact H2
    isplitl [HV H11 H4]
    · rw [if_neg (by omega)]
      unfold sc1
      isplitl [HV]; · iexact HV
      isplitl [H11]; · iexact H11
      iexact H4
    isplitl [H12]
    · unfold stA
      by_cases h7 : (7 * (i 0).val + (i 1).val + 1) % 7 = 0
      · rw [if_pos h7]; iexists _; iexact H12
      · rw [if_neg h7, show (7 * (i 0).val + (i 1).val + 1) / 7 = (i 0).val by omega]; iexact H12
    isplitr [H13 H14 H15]
    · ihave HJ := (show iprop(slotOwn (c : Thread nD τ) arg10 (slot i) (codeAt T (arg3.view.read (Elt F) f3) (7 * (i 0).val + (i 1).val))
          ∗ semVal ((c : Thread nD τ), .dma (semC arg16 (7 * (i 0).val + (i 1).val))) 0 ∗ (arg3.view.loc (c : Thread nD τ) ↦[arg3.view.set]{halfq (7 * (i 0).val + (i 1).val)} f3))
          ⊢ (idle c arg3 arg10 arg16 f3 (7 * (i 0).val + (i 1).val + 1 + 1) : sProp 𝕄) from by
        rw [idle_congr c arg3 arg10 arg16 f3 (show (7 * (i 0).val + (i 1).val + 1 + 1) % 2 = (7 * (i 0).val + (i 1).val) % 2 by omega)]
        unfold idle slotOwn
        rw [slot_eq]
        iintro ⟨⟨%f, -, H⟩, HV, H3⟩
        isplitl [HV]; · iexact HV
        isplitl [H]; · iexists f; iexact H
        iexact H3) $$ [H10 HV0 H3]
      · isplitl [H10]; · iexact H10
        isplitl [HV0]; · iexact HV0
        iexact H3
      unfold codesAt
      by_cases hz : 7 * (i 0).val + (i 1).val + 1 < 21
      · ihave HI := (Entails.of_eq (if_pos hz)) $$ HI
        rw [if_neg (by omega)]
        isplitl [HI]; · iexact HI
        iexact HJ
      · ihave HI := (Entails.of_eq (if_neg hz)) $$ HI
        rw [if_pos (by omega)]
        isplitl [HI]; · iexact HI
        iexact HJ
    isplitl [H13]; · iexact H13
    isplitl [H14]; · iexact H14
    iexact H15
  isplitl [HO]; · iexact HO
  isplitl [H5]; · iexact H5
  isplitl [H6]; · iexact H6
  isplitl [H7]; · iexact H7
  isplitl [H8]; · iexact H8
  iexact H9

end Cert.KernelIdeal.Compute

end
-- ==== Proof.Run.lean ====
/-
  The launch: what each core's arrays hold when the grid starts, what the body leaves in every window's
  buffer at each grid point, and the run — every argument unchanged, every semaphore back at zero, and the
  result arrays made of what the body left at the points that write them back.
-/
module

public import proofs.«01_k».proof.Proof.Body
public import proofs.«01_k».proof.Proof.Gen.KernelIdeal.Launch
public import Idealize.ShloMosaic.Lib.Pipeline.FrameBody
public import Idealize.ShloMosaic.Lib.Pipeline.ArrRel
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.KernelIdeal.Gen Cert.KernelIdeal.Spec Cert.KernelIdeal.Fill Cert.KernelIdeal.Gather Cert.KernelIdeal.Compute Cert.Own

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The host operations before the grid, stretch by stretch. -/
abbrev opss : List (List (HloOp τ sig (Elt F))) := [hostOps0, hostOps0_1, hostOps0_2]

/-- Core `c`'s buffers when the grid starts. -/
def V (c : Dev nD) (b : Ref sig .tc) : Buf (Elt F) ((c : Thread nD τ).loc b) := StableHlo.after opss.flatten (fun b => m (c, b)) b

theorem opss_sub : (opss (F := F)).Forall fun ops => ops.Forall fun op => op.bufs ⊆ StableHlo.tcRefs τ sig :=
  ⟨hostOps0_sub, hostOps0_1_sub, hostOps0_2_sub⟩

theorem opss_fresh : (opss (F := F)).Forall fun ops => ops.Forall fun op => op.fresh = ∅ := by
  simp only [List.Forall]; repeat' constructor

set_option maxHeartbeats 1000000 in
theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefixes pcfgs 0 defs₀ 𝒱₀ m main opss opss_sub opss_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## What the grid works on -/

/-- The page table, the two caches and the two selectors, as the grid finds them. -/
def TT (c : Dev nD) : S3x20.Idx → BitVec 32 := V m c main_arg2
def A3 (c : Dev nD) : Vec F S75x32x112x128 .fp8e4m3 := V m c main_arg0
def A4 (c : Dev nD) : Vec F S75x32x112 .f32 := V m c main_arg1
def P1 (c : Dev nD) : Vec F S256x256 .fp8e4m3 := V m c main_v18
def P2 (c : Dev nD) : Vec F S256x256 .fp8e4m3 := V m c main_v25

/-- The codes and scales a grid point works on. -/
def CB (c : Dev nD) (i : grid0.Coords) : Vec F S2x640x16x128 .fp8e4m3 := codeAt (TT m c) (A3 m c) (7 * (i 0).val + (i 1).val)
def SB (c : Dev nD) (i : grid0.Coords) : Vec F S5x112x128 .f32 := STb (i 0).val (scaleAt (TT m c) (A4 m c))

/-- The table's contents the grid is pinned at. -/
def adm : (p : Fin 1) → (pcfgs (F := F) p).Adm := fun _ => ⟨fun k => V m 0 (pre0.ref k), trivial⟩

/-- The kernel's own buffers and semaphores before step `t`, and the generator register. -/
def Inv (c : Dev nD) (t : ℕ) : sProp 𝕄 :=
  iprop(Own c (Memref.whole main_arg2) (Memref.whole main_arg0) (Memref.whole main_arg1) (Memref.whole cc0_scratch0) (Memref.whole cc0_scratch1)
      (Memref.whole cc0_scratch2) (Memref.whole cc0_scratch3) (Memref.whole cc0_scratch4) (Memref.whole cc0_scratch5) cc0_scratch6 cc0_scratch7
      (TT m c) fullShare.right (A3 m c) (A4 m c) t
    ∗ (∃ r, prngReg c r))

/-- What each core's arrays hold, and what the body may leave in each window's buffer. -/
def rdat (c : Dev nD) : RDat τ (Elt F) Unit ℕ (Pipeline.UD sig nD τ) ℕ (cfg0 (adm m 0)) c where
  A w := V m c (Pipeline.arrRef spec0 w)
  after w t := match w with
    | ⟨0, _⟩ => fun Y X => X = Y
    | ⟨1, _⟩ => fun Y X => X = Y
    | ⟨2, _⟩ => fun _ X => X = COD (grid0.coords t) (CB m c (grid0.coords t)) (SB m c (grid0.coords t)) (P1 m c) (P2 m c)
    | ⟨3, _⟩ => fun _ X => X = BS (grid0.coords t) (CB m c (grid0.coords t)) (SB m c (grid0.coords t)) (P1 m c)
    | ⟨4, _⟩ => fun Y X => X = gIt (grid0.coords t) (CB m c (grid0.coords t)) (SB m c (grid0.coords t)) (P1 m c) Y k0_t7_loop.trips
  Φ t := Inv m c t.val
  q _ := fullShare
  owed _ := 0

theorem coords_val (t : Fin grid0.N) : 7 * (grid0.coords t 0).val + (grid0.coords t 1).val = t.val := by
  revert t; decide

theorem defs₀_row (t : Fin (cfg0 (adm m 0)).N) :
    defs₀ (F := F) .tc (cfg0 (adm m 0)).body ((cfg0 (adm m 0)).bodyArgs t ((cfg0 (adm m 0)).slots t))
      = cc0_kv_to_nvfp4 (grid0.coords t) (Memref.whole main_arg2) (Memref.isWhole_whole _) (Memref.whole main_arg0) (Memref.isWhole_whole _) (Memref.whole main_arg1) (Memref.isWhole_whole _)
          (spec0_0.stage ((cfg0 (adm m 0)).slots t 0)) (hstage0_0 (((cfg0 (adm m 0)).slots t 0).cast nbuf0_0)) (spec0_1.stage ((cfg0 (adm m 0)).slots t 1)) (hstage0_1 (((cfg0 (adm m 0)).slots t 1).cast nbuf0_1))
          (spec0_2.stage ((cfg0 (adm m 0)).slots t 2)) (hstage0_2 (((cfg0 (adm m 0)).slots t 2).cast nbuf0_2)) (spec0_3.stage ((cfg0 (adm m 0)).slots t 3)) (hstage0_3 (((cfg0 (adm m 0)).slots t 3).cast nbuf0_3))
          (spec0_4.stage ((cfg0 (adm m 0)).slots t 4)) (hstage0_4 (((cfg0 (adm m 0)).slots t 4).cast nbuf0_4))
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _) cc0_scratch6 cc0_scratch7 := by
  unfold defs₀; rw [Defs.onTc_tc]

/-- The selectors' windows hold the whole selectors at every point. -/
theorem emb0 (t : Fin (cfg0 (adm m 0)).N) (j : S256x256.Idx) : (((cfg0 (adm m 0)).win 0).blk t).view.emb j = j := by
  funext a
  apply Fin.ext
  match a with
  | ⟨0, _⟩ => show 0 * 256 + 1 * (j 0).val = (j 0).val; omega
  | ⟨1, _⟩ => show 0 * 256 + 1 * (j 1).val = (j 1).val; omega
theorem emb1 (t : Fin (cfg0 (adm m 0)).N) (j : S256x256.Idx) : (((cfg0 (adm m 0)).win 1).blk t).view.emb j = j := by
  funext a
  apply Fin.ext
  match a with
  | ⟨0, _⟩ => show 0 * 256 + 1 * (j 0).val = (j 0).val; omega
  | ⟨1, _⟩ => show 0 * 256 + 1 * (j 1).val = (j 1).val; omega

theorem finds0 (c : Dev nD) (t : Fin (cfg0 (adm m 0)).N) (Y) (h : (rdat m c).Finds 0 t Y) : Y = P1 m c := by
  obtain ⟨d, hd⟩ := (rdat m c).finds_in_eq_fetched 0 rfl (fun _ _ _ => rfl) (fun _ _ _ h => h) t Y h
  rw [hd]
  funext j
  show V m c main_v18 ((((cfg0 (adm m 0)).win 0).blk t).view.emb j) = V m c main_v18 j
  exact congrArg (V m c main_v18) (emb0 m t j)
theorem finds1 (c : Dev nD) (t : Fin (cfg0 (adm m 0)).N) (Y) (h : (rdat m c).Finds 1 t Y) : Y = P2 m c := by
  obtain ⟨d, hd⟩ := (rdat m c).finds_in_eq_fetched 1 rfl (fun _ _ _ => rfl) (fun _ _ _ h => h) t Y h
  rw [hd]
  funext j
  show V m c main_v25 ((((cfg0 (adm m 0)).win 1).blk t).view.emb j) = V m c main_v25 j
  exact congrArg (V m c main_v25) (emb1 m t j)

set_option maxHeartbeats 4000000 in
/-- The body at any point. -/
theorem body_obligation (c : Dev nD) (hT : ∀ j, (TT m c j).toNat < 75) :
    (rdat m c).BodyObligation (defs₀ (F := F)) Variants.none () Set.univ := fun t Y hY => by
  rw [bigSep_W0, bigSep_W0, defs₀_row m]
  have e0 := finds0 m c t (Y 0) (hY 0)
  have e1 := finds1 m c t (Y 1) (hY 1)
  have ht := coords_val t
  iintro ⟨HΦ, ⟨%W, %hW, HO⟩, H0, H1, H2, H3, H4⟩
  ihave HΦ := (Entails.of_eq (show (rdat m c).Φ t.castSucc = Inv m c (7 * (grid0.coords t 0).val + (grid0.coords t 1).val) from by
    rw [ht]; rfl)) $$ HΦ
  unfold Inv
  icases HΦ with ⟨HI, HP⟩
  ihave HW := (step Variants.none c none (grid0.coords t) (Memref.whole main_arg2) (Memref.isWhole_whole _) (Memref.whole main_arg0) (Memref.isWhole_whole _) (Memref.whole main_arg1) (Memref.isWhole_whole _) (spec0_0.stage ((cfg0 (adm m 0)).slots t 0)) (hstage0_0 (((cfg0 (adm m 0)).slots t 0).cast nbuf0_0)) (spec0_1.stage ((cfg0 (adm m 0)).slots t 1)) (hstage0_1 (((cfg0 (adm m 0)).slots t 1).cast nbuf0_1)) (spec0_2.stage ((cfg0 (adm m 0)).slots t 2)) (hstage0_2 (((cfg0 (adm m 0)).slots t 2).cast nbuf0_2)) (spec0_3.stage ((cfg0 (adm m 0)).slots t 3)) (hstage0_3 (((cfg0 (adm m 0)).slots t 3).cast nbuf0_3)) (spec0_4.stage ((cfg0 (adm m 0)).slots t 4)) (hstage0_4 (((cfg0 (adm m 0)).slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7
    (TT m c) hT fullShare.right (A3 m c) (A4 m c) (P1 m c) (P2 m c) fullShare fullShare (Y 4) (Y 2) (Y 3)) $$ [HI HO H0 H1 H2 H3 H4]
  · isplitl [HI]; · iexact HI
    isplitl [HO]; · iexists W; iexact HO
    isplitl [H0]
    · iapply (Entails.of_eq (congrArg (fun X => (owns (c : Thread nD τ) (spec0_0.stage ((cfg0 (adm m 0)).slots t 0)) fullShare X : sProp 𝕄)) e0)) $$ H0
    isplitl [H1]
    · iapply (Entails.of_eq (congrArg (fun X => (owns (c : Thread nD τ) (spec0_1.stage ((cfg0 (adm m 0)).slots t 1)) fullShare X : sProp 𝕄)) e1)) $$ H1
    isplitl [H2]; · iexact H2
    isplitl [H3]; · iexact H3
    iexact H4
  iapply (wp_wand _ _ _) $$ HW
  iintro %_ ⟨HI, ⟨%W', HO⟩, H0, H1, H2, H3, H4⟩
  isplitl [HI HP]
  · iapply (Entails.of_eq (show Inv m c (7 * (grid0.coords t 0).val + (grid0.coords t 1).val + 1) = (rdat m c).Φ t.succ from by
      rw [ht]; rfl))
    unfold Inv
    isplitl [HI]; · iexact HI
    iexact HP
  isplitl [HO]
  · iexists W'
    isplitr
    · ipureintro; exact fun _ _ => Or.inl trivial
    · iexact HO
  isplitl [H0]
  · iexists _
    isplitr
    swap; · iexact H0
    · ipureintro; exact e0.symm
  isplitl [H1]
  · iexists _
    isplitr
    swap; · iexact H1
    · ipureintro; exact e1.symm
  isplitl [H2]
  · iexists _
    isplitr
    swap; · iexact H2
    · ipureintro; rfl
  isplitl [H3]
  · iexists _
    isplitr
    swap; · iexact H3
    · ipureintro; rfl
  iexists _
  isplitr
  swap; · iexact H4
  · ipureintro; rfl

/-! ## The invariant at the ends -/

/-- The kernel's own semaphores. -/
def osem : Fin 3 → SemLoc sig := ![.dma (semC cc0_scratch6 0), .dma (semC cc0_scratch6 1), .dma cc0_scratch7.sem]

theorem ownSem : Pipeline.OwnSemFacts spec0 osem := by decide

/-- The caches, which the kernel reads itself. -/
def HH : Finset (Ref sig .tc) := {main_arg0, main_arg1}

theorem HH_sub : HH ⊆ Pipeline.restRefsP sig pre0 spec0 := by
  intro b hb
  simp only [HH, Finset.mem_insert, Finset.mem_singleton] at hb
  rw [Finset.mem_sdiff]
  rcases hb with rfl | rfl
  · exact ⟨Pipeline.mem_restRefs_of _ (by decide) (by decide), by decide⟩
  · exact ⟨Pipeline.mem_restRefs_of _ (by decide) (by decide), by decide⟩

theorem ownSems_eq (c : Dev nD) : (Pipeline.ownSems0 (Ix := Unit) (Name := ℕ) (U := Pipeline.UD sig nD τ) (Lvl := ℕ) (Val := Elt F) (τ := τ) osem c : sProp 𝕄)
    = iprop(semVal ((c : Thread nD τ), .dma (semC cc0_scratch6 0)) 0 ∗ semVal ((c : Thread nD τ), .dma (semC cc0_scratch6 1)) 0 ∗ semVal ((c : Thread nD τ), .dma cc0_scratch7.sem) 0) :=
  Pipeline.ownSems0_eq_of_list c osem [0, 1, 2] (by decide) (by decide)

theorem HH_eq (c : Dev nD) : (bigSep HH (fun b => ((c : Thread nD τ).loc b) ↦{fullShare} V m c b) : sProp 𝕄)
    = iprop((((c : Thread nD τ).loc main_arg0) ↦{fullShare} A3 m c) ∗ (((c : Thread nD τ).loc main_arg1) ↦{fullShare} A4 m c)) := by
  unfold HH
  rw [bigSep_insert (by decide), bigSep_singleton]
  rfl

theorem slots_union : DFc 0 0 ∪ DFc 1 0 = Finset.univ := by
  ext j
  simp only [DFc, Finset.mem_union, Finset.mem_filter, Finset.mem_univ, true_and, iff_true]
  have : (j 0).val < 2 := (j 0).isLt
  omega
theorem slots_disj : Disjoint (DFc 0 0) (DFc 1 0) := by
  refine Finset.disjoint_left.mpr fun j h1 h2 => ?_
  simp only [DFc, Finset.mem_filter, Finset.mem_univ, true_and] at h1 h2
  omega

theorem any_of_pts {s : Shape} {e : EltTy} (c : Dev nD) (b : Memref sig .tc .vmem s e) (hb : b.view.set = Finset.univ) :
    (iprop(∃ f, b.view.loc (c : Thread nD τ) ↦{fullShare} f) : sProp 𝕄) ⊢ any c b := by
  unfold any owns
  iintro ⟨%f, H⟩
  iexists _
  iexists f
  isplitr; · ipureintro; rfl
  rw [hb]
  iexact H
theorem pts_of_any {s : Shape} {e : EltTy} (c : Dev nD) (b : Memref sig .tc .vmem s e) (hb : b.view.set = Finset.univ) :
    (any c b : sProp 𝕄) ⊢ iprop(∃ f, b.view.loc (c : Thread nD τ) ↦{fullShare} f) := by
  unfold any owns
  iintro ⟨%X, %f, %hf, H⟩
  iexists f
  rw [hb]
  iexact H

/-- The two slots of the code scratch make the whole of it. -/
theorem slots_split (c : Dev nD) :
    (iprop(∃ f, (Memref.whole cc0_scratch0).view.loc (c : Thread nD τ) ↦{fullShare} f) : sProp 𝕄)
      ⊢ iprop((∃ f, (Memref.whole cc0_scratch0).view.loc (c : Thread nD τ) ↦[(Memref.whole cc0_scratch0).view.setOn (DFc 0 0)]{fullShare} f)
        ∗ (∃ f, (Memref.whole cc0_scratch0).view.loc (c : Thread nD τ) ↦[(Memref.whole cc0_scratch0).view.setOn (DFc 1 0)]{fullShare} f)) := by
  have e : (Finset.univ : Finset (Memref.whole cc0_scratch0).view.ty.shape.Idx)
      = (Memref.whole cc0_scratch0).view.setOn (DFc 0 0) ∪ (Memref.whole cc0_scratch0).view.setOn (DFc 1 0) := by
    rw [View.setOn, View.setOn, ← Finset.map_union, slots_union]
    exact (View.set_whole cc0_scratch0).symm
  iintro ⟨%f, H⟩
  ihave H := (Entails.of_eq (congrArg (fun I => ((Memref.whole cc0_scratch0).view.loc (c : Thread nD τ) ↦[I]{fullShare} f : sProp 𝕄)) e)) $$ H
  ihave H := (pointsTo_union (I := (Memref.whole cc0_scratch0).view.setOn (DFc 0 0)) (J := (Memref.whole cc0_scratch0).view.setOn (DFc 1 0)) ((Finset.disjoint_map _).mpr slots_disj)).1 $$ H
  icases H with ⟨H0, H1⟩
  isplitl [H0]
  · iexists f; iexact H0
  · iexists f; iexact H1
theorem slots_join (c : Dev nD) :
    (iprop((∃ f, (Memref.whole cc0_scratch0).view.loc (c : Thread nD τ) ↦[(Memref.whole cc0_scratch0).view.setOn (DFc 0 0)]{fullShare} f)
        ∗ (∃ f, (Memref.whole cc0_scratch0).view.loc (c : Thread nD τ) ↦[(Memref.whole cc0_scratch0).view.setOn (DFc 1 0)]{fullShare} f)) : sProp 𝕄)
      ⊢ iprop(∃ f, (Memref.whole cc0_scratch0).view.loc (c : Thread nD τ) ↦{fullShare} f) := by
  have e : (Memref.whole cc0_scratch0).view.setOn (DFc 0 0) ∪ (Memref.whole cc0_scratch0).view.setOn (DFc 1 0)
      = (Finset.univ : Finset (Memref.whole cc0_scratch0).view.ty.shape.Idx) := by
    rw [View.setOn, View.setOn, ← Finset.map_union, slots_union]
    exact View.set_whole cc0_scratch0
  iintro ⟨⟨%f, H0⟩, ⟨%g, H1⟩⟩
  ihave H := (pointsTo_join (ℓ := (Memref.whole cc0_scratch0).view.loc (c : Thread nD τ)) (I := (Memref.whole cc0_scratch0).view.setOn (DFc 0 0)) (J := (Memref.whole cc0_scratch0).view.setOn (DFc 1 0)) (f := f) (g := g) (q := fullShare) ((Finset.disjoint_map _).mpr slots_disj)) $$ [H0 H1]
  · isplitl [H0]
    · iexact H0
    · iexact H1
  rw [e]
  iexists _
  iexact H

theorem tables_eq (c : Dev nD) : (Pipeline.ΦT (U := Pipeline.UD sig nD τ) (τ := τ) pre0 (adm m 0).1 c : sProp 𝕄)
    = (((c : Thread nD τ).loc main_arg2) ↦{fullShare.right} TT m c) := by
  obtain rfl : c = 0 := Subsingleton.elim _ _
  unfold Pipeline.ΦT Pipeline.prefHeld
  rw [show (Finset.univ : Finset (Fin pre0.K)) = {(0 : Fin 1)} from rfl, bigSep_singleton]
  rfl

set_option maxHeartbeats 4000000 in
theorem inv_in (c : Dev nD) :
    iprop(Pipeline.ΦD osem spec0 HH (V m) c ∗ Pipeline.ΦT (U := Pipeline.UD sig nD τ) (τ := τ) pre0 (adm m 0).1 c) ⊢ (Inv m c 0 : sProp 𝕄) := by
  rw [tables_eq, Pipeline.ΦD_eq, scopedRest0_eq, ownSems_eq, HH_eq]
  unfold Inv Own
  iintro ⟨⟨⟨S0, S1, S2, S3, S4, S5⟩, HP, ⟨V0, V1, V2⟩, ⟨HA, HB⟩⟩, HT⟩
  ihave HA := (pointsTo_share (PosShare.mem_left_op_right fullShare)).1 $$ HA
  icases HA with ⟨HAl, HAr⟩
  ihave S0 := (slots_split c) $$ S0
  icases S0 with ⟨S00, S01⟩
  isplitr [HP]
  swap; · iexact HP
  isplitl [HT]
  · unfold owns
    iexists (TT m c)
    isplitr; · ipureintro; rfl
    rw [show (Memref.whole main_arg2).view.set = Finset.univ from View.set_whole _]
    iexact HT
  isplitl [V2 S1 HB]
  · rw [if_pos rfl]
    unfold sc0
    isplitl [V2]; · iexact V2
    isplitl [S1]
    · iapply (any_of_pts c (Memref.whole cc0_scratch1) (View.set_whole _)) $$ S1
    rw [show (Memref.whole main_arg1).view.set = Finset.univ from View.set_whole _]
    iexact HB
  isplitl [S2]
  · unfold stA
    rw [if_pos rfl]
    iapply (any_of_pts c (Memref.whole cc0_scratch2) (View.set_whole _)) $$ S2
  isplitl [V0 V1 S00 S01 HAl HAr]
  · unfold codesAt idle
    rw [if_pos (Or.inl rfl), show halfq 0 = fullShare.left from rfl, show halfq (0 + 1) = fullShare.right from rfl,
      show (Memref.whole main_arg0).view.set = Finset.univ from View.set_whole _]
    isplitl [V0 S00 HAl]
    · isplitl [V0]; · iexact V0
      isplitl [S00]; · iexact S00
      iexact HAl
    isplitl [V1]; · iexact V1
    isplitl [S01]; · iexact S01
    iexact HAr
  isplitl [S3]
  · iapply (any_of_pts c (Memref.whole cc0_scratch3) (View.set_whole _)) $$ S3
  isplitl [S4]
  · iapply (any_of_pts c (Memref.whole cc0_scratch4) (View.set_whole _)) $$ S4
  iapply (any_of_pts c (Memref.whole cc0_scratch5) (View.set_whole _)) $$ S5

set_option maxHeartbeats 4000000 in
theorem inv_out (c : Dev nD) : (Inv m c 21 : sProp 𝕄) ⊢ Pipeline.ΦD osem spec0 HH (V m) c := by
  rw [Pipeline.ΦD_eq, scopedRest0_eq, ownSems_eq, HH_eq]
  unfold Inv Own codesAt stA
  rw [if_neg (by decide), if_pos (by decide), if_pos (by decide),
    idle_congr c _ _ _ _ (show 21 % 2 = 1 % 2 by decide), idle_congr c _ _ _ _ (show (21 + 1) % 2 = 0 % 2 by decide)]
  unfold sc1 idle
  rw [show halfq 0 = fullShare.left from rfl, show halfq 1 = fullShare.right from rfl,
    show (Memref.whole main_arg0).view.set = Finset.univ from View.set_whole _, show (Memref.whole main_arg1).view.set = Finset.univ from View.set_whole _]
  iintro ⟨⟨-, ⟨V2, S1, HB⟩, S2, ⟨⟨V1, S01, HAr⟩, ⟨V0, S00, HAl⟩⟩, S3, S4, S5⟩, HP⟩
  isplitl [S00 S01 S1 S2 S3 S4 S5]
  · isplitl [S00 S01]
    · iapply (slots_join c)
      isplitl [S00]; · iexact S00
      iexact S01
    isplitl [S1]
    · iapply (pts_of_any c (Memref.whole cc0_scratch1) (View.set_whole _))
      iexists _; iexact S1
    isplitl [S2]
    · iapply (pts_of_any c (Memref.whole cc0_scratch2) (View.set_whole _)) $$ S2
    isplitl [S3]
    · iapply (pts_of_any c (Memref.whole cc0_scratch3) (View.set_whole _)) $$ S3
    isplitl [S4]
    · iapply (pts_of_any c (Memref.whole cc0_scratch4) (View.set_whole _)) $$ S4
    iapply (pts_of_any c (Memref.whole cc0_scratch5) (View.set_whole _)) $$ S5
  isplitl [HP]; · iexact HP
  isplitl [V0 V1 V2]
  · isplitl [V0]; · iexact V0
    isplitl [V1]; · iexact V1
    iexact V2
  isplitl [HAl HAr]
  · iapply (pointsTo_share (PosShare.mem_left_op_right fullShare)).2
    isplitl [HAl]; · iexact HAl
    iexact HAr
  iexact HB

/-! ## The run -/

set_option backward.isDefEq.respectTransparency.types false in
set_option maxHeartbeats 1600000 in
theorem run (hT : ∀ c j, (TT m c j).toNat < 75) :
    θ_run defs (onTc (τ := τ) (main (F := F))) ⟨m, fun _ => 0, ρ⟩ (fun r => RDat.FramePost (cfg0 (adm m 0)) (rdat m) (V m) r ∧ r.2.sem = fun _ => 0) :=
  RDat.θ_run_frameP_dma (Q' := _) (pcfgs (F := F)) (adm m) (0 : Fin 1) launch0 osem defs₀ Variants.none (rdat m) ownSem HH HH_sub m ρ main
    (fun c => body_obligation m c (hT c)) (fun c => (rdat m c).share_full fun _ => rfl) (fun _ _ => rfl) (V m) (hmain m Variants.none)
    (fun _ _ => rfl)
    (fun c k => by obtain rfl : c = 0 := Subsingleton.elim _ _; rfl)
    (fun c => inv_in m c) (fun c => inv_out m c)

theorem rest0 : main_arg0 ∈ Pipeline.restRefs sig (cfg0 (adm m 0)).spec := Pipeline.mem_restRefs_of (win := spec0) main_arg0 (by decide) (by decide)
theorem rest1 : main_arg1 ∈ Pipeline.restRefs sig (cfg0 (adm m 0)).spec := Pipeline.mem_restRefs_of (win := spec0) main_arg1 (by decide) (by decide)
theorem rest2 : main_arg2 ∈ Pipeline.restRefs sig (cfg0 (adm m 0)).spec := Pipeline.mem_restRefs_of (win := spec0) main_arg2 (by decide) (by decide)

/-- The arguments end unchanged and every semaphore ends at zero. -/
theorem frame (hT : ∀ c j, (TT m c j).toNat < 75) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (rest0 m)).trans (V_main_arg0 m c),
      ((h.1 c).2 main_arg1 (rest1 m)).trans (V_main_arg1 m c),
      ((h.1 c).2 main_arg2 (rest2 m)).trans (V_main_arg2 m c)⟩, h.2⟩) (run m ρ hT)

end Cert.KernelIdeal.Run

end
-- ==== Proof.Same.lean ====
/-
  The kernel as printed for machine floats is the kernel printed with its constant named, when the name
  reads the constant's own bits: so what is proved of the second at every float type holds of the first.
-/
module

public import proofs.«01_k».proof.Defs
public import proofs.«01_k».proof.Proof.Gen.Kernel
public import proofs.«01_k».proof.Proof.Run
public import Idealize.ShloMosaic.Lib.Pipeline.Regions

@[expose] public section

set_option maxRecDepth 16384

noncomputable section

namespace Cert.Same

open Idealize.ShloMosaic Idealize.SL.Sem

/-- A named constant at machine floats: the bits. -/
@[reducible] def bits : Named Bits := ⟨fun _ _ {φ} b => Scalar.ofBits φ b⟩

local instance : Named Bits := bits

def A : Prop := ∀ (m : (ℓ : Loc Cert.KernelIdeal.nD Cert.KernelIdeal.τ Cert.KernelIdeal.sig) → Buf (Elt Bits) ℓ) (g : Dev Cert.KernelIdeal.nD → PrngReg),
    (∀ (c : Dev Cert.KernelIdeal.nD) (j : Cert.KernelIdeal.S3x20.Idx), ((m ((c.tc : Thread Cert.KernelIdeal.nD Cert.KernelIdeal.τ).loc Cert.KernelIdeal.main_arg2) : Cert.KernelIdeal.S3x20.Idx → BitVec 32) j).toNat < 75) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def B : Prop := ∀ (m : (ℓ : Loc Cert.Kernel.nD Cert.Kernel.τ Cert.Kernel.sig) → Buf (Elt Bits) ℓ) (g : Dev Cert.Kernel.nD → PrngReg),
    (∀ (c : Dev Cert.Kernel.nD) (j : Cert.Kernel.S3x20.Idx), ((m ((c.tc : Thread Cert.Kernel.nD Cert.Kernel.τ).loc Cert.Kernel.main_arg2) : Cert.Kernel.S3x20.Idx → BitVec 32) j).toNat < 75) →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

theorem A_holds : A := fun m g h => Cert.KernelIdeal.Run.frame (F := Bits) m g fun c j => by
  have e : Cert.KernelIdeal.Run.TT m c j = (m ((c.tc : Thread Cert.KernelIdeal.nD Cert.KernelIdeal.τ).loc Cert.KernelIdeal.main_arg2) : Cert.KernelIdeal.S3x20.Idx → BitVec 32) j :=
    congrFun (Cert.KernelIdeal.Run.V_main_arg2 m c) j
  rw [e]; exact h c j

theorem B_eq : B = A := by chain_rfl

theorem B_holds : B := B_eq ▸ A_holds

end Cert.Same

end
-- ==== Proof.Nib.lean ====
/-
  Rounding to the eight magnitudes 0, 0.5, 1, 1.5, 2, 3, 4, 6: by thresholds, as the kernel does it, and by
  rounding a scaled magnitude to the nearest integer, ties to even, as the reference does it. The two give one code.
-/
module

public import Idealize.ShloMosaic.Lib.Pointwise

@[expose] public section

noncomputable section

namespace Cert.Nib

open Idealize.ShloMosaic

/-! ## The constants -/

theorem c025 : Ideal.ofBits .f32 0x3E800000#32 = (((1 / 4 : ℝ)) : EReal) := by
  simp [Ideal.ofBits, Ideal.ieee, -EReal.coe_mul]; norm_num
theorem c05 : Ideal.ofBits .f32 0x3F000000#32 = (((1 / 2 : ℝ)) : EReal) := by
  simp [Ideal.ofBits, Ideal.ieee, -EReal.coe_mul]; norm_num
theorem c075 : Ideal.ofBits .f32 0x3F400000#32 = (((3 / 4 : ℝ)) : EReal) := by
  simp [Ideal.ofBits, Ideal.ieee, -EReal.coe_mul]; norm_num
theorem c125 : Ideal.ofBits .f32 0x3FA00000#32 = (((5 / 4 : ℝ)) : EReal) := by
  simp [Ideal.ofBits, Ideal.ieee, -EReal.coe_mul]; norm_num
theorem c175 : Ideal.ofBits .f32 0x3FE00000#32 = (((7 / 4 : ℝ)) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem c25 : Ideal.ofBits .f32 0x40200000#32 = (((5 / 2 : ℝ)) : EReal) := by
  simp [Ideal.ofBits, Ideal.ieee, -EReal.coe_mul]; norm_num
theorem c35 : Ideal.ofBits .f32 0x40600000#32 = (((7 / 2 : ℝ)) : EReal) := by
  simp [Ideal.ofBits, Ideal.ieee, -EReal.coe_mul]; norm_num
theorem c4 : Ideal.ofBits .f32 0x40800000#32 = ((4 : ℝ) : EReal) := by
  simp [Ideal.ofBits, Ideal.ieee, -EReal.coe_mul]; norm_num
theorem c5 : Ideal.ofBits .f32 0x40A00000#32 = ((5 : ℝ) : EReal) := by
  simp [Ideal.ofBits, Ideal.ieee, -EReal.coe_mul]; norm_num
theorem c6 : Ideal.ofBits .f32 0x40C00000#32 = ((6 : ℝ) : EReal) := by
  simp [Ideal.ofBits, Ideal.ieee, -EReal.coe_mul]; norm_num
theorem cn6 : Ideal.ofBits .f32 0xC0C00000#32 = ((-6 : ℝ) : EReal) := by
  simp [Ideal.ofBits, Ideal.ieee, -EReal.coe_mul, -EReal.coe_neg]; norm_num
theorem c448 : Ideal.ofBits .f32 0x43E00000#32 = ((448 : ℝ) : EReal) := by
  simp [Ideal.ofBits, Ideal.ieee, -EReal.coe_mul]; norm_num
theorem c2688 : Ideal.ofBits .f32 0x45280000#32 = ((2688 : ℝ) : EReal) := by
  simp [Ideal.ofBits, Ideal.ieee, -EReal.coe_mul]; norm_num

/-! ## Rounding to the nearest integer, ties to even -/

theorem round_even {r : ℝ} {n : ℤ} (hn : Even n) (h1 : (n : ℝ) - 1 / 2 ≤ r) (h2 : r ≤ n + 1 / 2) : Ideal.roundHalfEven r = n := by
  unfold Ideal.roundHalfEven
  dsimp only
  by_cases h : (n : ℝ) ≤ r
  · have e : ⌊r⌋ = n := Int.floor_eq_iff.mpr ⟨h, by linarith⟩
    rw [e]
    split
    · rfl
    · split
      · linarith
      · simp [hn]
  · have e : ⌊r⌋ = n - 1 := Int.floor_eq_iff.mpr ⟨by push_cast; linarith, by push_cast; linarith⟩
    have ho : ¬Even (n - 1) := by rw [Int.even_sub_one]; simpa using hn
    rw [e, if_neg (by push_cast; linarith)]
    split
    · omega
    · omega

theorem round_near {r : ℝ} {n : ℤ} (h1 : (n : ℝ) - 1 / 2 < r) (h2 : r < n + 1 / 2) : Ideal.roundHalfEven r = n := by
  unfold Ideal.roundHalfEven
  dsimp only
  by_cases h : (n : ℝ) ≤ r
  · have e : ⌊r⌋ = n := Int.floor_eq_iff.mpr ⟨h, by linarith⟩
    rw [e, if_pos (by linarith)]
  · have e : ⌊r⌋ = n - 1 := Int.floor_eq_iff.mpr ⟨by push_cast; linarith, by push_cast; linarith⟩
    rw [e, if_neg (by push_cast; linarith), if_pos (by push_cast; linarith)]; omega

theorem fptosi_int (n : ℤ) (h1 : 0 ≤ n) (h2 : n ≤ 100) : Ideal.fptosi 32 ((n : ℝ) : EReal) = BitVec.ofInt 32 n := by
  have h3 : (0 : ℝ) ≤ n := by exact_mod_cast h1
  show BitVec.ofInt 32 (max _ (min _ (if 0 ≤ (n : ℝ) then ⌊(n : ℝ)⌋ else ⌈(n : ℝ)⌉))) = _
  rw [if_pos h3, Int.floor_intCast, min_eq_right (by norm_num; omega), max_eq_right (by norm_num; omega)]

/-! ## The two ways to a code -/

/-- The code of a magnitude by thresholds. -/
def thr (a : EReal) : BitVec 32 :=
  if Ideal.ofBits .f32 0x40A00000#32 < a then 7#32
  else if Ideal.ofBits .f32 0x40600000#32 ≤ a then 6#32
  else if Ideal.ofBits .f32 0x40200000#32 < a then 5#32
  else if Ideal.ofBits .f32 0x3FE00000#32 ≤ a then 4#32
  else if Ideal.ofBits .f32 0x3FA00000#32 < a then 3#32
  else if Ideal.ofBits .f32 0x3F400000#32 ≤ a then 2#32
  else if Ideal.ofBits .f32 0x3E800000#32 < a then 1#32 else 0#32

/-- The code of a magnitude by rounding. -/
def rnd (a : EReal) : BitVec 32 :=
  Ideal.fptosi 32 (if a < Ideal.ofBits .f32 0x40000000#32 then Ideal.liftRound Ideal.roundHalfEven (a * Ideal.ofBits .f32 0x40000000#32)
    else if a < Ideal.ofBits .f32 0x40800000#32 then Ideal.liftRound Ideal.roundHalfEven a + Ideal.ofBits .f32 0x40000000#32
    else Ideal.liftRound Ideal.roundHalfEven (a * Ideal.ofBits .f32 0x3F000000#32) + Ideal.ofBits .f32 0x40800000#32)

theorem rnd_lo {a : ℝ} (h : a < 2) (n : ℤ) (h1 : 0 ≤ n) (h2 : n ≤ 100) (hr : Ideal.roundHalfEven (a * 2) = n) : rnd (a : EReal) = BitVec.ofInt 32 n := by
  unfold rnd
  rw [c2, if_pos (by exact_mod_cast h), ← EReal.coe_mul]
  show Ideal.fptosi 32 (((Ideal.roundHalfEven (a * 2) : ℤ) : ℝ) : EReal) = _
  rw [hr, fptosi_int n h1 h2]

theorem rnd_mid {a : ℝ} (h : ¬a < 2) (h' : a < 4) (n : ℤ) (h1 : 0 ≤ n) (h2 : n ≤ 90) (hr : Ideal.roundHalfEven a = n) : rnd (a : EReal) = BitVec.ofInt 32 (n + 2) := by
  unfold rnd
  rw [c2, c4, if_neg (by exact_mod_cast h), if_pos (by exact_mod_cast h')]
  show Ideal.fptosi 32 ((((Ideal.roundHalfEven a : ℤ) : ℝ) : EReal) + ((2 : ℝ) : EReal)) = _
  rw [hr, ← EReal.coe_add, show ((n : ℝ) + 2) = ((n + 2 : ℤ) : ℝ) by push_cast; rfl, fptosi_int _ (by omega) (by omega)]

theorem rnd_hi {a : ℝ} (h' : ¬a < 4) (n : ℤ) (h1 : 0 ≤ n) (h2 : n ≤ 90) (hr : Ideal.roundHalfEven (a * (1 / 2)) = n) : rnd (a : EReal) = BitVec.ofInt 32 (n + 4) := by
  have h : ¬a < 2 := fun h => h' (by linarith)
  unfold rnd
  rw [c2, c4, c05, if_neg (by exact_mod_cast h), if_neg (by exact_mod_cast h'), ← EReal.coe_mul]
  show Ideal.fptosi 32 ((((Ideal.roundHalfEven (a * (1 / 2)) : ℤ) : ℝ) : EReal) + ((4 : ℝ) : EReal)) = _
  rw [hr, ← EReal.coe_add, show ((n : ℝ) + 4) = ((n + 4 : ℤ) : ℝ) by push_cast; rfl, fptosi_int _ (by omega) (by omega)]

/-- The two codes of a magnitude up to six are one number below eight. -/
theorem thr_rnd {a : ℝ} (h0 : 0 ≤ a) (h6 : a ≤ 6) : ∃ n : Fin 8, thr (a : EReal) = BitVec.ofNat 32 n.val ∧ rnd (a : EReal) = BitVec.ofNat 32 n.val := by
  unfold thr
  simp only [c5, c35, c25, c175, c125, c075, c025, EReal.coe_lt_coe_iff, EReal.coe_le_coe_iff]
  split
  · exact ⟨7, rfl, rnd_hi (by linarith) 3 (by omega) (by omega) (round_near (by push_cast; linarith) (by push_cast; linarith))⟩
  split
  · refine ⟨6, rfl, ?_⟩
    by_cases h : a < 4
    · exact rnd_mid (by linarith) h 4 (by omega) (by omega) (round_even (by decide) (by push_cast; linarith) (by push_cast; linarith))
    · exact rnd_hi h 2 (by omega) (by omega) (round_even (by decide) (by push_cast; linarith) (by push_cast; linarith))
  split
  · exact ⟨5, rfl, rnd_mid (by linarith) (by linarith) 3 (by omega) (by omega) (round_near (by push_cast; linarith) (by push_cast; linarith))⟩
  split
  · refine ⟨4, rfl, ?_⟩
    by_cases h : a < 2
    · exact rnd_lo h 4 (by omega) (by omega) (round_even (by decide) (by push_cast; linarith) (by push_cast; linarith))
    · exact rnd_mid h (by linarith) 2 (by omega) (by omega) (round_even (by decide) (by push_cast; linarith) (by push_cast; linarith))
  split
  · exact ⟨3, rfl, rnd_lo (by linarith) 3 (by omega) (by omega) (round_near (by push_cast; linarith) (by push_cast; linarith))⟩
  split
  · exact ⟨2, rfl, rnd_lo (by linarith) 2 (by omega) (by omega) (round_even (by decide) (by push_cast; linarith) (by push_cast; linarith))⟩
  split
  · exact ⟨1, rfl, rnd_lo (by linarith) 1 (by omega) (by omega) (round_near (by push_cast; linarith) (by push_cast; linarith))⟩
  · exact ⟨0, rfl, rnd_lo (by linarith) 0 (by omega) (by omega) (round_even (by decide) (by push_cast; linarith) (by push_cast; linarith))⟩

/-- The kernel's code of a value. -/
def kc (y : EReal) : BitVec 32 := if y < 0 then IntOp.addi (thr (max y (-y))) 8#32 else thr (max y (-y))

/-- The reference's code of a value. -/
def rc (y : EReal) : BitVec 32 :=
  if y < 0 ∧ IntOp.cmpi .sgt (rnd (max y (-y))) 0#32 = 1#1 then IntOp.ori (rnd (max y (-y))) 8#32 else rnd (max y (-y))

/-- The code of negative zero becomes that of zero. -/
def clr (c : BitVec 4) : BitVec 4 := c &&& ((c &&& 7#4) + 7#4 ||| 7#4)

/-- Both codes of a clipped value: four bits, the reference's the kernel's without its negative zero. -/
theorem kc_rc (y : EReal) (h1 : ((-6 : ℝ) : EReal) ≤ y) (h2 : y ≤ ((6 : ℝ) : EReal)) :
    ∃ c : BitVec 4, kc y = c.setWidth 32 ∧ rc y = (clr c).setWidth 32 := by
  induction y with
  | bot => exact absurd h1 (by simp)
  | top => exact absurd h2 (by simp)
  | coe x =>
    have g1 : -6 ≤ x := by exact_mod_cast h1
    have g2 : x ≤ 6 := by exact_mod_cast h2
    have e : max (x : EReal) (-(x : EReal)) = ((|x| : ℝ) : EReal) := by rw [abs_eq_max_neg, ← EReal.coe_neg]; exact (EReal.coe_strictMono.monotone.map_max).symm
    obtain ⟨n, ht, hr⟩ := thr_rnd (abs_nonneg x) (abs_le.mpr ⟨g1, g2⟩)
    unfold kc rc
    rw [e, ht, hr]
    by_cases hx : (x : EReal) < 0
    · simp only [hx, true_and, if_true]
      clear ht hr; revert n; decide
    · simp only [hx, false_and, if_false]
      refine ⟨BitVec.ofNat 4 n.val, ?_⟩
      clear ht hr; revert n; decide

end Cert.Nib

end
-- ==== Proof.Math.lean ====
/-
  The quantization of one head, as extended-real arithmetic: the products of codes and scales, the maximum of
  each block of sixteen, the head's scale `G`, the block scales `SE`, and the clipped quotients `Y`.
-/
module

public import proofs.«01_k».proof.Proof.Nib

@[expose] public section

noncomputable section

namespace Cert.Quant

open Idealize.ShloMosaic

/-- The magnitude. -/
def ab (x : EReal) : EReal := max x (-x)

theorem ab_nonneg (x : EReal) : 0 ≤ ab x := by
  unfold ab
  rcases le_total 0 x with h | h
  · exact le_max_of_le_left h
  · exact le_max_of_le_right (by rw [EReal.le_neg]; simpa using h)

theorem ab_of_nonneg {x : EReal} (h : 0 ≤ x) : ab x = x := by
  unfold ab
  refine max_eq_left (le_trans ?_ h)
  rw [EReal.neg_le]; simpa using h

theorem ab_of_nonpos {x : EReal} (h : x ≤ 0) : ab x = -x := by
  unfold ab
  refine max_eq_right (le_trans h ?_)
  rw [EReal.le_neg]; simpa using h

theorem ab_neg (x : EReal) : ab (-x) = ab x := by unfold ab; rw [neg_neg, max_comm]

theorem ab_mul (x y : EReal) : ab (x * y) = ab x * ab y := by
  have key : ∀ a b : EReal, 0 ≤ a → 0 ≤ b → ab (a * b) = a * b := fun a b ha hb => ab_of_nonneg (mul_nonneg ha hb)
  have nn : ∀ a : EReal, a ≤ 0 → 0 ≤ -a := fun a h => by rw [EReal.le_neg]; simpa using h
  rcases le_total 0 x with hx | hx <;> rcases le_total 0 y with hy | hy
  · rw [ab_of_nonneg hx, ab_of_nonneg hy, key x y hx hy]
  · rw [ab_of_nonneg hx, ab_of_nonpos hy, ← key x (-y) hx (nn y hy), mul_neg, ab_neg]
  · rw [ab_of_nonpos hx, ab_of_nonneg hy, ← key (-x) y (nn x hx) hy, neg_mul, ab_neg]
  · rw [ab_of_nonpos hx, ab_of_nonpos hy, ← key (-x) (-y) (nn x hx) (nn y hy), neg_mul_neg]

theorem ninf : Ideal.ofBits .f32 4286578688#32 = (⊥ : EReal) := by
  simp [Ideal.ofBits, Ideal.ieee]

theorem fold_sup {ι : Type} [Fintype ι] (f : ι → EReal) :
    Finset.fold max (Ideal.ofBits .f32 4286578688#32) f Finset.univ = Finset.univ.sup f := by
  rw [ninf]; rfl

theorem sup_mul {ι : Type} [Fintype ι] [Nonempty ι] (f : ι → EReal) (a : EReal) (ha : 0 ≤ a) :
    (Finset.univ.sup f) * a = Finset.univ.sup fun i => f i * a := by
  apply le_antisymm
  · obtain ⟨i, hi, h⟩ := Finset.exists_mem_eq_sup Finset.univ Finset.univ_nonempty f
    rw [h]; exact Finset.le_sup (f := fun i => f i * a) hi
  · exact Finset.sup_le fun i hi => mul_le_mul_of_nonneg_right (Finset.le_sup (f := f) hi) ha

/-- Column `j` of block `n`. -/
def col (n : Fin 8) (j : Fin 16) : Fin 128 := ⟨n.val * 16 + j.val, by omega⟩

section
variable (c : Fin 640 → Fin 128 → EReal) (s : Fin 640 → EReal)

def blk (n : Fin 8) (t : Fin 640) : EReal := Finset.univ.sup fun j : Fin 16 => ab (c t (col n j) * s t)
def am : EReal := Finset.univ.sup fun t : Fin 640 => Finset.univ.sup fun d : Fin 128 => ab (c t d * s t)
def G : EReal := if am c s = 0 then 1 else am c s * ((1 / 2688 : ℝ) : EReal)
def SE (n : Fin 8) (t : Fin 640) : EReal := min (blk c s n t * (G c s * ((6 : ℝ) : EReal))⁻¹) ((448 : ℝ) : EReal)
/-- The block a column lies in. -/
def bl (d : Fin 128) : Fin 8 := ⟨d.val / 16, by omega⟩
def Q (t : Fin 640) (d : Fin 128) : EReal :=
  if 0 < SE c s (bl d) t * G c s then (c t d * s t) * (SE c s (bl d) t * G c s)⁻¹ else 0
def Y (t : Fin 640) (d : Fin 128) : EReal := min ((6 : ℝ) : EReal) (max ((-6 : ℝ) : EReal) (Q c s t d))

/-- The two columns of byte `p`. -/
def lo (p : Fin 64) : Fin 128 := ⟨2 * p.val, by omega⟩
def hi (p : Fin 64) : Fin 128 := ⟨2 * p.val + 1, by omega⟩
def BY (p : Fin 64) (t : Fin 640) : BitVec 8 :=
  (IntOp.ori (Nib.rc (Y c s t (lo p))) (IntOp.shli ArithUnit.vector (Nib.rc (Y c s t (hi p))) 4#32)).setWidth 8

theorem blk_nonneg (n : Fin 8) (t : Fin 640) : 0 ≤ blk c s n t :=
  le_trans (ab_nonneg _) (Finset.le_sup (f := fun j : Fin 16 => ab (c t (col n j) * s t)) (Finset.mem_univ 0))

theorem am_nonneg : 0 ≤ am c s :=
  le_trans (le_trans (ab_nonneg (c 0 0 * s 0)) (Finset.le_sup (f := fun d : Fin 128 => ab (c 0 d * s 0)) (Finset.mem_univ 0)))
    (Finset.le_sup (f := fun t : Fin 640 => Finset.univ.sup fun d : Fin 128 => ab (c t d * s t)) (Finset.mem_univ 0))

theorem G_pos : 0 < G c s := by
  unfold G
  split
  · exact one_pos
  · next h =>
    exact EReal.mul_pos (lt_of_le_of_ne (am_nonneg c s) (Ne.symm h)) (by norm_cast; norm_num)

theorem G6_ne : G c s * ((6 : ℝ) : EReal) ≠ 0 :=
  ne_of_gt (EReal.mul_pos (G_pos c s) (by norm_cast))

theorem div_ne {x y : EReal} (h : y ≠ 0) : Ideal.div x y = x * y⁻¹ := by
  unfold Ideal.div; rw [if_neg h]

theorem Y_le (t : Fin 640) (d : Fin 128) : Y c s t d ≤ ((6 : ℝ) : EReal) := min_le_left _ _
theorem le_Y (t : Fin 640) (d : Fin 128) : ((-6 : ℝ) : EReal) ≤ Y c s t d := by
  unfold Y
  exact le_min (by norm_cast) (le_max_left _ _)

theorem col_bl (d : Fin 128) : ∃ j : Fin 16, d = col (bl d) j :=
  ⟨⟨d.val % 16, Nat.mod_lt _ (by decide)⟩, Fin.ext (by simp only [col, bl]; omega)⟩

theorem blk_le_am (n : Fin 8) (t : Fin 640) : blk c s n t ≤ am c s :=
  Finset.sup_le fun j _ => le_trans (Finset.le_sup (f := fun d : Fin 128 => ab (c t d * s t)) (Finset.mem_univ (col n j)))
    (Finset.le_sup (f := fun t : Fin 640 => Finset.univ.sup fun d : Fin 128 => ab (c t d * s t)) (Finset.mem_univ t))

/-- The factor that takes a code to its quotient. -/
def RF (n : Fin 8) (t : Fin 640) : EReal :=
  if 0 < SE c s n t * G c s then s t * (SE c s n t * G c s)⁻¹ else 0

theorem mul_RF (t : Fin 640) (d : Fin 128) : c t d * RF c s (bl d) t = Q c s t d := by
  unfold RF Q
  split
  · rw [mul_assoc]
  · rw [mul_zero]

/-- The maximum over the lanes, the blocks and the tiles is the maximum over the head. -/
theorem am_tiles (a : Fin 8 → Fin 128 → EReal)
    (h0 : ∀ n l, 0 ≤ a n l) (h1 : ∀ n l (k : Fin 5), blk c s n ⟨128 * k.val + l.val, by omega⟩ ≤ a n l)
    (h2 : ∀ n l, a n l ≤ am c s) :
    (Finset.univ.sup fun l : Fin 128 => Finset.univ.sup fun n : Fin 8 => a n l) = am c s := by
  apply le_antisymm
  · exact Finset.sup_le fun l _ => Finset.sup_le fun n _ => h2 n l
  · refine Finset.sup_le fun t _ => Finset.sup_le fun d _ => ?_
    obtain ⟨j, hj⟩ := col_bl d
    have e : ab (c t d * s t) ≤ blk c s (bl d) t := by
      conv_lhs => rw [hj]
      exact Finset.le_sup (f := fun j : Fin 16 => ab (c t (col (bl d) j) * s t)) (Finset.mem_univ j)
    have ht : t = ⟨128 * (t.val / 128) + t.val % 128, by omega⟩ := Fin.ext (by simp only; omega)
    refine le_trans e (le_trans ?_ (le_trans (Finset.le_sup (f := fun n : Fin 8 => a n ⟨t.val % 128, Nat.mod_lt _ (by decide)⟩) (Finset.mem_univ (bl d)))
      (Finset.le_sup (f := fun l : Fin 128 => Finset.univ.sup fun n : Fin 8 => a n l) (Finset.mem_univ (⟨t.val % 128, Nat.mod_lt _ (by decide)⟩ : Fin 128)))))
    have := h1 (bl d) ⟨t.val % 128, Nat.mod_lt _ (by decide)⟩ ⟨t.val / 128, by omega⟩
    simp only at this
    rw [ht]
    simp only [Nat.mul_add_mod, Nat.mod_mod] at this ⊢
    convert this using 3
end

end Cert.Quant
end
-- ==== Proof.Val1.lean ====
/-
  The first phase of one grid step read at an element: the regrouped codes, the maximum of each block of sixteen,
  the running maxima and the per-head scale.
-/
module

public import proofs.«01_k».proof.Proof.Math
public import proofs.«01_k».proof.Proof.Spec
public import proofs.«01_k».proof.Proof.Fill
public import Idealize.ShloMosaic.Lib.Pointwise
public import Idealize.ShloMosaic.Lib.Pipeline.Regions

@[expose] public section

set_option maxRecDepth 16384

noncomputable section

namespace Cert.KernelIdeal.Val

open Idealize.ShloMosaic Cert.KernelIdeal.Gen Cert.KernelIdeal.Spec Cert.KernelIdeal.Fill Cert.Quant

/-! ## Sums against a selection matrix -/

/-- Token `b` of tile `a`. -/
def tk (a : Fin 5) (b : Fin 128) : Fin 640 := ⟨128 * a.val + b.val, by omega⟩

theorem sum_pick {n : ℕ} (f g : Fin n → EReal) (k : Fin n) (h : ∀ x, f x = if x = k then 1 else 0) : (∑ x, f x * g x) = g k := by
  rw [Finset.sum_eq_single k]
  · rw [h, if_pos rfl, one_mul]
  · intro b _ hb; rw [h, if_neg hb, zero_mul]
  · intro hk; exact absurd (Finset.mem_univ k) hk

/-! ## One tile of codes -/

/-- The four pages of a head in a tile, stacked. -/
def tile (p : Fin 4 → Vec Ideal S1x32x1x128 .fp8e4m3) : FVec Ideal S128x128 .fp8e4m3 :=
  concatenate S128x128 0 [⟨S32x128, shapeCast S32x128 (p 0) shapeCasts_S1x32x1x128_S32x128⟩, ⟨S32x128, shapeCast S32x128 (p 1) shapeCasts_S1x32x1x128_S32x128⟩,
    ⟨S32x128, shapeCast S32x128 (p 2) shapeCasts_S1x32x1x128_S32x128⟩, ⟨S32x128, shapeCast S32x128 (p 3) shapeCasts_S1x32x1x128_S32x128⟩] concatenates_S32x128_S32x128_S32x128_S32x128_S128x128_d0

theorem tile_at (p : Fin 4 → Vec Ideal S1x32x1x128 .fp8e4m3) (r : Fin 128) (d : Fin 128) :
    tile p (ix2 r d) = p ⟨r.val / 32, by omega⟩ (ix4 0 ⟨r.val % 32, Nat.mod_lt _ (by decide)⟩ 0 d) := by
  obtain ⟨a, q, h⟩ : ∃ (a : Fin 4) (q : Fin 32), r = ⟨32 * a.val + q.val, by omega⟩ :=
    ⟨⟨r.val / 32, by omega⟩, ⟨r.val % 32, Nat.mod_lt _ (by decide)⟩, Fin.ext (by simp only; omega)⟩
  subst h
  have e1 : (⟨(32 * a.val + q.val) / 32, by omega⟩ : Fin 4) = a := Fin.ext (by simp only; omega)
  have e2 : (⟨(32 * a.val + q.val) % 32, Nat.mod_lt _ (by decide)⟩ : Fin 32) = q := Fin.ext (by simp only; omega)
  rw [e1, e2]
  unfold tile
  fin_cases a <;> pointwise []
  all_goals (split_ifs <;> first | (exfalso; omega) | (congr 2; apply Fin.ext; simp only; omega))

/-- The four heads of a group side by side: heads 0 and 2 above, 1 and 3 below. -/
def quad (h : Fin 4 → FVec Ideal S128x128 .fp8e4m3) : FVec Ideal S256x256 .fp8e4m3 :=
  concatenate S256x256 0 [⟨S128x256, concatenate S128x256 1 [⟨S128x128, h 0⟩, ⟨S128x128, h 2⟩] concatenates_S128x128_S128x128_S128x256_d1⟩,
    ⟨S128x256, concatenate S128x256 1 [⟨S128x128, h 1⟩, ⟨S128x128, h 3⟩] concatenates_S128x128_S128x128_S128x256_d1⟩] concatenates_S128x256_S128x256_S256x256_d0

theorem quad_at (h : Fin 4 → FVec Ideal S128x128 .fp8e4m3) (a : Fin 4) (t d : Fin 128) :
    quad h (ix2 ⟨128 * (a.val % 2) + t.val, by omega⟩ ⟨128 * (a.val / 2) + d.val, by omega⟩) = h a (ix2 t d) := by
  unfold quad
  fin_cases a <;> pointwise []

/-! ## What a grid step reads -/

section
variable (i : grid0.Coords) (B : Vec Ideal S2x640x16x128 .fp8e4m3) (ST : Vec Ideal S5x112x128 .f32) (P1 P2 : Vec Ideal S256x256 .fp8e4m3)
variable (k7 : Fin k0_t7_loop.trips) (k : Fin k0_t8_loop.trips)

/-- Page `p` of head `h` in the tile, as loaded. -/
def piece (h p : Fin 4) : Vec Ideal S1x32x1x128 .fp8e4m3 :=
  rd B (k0_off20 i k7 k (BitVec.ofNat 32 (32 * p.val)) (BitVec.ofNat 32 h.val)) S1x32x1x128.size (k0_off20_inb i k7 k p h)

/-- The group's codes in the tile. -/
def XX : FVec Ideal S256x256 .fp8e4m3 := quad fun h => tile fun p => piece i B k7 k h p

theorem XX_eq : k0_pay23 (c188 i B k7 k) (c218 i B k7 k) (c248 i B k7 k) (c278 i B k7 k) (c279 i B k7 k) (c280 i B k7 k) (c281 i B k7 k) = XX i B k7 k := by
  chain_rfl

theorem k8_lt : k.val < 5 := Nat.lt_of_lt_of_eq k.isLt trips8
theorem k7_lt : k7.val < 4 := Nat.lt_of_lt_of_eq k7.isLt trips7
theorem i1_lt : (i 1).val < 7 := (i 1).isLt
theorem i0_lt : (i 0).val < 3 := (i 0).isLt

/-- A token of a tile, a head of a group among the step's sixteen and among all. -/
def tok (t : Fin 128) : Fin 640 := ⟨128 * k.val + t.val, by have := k8_lt k; omega⟩
def hd (h : Fin 4) : Fin 16 := ⟨4 * k7.val + h.val, by have := k7_lt k7; omega⟩
def gh (h : Fin 4) : Fin 112 := ⟨16 * (i 1).val + 4 * k7.val + h.val, by have := k7_lt k7; have := i1_lt i; omega⟩

theorem piece_at {cx : Fin 16 → Fin 640 → Fin 128 → EReal} (hB : ∀ j, B j = cx (j 2) (j 1) (j 3)) (h p : Fin 4) (r : Fin 32) (d : Fin 128) :
    piece i B k7 k h p (ix4 0 r 0 d) = cx (hd k7 h) ⟨128 * k.val + 32 * p.val + r.val, by have := k8_lt k; omega⟩ d := by
  unfold piece
  show B ((Rect.unit (s := S2x640x16x128) (k0_off20 i k7 k (BitVec.ofNat 32 (32 * p.val)) (BitVec.ofNat 32 h.val)) S1x32x1x128.size (k0_off20_inb i k7 k p h)).emb (ix4 0 r 0 d)) = _
  obtain ⟨-, h1, h2, h3⟩ := emb4 (k0_off20_eq i k7 k p h) (inb := k0_off20_inb i k7 k p h) (ix4 0 r 0 d)
  rw [hB]
  congr 1
  · exact Fin.ext (h2.trans rfl)
  · exact Fin.ext h1
  · exact Fin.ext (h3.trans (Nat.zero_add _))

theorem XX_at {cx : Fin 16 → Fin 640 → Fin 128 → EReal} (hB : ∀ j, B j = cx (j 2) (j 1) (j 3)) (h : Fin 4) (t d : Fin 128) :
    XX i B k7 k (ix2 ⟨128 * (h.val % 2) + t.val, by omega⟩ ⟨128 * (h.val / 2) + d.val, by omega⟩) = cx (hd k7 h) (tok k t) d := by
  unfold XX
  rw [quad_at, tile_at, piece_at i B k7 k hB]
  congr 1
  exact Fin.ext (by simp only [tok]; omega)

/-- The scales of head `h` in the tile, as loaded. -/
def srow (h : Fin 4) : Vec Ideal S1x1x128 .f32 :=
  rd ST (k0_off22 i k7 k (BitVec.ofNat 32 h.val)) S1x1x128.size (k0_off22_inb i k7 k h)

theorem srow_at {sx : Fin 112 → Fin 640 → EReal} (hS : ∀ j, ST j = sx (j 1) (tk (j 0) (j 2)))
    (h : Fin 4) (t : Fin 128) : srow i ST k7 k h (ix3 0 0 t) = sx (gh i k7 h) (tok k t) := by
  unfold srow
  show ST ((Rect.unit (s := S5x112x128) (k0_off22 i k7 k (BitVec.ofNat 32 h.val)) S1x1x128.size (k0_off22_inb i k7 k h)).emb (ix3 0 0 t)) = _
  obtain ⟨h0, h1, h2⟩ := emb3 (k0_off22_eq i k7 k h) (inb := k0_off22_inb i k7 k h) (ix3 0 0 t)
  rw [hS]
  congr 1
  · exact Fin.ext h1
  · refine Fin.ext ?_
    show 128 * ((Rect.unit (s := S5x112x128) (k0_off22 i k7 k (BitVec.ofNat 32 h.val)) S1x1x128.size (k0_off22_inb i k7 k h)).emb (ix3 0 0 t) 0).val
      + ((Rect.unit (s := S5x112x128) (k0_off22 i k7 k (BitVec.ofNat 32 h.val)) S1x1x128.size (k0_off22_inb i k7 k h)).emb (ix3 0 0 t) 2).val = 128 * k.val + t.val
    rw [h0, h2]
    show 128 * (k.val + 0) + (0 + t.val) = _
    omega

/-- The selection the first matrix makes: row `8 j + n` of a half takes column `16 n + j` of it. -/
def Sel1 (P : Vec Ideal S256x256 .fp8e4m3) : Prop :=
  ∀ (a : Fin 2) (n : Fin 8) (j : Fin 16) (x : Fin 256),
    P (ix2 ⟨128 * a.val + 8 * j.val + n.val, by omega⟩ x) = if x = ⟨128 * a.val + 16 * n.val + j.val, by omega⟩ then (1 : EReal) else 0

/-- The second matrix selects nothing away. -/
def Sel2 (P : Vec Ideal S256x256 .fp8e4m3) : Prop := ∀ r x : Fin 256, P (ix2 r x) = if x = r then (1 : EReal) else 0

def mxM (X : FVec Ideal S256x256 .fp8e4m3) (P : Vec Ideal S256x256 .fp8e4m3) : FVec Ideal S2x8x256 .f32 :=
  multiReduction .maximumf [1] S2x8x256 (shapeCast S2x16x8x256 (matmul dot_S256x256_S256x256_S256x256_1_1_0_0_n_n none
    (shapeCast S256x256 P shapeCasts_S256x256_S256x256 : FVec Ideal S256x256 .fp8e4m3) (absf X) (constant S256x256 .f32 0x00000000#32))
    shapeCasts_S256x256_S2x16x8x256) 0xFF800000#32 reduces_S2x16x8x256_S2x8x256 (.inl rfl) rfl

theorem mxT_eq : mxT i B P1 k7 k = mxM (XX i B k7 k) P1 := by
  chain_rfl

theorem mxM_at (X : FVec Ideal S256x256 .fp8e4m3) (P : Vec Ideal S256x256 .fp8e4m3) (hP : Sel1 P) (a : Fin 2) (n : Fin 8) (t : Fin 256) :
    mxM X P (ix3 a n t) = Finset.univ.sup fun j : Fin 16 => ab (X (ix2 t ⟨128 * a.val + 16 * n.val + j.val, by omega⟩)) := by
  unfold mxM
  pointwise []
  rw [fold_sup]
  refine congrArg _ (funext fun j => ?_)
  have e : ∀ x, P (ix2 ⟨a.val * 128 + j.val * 8 + n.val, by omega⟩ x) = if x = ⟨128 * a.val + 16 * n.val + j.val, by omega⟩ then (1 : EReal) else 0 := by
    intro x
    rw [← hP a n j x]
    congr 2
    exact Fin.ext (by simp only; omega)
  refine (sum_pick _ (fun x => ab (X (ix2 t x))) _ ?_).trans rfl
  intro x
  exact e x

/-! ## The block maxima and the running maxima -/

/-- The block maxima of head `h` from the group's, its scales' magnitudes multiplied in. -/
def bm (M : FVec Ideal S2x8x256 .f32) (sr : Fin 4 → Vec Ideal S1x1x128 .f32) : Fin 4 → FVec Ideal S8x128 .f32
  | 0 => mulf (shapeCast S8x128 (extractStridedSlice S1x8x128 ![0, 0, 0] M slices_S2x8x256_o0_0_0_S1x8x128) shapeCasts_S1x8x128_S8x128)
      (broadcastTo S8x128 (absf (shapeCast S1x128 (sr 0) shapeCasts_S1x1x128_S1x128)) broadcasts_S1x128_S8x128)
  | 1 => mulf (shapeCast S8x128 (extractStridedSlice S1x8x128 ![0, 0, 128] M slices_S2x8x256_o0_0_128_S1x8x128) shapeCasts_S1x8x128_S8x128)
      (broadcastTo S8x128 (absf (shapeCast S1x128 (sr 1) shapeCasts_S1x1x128_S1x128)) broadcasts_S1x128_S8x128)
  | 2 => mulf (shapeCast S8x128 (extractStridedSlice S1x8x128 ![1, 0, 0] M slices_S2x8x256_o1_0_0_S1x8x128) shapeCasts_S1x8x128_S8x128)
      (broadcastTo S8x128 (absf (shapeCast S1x128 (sr 2) shapeCasts_S1x1x128_S1x128)) broadcasts_S1x128_S8x128)
  | 3 => mulf (shapeCast S8x128 (extractStridedSlice S1x8x128 ![1, 0, 128] M slices_S2x8x256_o1_0_128_S1x8x128) shapeCasts_S1x8x128_S8x128)
      (broadcastTo S8x128 (absf (shapeCast S1x128 (sr 3) shapeCasts_S1x1x128_S1x128)) broadcasts_S1x128_S8x128)

theorem bm_at (M : FVec Ideal S2x8x256 .f32) (sr : Fin 4 → Vec Ideal S1x1x128 .f32) (h : Fin 4) (n : Fin 8) (t : Fin 128) :
    bm M sr h (ix2 n t) = M (ix3 ⟨h.val / 2, by omega⟩ n ⟨128 * (h.val % 2) + t.val, by omega⟩) * ab (sr h (ix3 0 0 t)) := by
  fin_cases h <;> (dsimp only [bm]; pointwise [])
  all_goals rfl

theorem bamT_eq (h : Fin 4) : bamT i B ST P1 k7 k h = shapeCast S1x8x128 (bm (mxM (XX i B k7 k) P1) (srow i ST k7 k) h) shapeCasts_S8x128_S1x8x128 := by
  fin_cases h <;> chain_rfl

theorem accT_eq (a : FVec Ideal S8x128 .f32) (h : Fin 4) : accT i B ST P1 k7 k a h = maximumf a (bm (mxM (XX i B k7 k) P1) (srow i ST k7 k) h) := by
  fin_cases h <;> chain_rfl

section
variable {cx : Fin 16 → Fin 640 → Fin 128 → EReal} (hB : ∀ j, B j = cx (j 2) (j 1) (j 3))
variable {sx : Fin 112 → Fin 640 → EReal} (hS : ∀ j, ST j = sx (j 1) (tk (j 0) (j 2)))
variable (hP : Sel1 P1)
include hB hS hP

theorem bmT_at (h : Fin 4) (n : Fin 8) (t : Fin 128) :
    bm (mxM (XX i B k7 k) P1) (srow i ST k7 k) h (ix2 n t) = blk (cx (hd k7 h)) (sx (gh i k7 h)) n (tok k t) := by
  rw [bm_at, mxM_at _ _ hP, srow_at i ST k7 k hS, Quant.sup_mul _ _ (ab_nonneg _)]
  unfold blk
  refine congrArg _ (funext fun j => ?_)
  rw [← ab_mul, ← XX_at i B k7 k hB h t (col n j)]
  congr 4
  exact Fin.ext (by simp only [col]; omega)

theorem bamT_at (h : Fin 4) (n : Fin 8) (t : Fin 128) :
    bamT i B ST P1 k7 k h (ix3 0 n t) = blk (cx (hd k7 h)) (sx (gh i k7 h)) n (tok k t) := by
  rw [bamT_eq, ← bmT_at i B ST P1 k7 k hB hS hP h n t]
  generalize bm (mxM (XX i B k7 k) P1) (srow i ST k7 k) h = W
  pointwise []

theorem BAM_at (h : Fin 4) (n : Fin 8) (t : Fin 640) :
    BAM i B ST P1 k7 (ix3 h n t) = blk (cx (hd k7 h)) (sx (gh i k7 h)) n t := by
  show bamT i B ST P1 k7 ⟨t.val / 128, div_lt t⟩ h (ix3 0 n ⟨t.val % 128, mod_lt t⟩) = _
  rw [bamT_at i B ST P1 k7 _ hB hS hP]
  congr 1
  exact Fin.ext (by simp only [tok]; omega)

theorem acc_inv (h : Fin 4) (n : Fin 8) (l : Fin 128) (j : ℕ) (hj : j ≤ 5) :
    0 ≤ acc i B ST P1 k7 h j (ix2 n l) ∧ acc i B ST P1 k7 h j (ix2 n l) ≤ am (cx (hd k7 h)) (sx (gh i k7 h))
      ∧ ∀ k' : Fin k0_t8_loop.trips, k'.val < j → blk (cx (hd k7 h)) (sx (gh i k7 h)) n (tok k' l) ≤ acc i B ST P1 k7 h j (ix2 n l) := by
  induction j with
  | zero =>
    have e : acc i B ST P1 k7 h 0 (ix2 n l) = 0 := by
      show acc0 (F := Ideal) h (ix2 n l) = 0
      fin_cases h <;> pointwise [acc0, k0_pay93, k0_pay94, k0_pay95, k0_pay96]
    rw [e]
    exact ⟨le_refl _, am_nonneg _ _, fun k' hk => absurd hk (Nat.not_lt_zero _)⟩
  | succ j ih =>
    obtain ⟨h1, h2, h3⟩ := ih (by omega)
    have hk : j < k0_t8_loop.trips := by rw [trips8]; omega
    have e : acc i B ST P1 k7 h (j + 1) (ix2 n l) = max (acc i B ST P1 k7 h j (ix2 n l)) (blk (cx (hd k7 h)) (sx (gh i k7 h)) n (tok ⟨j, hk⟩ l)) := by
      rw [← bmT_at i B ST P1 k7 ⟨j, hk⟩ hB hS hP h n l]
      rw [acc, dif_pos hk, accT_eq]
      rfl
    rw [e]
    refine ⟨le_max_of_le_left h1, max_le h2 (blk_le_am _ _ _ _), fun k' hk' => ?_⟩
    rcases Nat.lt_succ_iff_lt_or_eq.mp hk' with hl | he
    · exact le_max_of_le_left (h3 k' hl)
    · have : k' = ⟨j, hk⟩ := Fin.ext he
      rw [this]; exact le_max_right _ _

/-- The running maxima's maximum is the head's. -/
theorem acc_am (h : Fin 4) : (Finset.univ.sup fun l : Fin 128 => Finset.univ.sup fun n : Fin 8 => acc i B ST P1 k7 h k0_t8_loop.trips (ix2 n l))
    = am (cx (hd k7 h)) (sx (gh i k7 h)) := by
  rw [trips8]
  refine am_tiles _ _ (fun n l => acc i B ST P1 k7 h 5 (ix2 n l)) (fun n l => (acc_inv i B ST P1 k7 hB hS hP h n l 5 (le_refl _)).1)
    (fun n l k' => ?_) (fun n l => (acc_inv i B ST P1 k7 hB hS hP h n l 5 (le_refl _)).2.1)
  exact (acc_inv i B ST P1 k7 hB hS hP h n l 5 (le_refl _)).2.2 ⟨k'.val, by rw [trips8]; exact k'.isLt⟩ k'.isLt

/-- The scale of head `h`. -/
theorem g_at (h : Fin 4) : k0_pay100 (acc i B ST P1 k7 h k0_t8_loop.trips) (ix2 0 0) = G (cx (hd k7 h)) (sx (gh i k7 h)) := by
  have e := acc_am i B ST P1 k7 hB hS hP h
  revert e
  generalize acc i B ST P1 k7 h k0_t8_loop.trips = A
  intro e
  pointwise [k0_pay100]
  rw [fold_sup]
  simp only [fold_sup]
  rw [e]
  unfold G
  split
  · rfl
  · rw [one_div]; rfl

end

end

end Cert.KernelIdeal.Val
end
-- ==== Proof.Val2.lean ====
/-
  The second phase of one grid step read at an element: the block scales, the factors that take codes to their
  quotients, and the per-head scale array.
-/
module

public import proofs.«01_k».proof.Proof.Val1

@[expose] public section

set_option maxRecDepth 16384

noncomputable section

namespace Cert.KernelIdeal.Val

open Idealize.ShloMosaic Cert.KernelIdeal.Gen Cert.KernelIdeal.Spec Cert.KernelIdeal.Fill Cert.Quant

theorem at3 {α : Type} {n0 n1 n2 s0 s1 s2 o0 o1 o2 : ℕ} {off : Fin 3 → ℕ} (h : off = ![o0, o1, o2])
    {inb : ∀ a, off a + (![s0, s1, s2] : Fin 3 → ℕ) a ≤ (![n0, n1, n2] : Fin 3 → ℕ) a}
    (X : (⟨3, ![n0, n1, n2]⟩ : Shape).Idx → α) (x : (Rect.unit (s := ⟨3, ![n0, n1, n2]⟩) off ![s0, s1, s2] inb).shape.Idx) (j : (⟨3, ![n0, n1, n2]⟩ : Shape).Idx)
    (h0 : o0 + (x 0).val = (j 0).val) (h1 : o1 + (x 1).val = (j 1).val) (h2 : o2 + (x 2).val = (j 2).val) :
    X ((Rect.unit (s := ⟨3, ![n0, n1, n2]⟩) off ![s0, s1, s2] inb).emb x) = X j := by
  obtain ⟨g0, g1, g2⟩ := emb3 h (inb := inb) x
  refine congrArg X (funext fun a => Fin.ext ?_)
  match a with
  | ⟨0, _⟩ => exact g0.trans h0
  | ⟨1, _⟩ => exact g1.trans h1
  | ⟨2, _⟩ => exact g2.trans h2

section
variable (i : grid0.Coords) (B : Vec Ideal S2x640x16x128 .fp8e4m3) (ST : Vec Ideal S5x112x128 .f32) (P1 P2 : Vec Ideal S256x256 .fp8e4m3)
variable (k7 : Fin k0_t7_loop.trips) (k : Fin k0_t8_loop.trips)

theorem lM_at (h : Fin 4) (n : Fin 8) (t : Fin 128) : lM i B ST P1 k7 k h (ix3 0 n t) = BAM i B ST P1 k7 (ix3 h n (tok k t)) := by
  fin_cases h
  · exact at3 (k0_off27_eq k) (BAM i B ST P1 k7) (ix3 0 n t) (ix3 0 n (tok k t)) rfl (Nat.zero_add _) rfl
  · exact at3 (k0_off30_eq k) (BAM i B ST P1 k7) (ix3 0 n t) (ix3 1 n (tok k t)) rfl (Nat.zero_add _) rfl
  · exact at3 (k0_off33_eq k) (BAM i B ST P1 k7) (ix3 0 n t) (ix3 2 n (tok k t)) rfl (Nat.zero_add _) rfl
  · exact at3 (k0_off36_eq k) (BAM i B ST P1 k7) (ix3 0 n t) (ix3 3 n (tok k t)) rfl (Nat.zero_add _) rfl

theorem lT_eq (h : Fin 4) (t : Fin 128) : lT i ST k7 k h (ix3 0 0 t) = srow i ST k7 k h (ix3 0 0 t) := by
  have e : srow i ST k7 k h (ix3 0 0 t) = ST (ix3 ⟨k.val, k8_lt k⟩ (gh i k7 h) t) :=
    at3 (k0_off22_eq i k7 k h) ST (ix3 0 0 t) (ix3 ⟨k.val, k8_lt k⟩ (gh i k7 h) t) rfl rfl (Nat.zero_add _)
  rw [e]
  fin_cases h
  · exact at3 (k0_off29_eq i k7 k) ST (ix3 0 0 t) (ix3 ⟨k.val, k8_lt k⟩ (gh i k7 0) t) rfl rfl (Nat.zero_add _)
  · exact at3 (k0_off32_eq i k7 k) ST (ix3 0 0 t) (ix3 ⟨k.val, k8_lt k⟩ (gh i k7 1) t) rfl rfl (Nat.zero_add _)
  · exact at3 (k0_off35_eq i k7 k) ST (ix3 0 0 t) (ix3 ⟨k.val, k8_lt k⟩ (gh i k7 2) t) rfl rfl (Nat.zero_add _)
  · exact at3 (k0_off38_eq i k7 k) ST (ix3 0 0 t) (ix3 ⟨k.val, k8_lt k⟩ (gh i k7 3) t) rfl rfl (Nat.zero_add _)

theorem bsT_eq (h : Fin 4) : bsT i B ST P1 k7 k h = k0_pay104 (k0_pay102 (acc i B ST P1 k7 h k0_t8_loop.trips)) (lM i B ST P1 k7 k h) := by
  fin_cases h <;> chain_rfl

theorem rrT_eq (h : Fin 4) : rrT i B ST P1 k7 k h = k0_pay105 (k0_pay100 (acc i B ST P1 k7 h k0_t8_loop.trips)) (k0_pay102 (acc i B ST P1 k7 h k0_t8_loop.trips))
    (lM i B ST P1 k7 k h) (lT i ST k7 k h) := by
  fin_cases h <;> chain_rfl

theorem p100 (A : FVec Ideal S8x128 .f32) (M : Vec Ideal S1x8x128 .f32) (n : Fin 8) (t : Fin 128) (c : Fin 640 → Fin 128 → EReal) (s : Fin 640 → EReal) (t' : Fin 640)
    (hg : k0_pay100 A (ix2 0 0) = G c s) (hM : M (ix3 0 n t) = blk c s n t') : k0_pay103 (k0_pay102 A) M (ix2 n t) = SE c s n t' := by
  unfold k0_pay102
  revert hg
  generalize k0_pay100 A = g
  intro hg
  pointwise [k0_pay103]
  rw [hg, hM, Nib.c6, Nib.c448]
  rw [div_ne (G6_ne _ _), one_mul]
  rfl

theorem p101 (v : FVec Ideal S8x128 .f32) (M : Vec Ideal S1x8x128 .f32) (n : Fin 8) (t : Fin 128) : k0_pay104 v M (ix4 0 0 n t) = k0_pay103 v M (ix2 n t) := by
  unfold k0_pay104
  generalize k0_pay103 v M = W
  pointwise []

theorem p102 (g : FVec Ideal S1x1 .f32) (v : FVec Ideal S8x128 .f32) (M : Vec Ideal S1x8x128 .f32) (sr : Vec Ideal S1x1x128 .f32)
    (n : Fin 8) (t : Fin 128) (c : Fin 640 → Fin 128 → EReal) (s : Fin 640 → EReal) (t' : Fin 640)
    (hg : g (ix2 0 0) = G c s) (hM : k0_pay103 v M (ix2 n t) = SE c s n t') (hs : sr (ix3 0 0 t) = s t') :
    k0_pay105 g v M sr (ix3 0 n t) = RF c s n t' := by
  unfold k0_pay105
  revert hM
  generalize k0_pay103 v M = W
  intro hM
  pointwise []
  rw [hg, hM, hs]
  unfold RF
  split
  · next h => rw [div_ne (ne_of_gt h), one_mul]
  · rfl

/-- The scale array with head `w`'s entry in the step's row replaced. -/
def gM (w : BitVec 32) (g : FVec Ideal S1x1 .f32) (Y : Vec Ideal S3x112 .f32) : FVec Ideal S3x112 .f32 :=
  select (andi (broadcastTo S3x112 (cmpi .eq w17 (broadcast S1x112 (Scalar.addi (Scalar.muli (wa1 i) 16#32) w))) broadcasts_S1x112_S3x112)
      (broadcastTo S3x112 (cmpi .eq w18 (broadcast S3x1 (wa0 i))) broadcasts_S3x1_S3x112))
    (broadcastTo S3x112 (shapeCast S1x1 g shapeCasts_S1x1_S1x1) broadcasts_S1x1_S3x112) (shapeCast S3x112 Y shapeCasts_S3x112_S3x112)

def wh (h : Fin 4) : BitVec 32 := Scalar.addi (Scalar.muli (Scf.iv 0#32 1#32 k7) 4#32) (BitVec.ofNat 32 h.val)

theorem gT_eq (Y : Vec Ideal S3x112 .f32) (h : Fin 4) : gT i B ST P1 k7 Y h = gM i (wh k7 h) (k0_pay100 (acc i B ST P1 k7 h k0_t8_loop.trips)) Y := by
  fin_cases h <;> chain_rfl

theorem wh_eq : ∀ (i : grid0.Coords) (k7 : Fin k0_t7_loop.trips) (h : Fin 4), Scalar.addi (Scalar.muli (wa1 i) 16#32) (wh k7 h) = BitVec.ofNat 32 (16 * (i 1).val + 4 * k7.val + h.val) := by
  decide +kernel

theorem cmp_eq {a b : ℕ} (ha : a < 1000) (hb : b < 1000) : IntOp.cmpi .eq (BitVec.ofNat 32 a) (BitVec.ofNat 32 b) = if a = b then 1#1 else 0#1 := by
  have e : (BitVec.ofNat 32 a = BitVec.ofNat 32 b) ↔ a = b := by
    constructor
    · intro h
      have := congrArg BitVec.toNat h
      simp only [BitVec.toNat_ofNat] at this
      omega
    · rintro rfl; rfl
  by_cases h : a = b
  · subst h; simp [IntOp.cmpi]
  · have h' : ¬ BitVec.ofNat 32 a = BitVec.ofNat 32 b := fun x => h (e.mp x)
    rw [if_neg h]
    show BitVec.ofBool (BitVec.ofNat 32 a == BitVec.ofNat 32 b) = 0#1
    rw [beq_eq_false_iff_ne.mpr h']; rfl

theorem gM_at (h : Fin 4) (g : FVec Ideal S1x1 .f32) (Y : Vec Ideal S3x112 .f32) (b : Fin 3) (l : Fin 112) :
    gM i (wh k7 h) g Y (ix2 b l) = if b.val = (i 0).val ∧ l.val = (gh i k7 h).val then g (ix2 0 0) else Y (ix2 b l) := by
  unfold gM
  generalize hw : wh k7 h = w
  pointwise [w17, w18]
  rw [← hw, wh_eq, show wa0 i = BitVec.ofNat 32 (i 0).val from rfl, cmp_eq (by omega) (by have := i1_lt i; have := k7_lt k7; omega),
    cmp_eq (by omega) (by have := i0_lt i; omega)]
  show _ = if b.val = (i 0).val ∧ l.val = 16 * (i 1).val + 4 * k7.val + h.val then _ else _
  by_cases h1 : l.val = 16 * (i 1).val + 4 * k7.val + h.val <;> by_cases h2 : b.val = (i 0).val <;> simp [h1, h2, Scalar.select, IntOp.andi]

section
variable {cx : Fin 16 → Fin 640 → Fin 128 → EReal} (hB : ∀ j, B j = cx (j 2) (j 1) (j 3))
variable {sx : Fin 112 → Fin 640 → EReal} (hS : ∀ j, ST j = sx (j 1) (tk (j 0) (j 2)))
variable (hP : Sel1 P1)
include hB hS hP

theorem se_at (h : Fin 4) (n : Fin 8) (t : Fin 128) :
    k0_pay103 (k0_pay102 (acc i B ST P1 k7 h k0_t8_loop.trips)) (lM i B ST P1 k7 k h) (ix2 n t) = SE (cx (hd k7 h)) (sx (gh i k7 h)) n (tok k t) :=
  p100 _ _ n t _ _ _ (g_at i B ST P1 k7 hB hS hP h) ((lM_at i B ST P1 k7 k h n t).trans (BAM_at i B ST P1 k7 hB hS hP h n (tok k t)))

theorem bsT_at (h : Fin 4) (n : Fin 8) (t : Fin 128) : bsT i B ST P1 k7 k h (ix4 0 0 n t) = SE (cx (hd k7 h)) (sx (gh i k7 h)) n (tok k t) := by
  rw [bsT_eq, p101, se_at i B ST P1 k7 k hB hS hP]

theorem rrT_at (h : Fin 4) (n : Fin 8) (t : Fin 128) : rrT i B ST P1 k7 k h (ix3 0 n t) = RF (cx (hd k7 h)) (sx (gh i k7 h)) n (tok k t) := by
  rw [rrT_eq]
  exact p102 _ _ _ _ n t _ _ _ (g_at i B ST P1 k7 hB hS hP h) (se_at i B ST P1 k7 k hB hS hP h n t)
    ((lT_eq i ST k7 k h t).trans (srow_at i ST k7 k hS h t))

theorem RR_at (h : Fin 4) (n : Fin 8) (t : Fin 640) : RR i B ST P1 k7 (ix3 h n t) = RF (cx (hd k7 h)) (sx (gh i k7 h)) n t := by
  show rrT i B ST P1 k7 ⟨t.val / 128, div_lt t⟩ h (ix3 0 n ⟨t.val % 128, mod_lt t⟩) = _
  rw [rrT_at i B ST P1 k7 _ hB hS hP]
  congr 1
  exact Fin.ext (by simp only [tok]; omega)

/-- The per-head scale array after head `h` of the group. -/
theorem gT_at (Y : Vec Ideal S3x112 .f32) (h : Fin 4) (b : Fin 3) (l : Fin 112) :
    gT i B ST P1 k7 Y h (ix2 b l) = if b.val = (i 0).val ∧ l.val = (gh i k7 h).val then G (cx (hd k7 h)) (sx (gh i k7 h)) else Y (ix2 b l) := by
  rw [gT_eq, gM_at, g_at i B ST P1 k7 hB hS hP h]

end
end

end Cert.KernelIdeal.Val
end
-- ==== Proof.Sel.lean ====
/-
  The two selectors the host builds, read at an element.
-/
module

public import proofs.«01_k».proof.Proof.Run
public import proofs.«01_k».proof.Proof.Val2

@[expose] public section

set_option maxRecDepth 16384

noncomputable section

namespace Cert.KernelIdeal.Val

open Idealize.ShloMosaic Cert.KernelIdeal.Gen Cert.KernelIdeal.Spec Cert.KernelIdeal.Run

def io0 : IVec S256x256 32 := iotaInDim S256x256 32 0
def io1 : IVec S256x256 32 := iotaInDim S256x256 32 1
def kk (n : BitVec 32) : IVec S256x256 32 := broadcastInDim S256x256 ![] bcast_S_S256x256 (constantI S_ 32 n)

/-- A mask as ones and zeros: chosen, and converted. -/
def pick (q : IVec S256x256 1) : FVec Ideal S256x256 .fp8e4m3 :=
  Host.convertf .fp8e4m3 (select q (broadcastInDim S256x256 ![] bcast_S_S256x256 (constant S_ .f32 0x3F800000#32 : FVec Ideal S_ .f32))
    (broadcastInDim S256x256 ![] bcast_S_S256x256 (constant S_ .f32 0x00000000#32 : FVec Ideal S_ .f32)) : FVec Ideal S256x256 .f32)

def conv (q : IVec S256x256 1) : FVec Ideal S256x256 .fp8e4m3 := Host.convertf .fp8e4m3 (uitofp .f32 q : FVec Ideal S256x256 .f32)

def src : IVec S256x256 32 :=
  addi (addi (muli (Host.divsi io0 (kk 128#32)) (kk 128#32)) (muli (Host.remsi io0 (kk 8#32)) (kk 16#32))) (Host.divsi (Host.remsi io0 (kk 128#32)) (kk 8#32))

theorem P1_eq (m : (ℓ : Loc nD τ sig) → Buf (Elt Ideal) ℓ) (c : Dev nD) : P1 m c = pick (cmpi .eq io1 src) := by
  chain_rfl

theorem P2_eq (m : (ℓ : Loc nD τ sig) → Buf (Elt Ideal) ℓ) (c : Dev nD) : P2 m c = conv (cmpi .eq (addi io0 (kk 0#32)) io1) := by
  chain_rfl

theorem pick_at (q : IVec S256x256 1) (r x : Fin 256) : pick q (ix2 r x) = if q (ix2 r x) = 1#1 then (1 : EReal) else 0 := by
  pointwise [pick]
  rfl

def word (r : Fin 256) : BitVec 32 :=
  IntOp.addi (IntOp.addi (IntOp.muli (IntOp.divsi ArithUnit.host (BitVec.ofNat 32 r.val) 128#32) 128#32) (IntOp.muli (IntOp.remsi ArithUnit.host (BitVec.ofNat 32 r.val) 8#32) 16#32))
    (IntOp.divsi ArithUnit.host (IntOp.remsi ArithUnit.host (BitVec.ofNat 32 r.val) 128#32) 8#32)

theorem src_at (r x : Fin 256) : src (ix2 r x) = word r := by
  pointwise [src, io0, kk]
  rfl

theorem word_eq : ∀ r : Fin 256, word r = BitVec.ofNat 32 (128 * (r.val / 128) + 16 * (r.val % 8) + r.val % 128 / 8) := by decide +kernel

theorem cmpi_at (x y : IVec S256x256 32) (j : S256x256.Idx) : cmpi .eq x y j = IntOp.cmpi .eq (x j) (y j) := rfl

theorem sel1 (m : (ℓ : Loc nD τ sig) → Buf (Elt Ideal) ℓ) (c : Dev nD) : Sel1 (P1 m c) := by
  intro a n j x
  rw [P1_eq, pick_at, cmpi_at, src_at, word_eq, show io1 (ix2 ⟨128 * a.val + 8 * j.val + n.val, by omega⟩ x) = BitVec.ofNat 32 x.val from rfl,
    cmp_eq (by omega) (by omega)]
  have e0 : (128 * a.val + 8 * j.val + n.val) / 128 = a.val := by omega
  have e1 : (128 * a.val + 8 * j.val + n.val) % 8 = n.val := by omega
  have e2 : (128 * a.val + 8 * j.val + n.val) % 128 = 8 * j.val + n.val := by omega
  have e3 : (8 * j.val + n.val) / 8 = j.val := by omega
  by_cases h : x = ⟨128 * a.val + 16 * n.val + j.val, by omega⟩
  · have hx : x.val = 128 * a.val + 16 * n.val + j.val := by rw [h]
    rw [if_pos h]
    exact if_pos (if_pos (by simp only [e0, e1, e2, e3]; omega))
  · have hx : ¬x.val = 128 * a.val + 16 * n.val + j.val := fun e => h (Fin.ext e)
    rw [if_neg h]
    exact if_neg (fun e => absurd ((if_neg (by simp only [e0, e1, e2, e3]; omega)).symm.trans e) (by decide))

theorem bit_val (b : BitVec 1) : (((b.toNat : ℝ) : ℝ) : EReal) = if b = 1#1 then (1 : EReal) else 0 := by
  rcases (show b = 1#1 ∨ b = 0#1 by revert b; decide) with rfl | rfl <;> simp

theorem conv_at (q : IVec S256x256 1) (r x : Fin 256) : conv q (ix2 r x) = if q (ix2 r x) = 1#1 then (1 : EReal) else 0 := by
  rw [← bit_val]
  rfl

theorem sel2 (m : (ℓ : Loc nD τ sig) → Buf (Elt Ideal) ℓ) (c : Dev nD) : Sel2 (P2 m c) := by
  intro r x
  rw [P2_eq, conv_at, cmpi_at, show io1 (ix2 r x) = BitVec.ofNat 32 x.val from rfl,
    show addi io0 (kk 0#32) (ix2 r x) = BitVec.ofNat 32 r.val from BitVec.add_zero _, cmp_eq (by omega) (by omega)]
  by_cases h : x = r
  · rw [if_pos h]
    exact if_pos (if_pos (by rw [h]))
  · rw [if_neg h]
    exact if_neg (fun e => absurd ((if_neg (fun e => h (Fin.ext e.symm))).symm.trans e) (by decide))

end Cert.KernelIdeal.Val
end
-- ==== Proof.Pack.lean ====
/-
  The packing of a head's tile: the quotients of eight blocks, clipped, each turned into a code of four bits,
  eight codes to a word, the words cleared of negative zeros and read as bytes.
-/
module

public import proofs.«01_k».proof.Proof.Spec
public import proofs.«01_k».proof.Proof.Nib
public import Idealize.ShloMosaic.Lib.Pointwise
public import Idealize.ShloMosaic.Lib.BitcastPair
public import Idealize.ShloMosaic.Lib.BitcastFour
public import Idealize.ShloMosaic.Lib.Pipeline.Regions
public import Idealize.ShloMosaic.Lib.Pipeline.Value

@[expose] public section

set_option maxRecDepth 16384

noncomputable section

namespace Cert.KernelIdeal.Pack

open Idealize.ShloMosaic Cert.KernelIdeal.Gen Cert.KernelIdeal.Spec

/-! ## The quotients -/

/-- Sixteen rows of codes times a row of factors. -/
def row (o : Fin 2 → ℕ) (ho : S256x256.Slices o S16x128) (v : FVec Ideal S256x256 .f32) (r : Vec Ideal S1x1x128 .f32) : FVec Ideal S16x128 .f32 :=
  mulf (extractStridedSlice S16x128 o v ho) (broadcastTo S16x128 (shapeCast S1x128 r shapeCasts_S1x1x128_S1x128) broadcasts_S1x128_S16x128)

def stack (p : Fin 8 → FVec Ideal S16x128 .f32) : FVec Ideal S128x128 .f32 :=
  concatenate S128x128 0 [⟨S16x128, p 0⟩, ⟨S16x128, p 1⟩, ⟨S16x128, p 2⟩, ⟨S16x128, p 3⟩, ⟨S16x128, p 4⟩, ⟨S16x128, p 5⟩, ⟨S16x128, p 6⟩, ⟨S16x128, p 7⟩]
    concatenates_S16x128_S16x128_S16x128_S16x128_S16x128_S16x128_S16x128_S16x128_S128x128_d0

theorem stack_at (p : Fin 8 → FVec Ideal S16x128 .f32) (a : Fin 8) (q : Fin 16) (t : Fin 128) :
    stack p (ix2 ⟨16 * a.val + q.val, by omega⟩ t) = p a (ix2 q t) := by
  unfold stack
  refine concatenate_ofFn_apply (t := S128x128) (s₁ := S16x128) (0 : Fin 2) p _ rfl 16 rfl _ a ?_ (ix2 q t) ?_ ?_
  · show (16 * a.val + q.val) / 16 = a.val; omega
  · show q.val = (16 * a.val + q.val) % 16; omega
  · intro b hb
    match b with
    | ⟨0, _⟩ => exact absurd rfl hb
    | ⟨1, _⟩ => rfl

theorem row_at (o : Fin 2 → ℕ) (ho : S256x256.Slices o S16x128) (v : FVec Ideal S256x256 .f32) (r : Vec Ideal S1x1x128 .f32) (q : Fin 16) (t : Fin 128)
    (a b : Fin 256) (ha : o 0 + q.val = a.val) (hb : o 1 + t.val = b.val) : row o ho v r (ix2 q t) = v (ix2 a b) * r (ix3 0 0 t) := by
  have e : extractStridedSlice S16x128 o v ho (ix2 q t) = v (ix2 a b) := by
    refine extractStridedSlice_apply o v ho (ix2 q t) (ix2 a b) (fun x => ?_)
    match x with
    | ⟨0, _⟩ => exact ha.symm
    | ⟨1, _⟩ => exact hb.symm
  unfold row
  rw [← e]
  generalize extractStridedSlice S16x128 o v ho = W
  pointwise []

def clip (x : FVec Ideal S128x128 .f32) : FVec Ideal S128x128 .f32 :=
  minimumf (broadcast S128x128 (Scalar.ofBits .f32 0x40C00000#32)) (maximumf (broadcast S128x128 (Scalar.ofBits .f32 0xC0C00000#32)) x)

theorem clip_at (x : FVec Ideal S128x128 .f32) (r t : Fin 128) : clip x (ix2 r t) = min ((6 : ℝ) : EReal) (max ((-6 : ℝ) : EReal) (x (ix2 r t))) := by
  pointwise [clip]
  rw [Nib.c6, Nib.cn6]

/-! ## The codes -/

/-- The first four thresholds. -/
def lad (a : FVec Ideal S128x128 .f32) : IVec S128x128 32 :=
  select (cmpf .oge a (broadcast S128x128 (Scalar.ofBits .f32 0x3FE00000#32))) (broadcast S128x128 4#32)
    (select (cmpf .ogt a (broadcast S128x128 (Scalar.ofBits .f32 0x3FA00000#32))) (broadcast S128x128 3#32)
      (select (cmpf .oge a (broadcast S128x128 (Scalar.ofBits .f32 0x3F400000#32))) (broadcast S128x128 2#32)
        (select (cmpf .ogt a (broadcast S128x128 (Scalar.ofBits .f32 0x3E800000#32))) (broadcast S128x128 1#32) (broadcast S128x128 0#32))))

def codes (y : FVec Ideal S128x128 .f32) : IVec S16x8x128 32 := k0_pay48 y (absf y) (lad (absf y)) (cmpf .ogt (absf y) (broadcast S128x128 (Scalar.ofBits .f32 0x40200000#32)))

theorem codes_at (y : FVec Ideal S128x128 .f32) (w : Fin 16) (k : Fin 8) (t : Fin 128) :
    codes y (ix3 w k t) = Nib.kc (y (ix2 ⟨8 * w.val + k.val, by omega⟩ t)) := by
  unfold codes
  pointwise [k0_pay48, lad]
  rw [show (⟨w.val * 8 + k.val, by omega⟩ : Fin 128) = ⟨8 * w.val + k.val, by omega⟩ from Fin.ext (by simp only; omega)]
  rfl

def slot (c : IVec S16x8x128 32) (k : ℕ) (h : S16x8x128.Slices ![0, k, 0] S16x1x128) (s : BitVec 32) : IVec S16x128 32 :=
  shli (shapeCast S16x128 (extractStridedSlice S16x1x128 ![0, k, 0] c h) shapeCasts_S16x1x128_S16x128) (broadcast S16x128 s)

/-- The words of eight codes. -/
def word (c : IVec S16x8x128 32) : IVec S16x128 32 :=
  ori (ori (ori (ori (ori (ori (ori (slot c 0 slices_S16x8x128_o0_0_0_S16x1x128 0#32) (slot c 1 slices_S16x8x128_o0_1_0_S16x1x128 4#32))
    (slot c 2 slices_S16x8x128_o0_2_0_S16x1x128 8#32)) (slot c 3 slices_S16x8x128_o0_3_0_S16x1x128 12#32)) (slot c 4 slices_S16x8x128_o0_4_0_S16x1x128 16#32))
    (slot c 5 slices_S16x8x128_o0_5_0_S16x1x128 20#32)) (slot c 6 slices_S16x8x128_o0_6_0_S16x1x128 24#32)) (slot c 7 slices_S16x8x128_o0_7_0_S16x1x128 28#32)

/-- The words without negative zeros. -/
def cleared (w : IVec S16x128 32) : IVec S16x128 32 :=
  andi w (ori (addi (andi w (broadcast S16x128 2004318071#32)) (broadcast S16x128 2004318071#32)) (broadcast S16x128 2004318071#32))

def bytes (w : IVec S16x128 32) : IVec S1x1x64x128 8 :=
  shapeCast S1x1x64x128 (bitcast S64x128 8 w bitcasts_S16x128_w32_S64x128_w8) shapeCasts_S64x128_S1x1x64x128

def pack (y : FVec Ideal S128x128 .f32) : IVec S1x1x64x128 8 := bytes (cleared (word (codes (clip y))))

/-! ## The words, four bits at a time -/

theorem append_and {n m : ℕ} (a c : BitVec n) (b d : BitVec m) : (a ++ b) &&& (c ++ d) = (a &&& c) ++ (b &&& d) := by
  apply BitVec.eq_of_getLsbD_eq
  intro i hi
  simp only [BitVec.getLsbD_and, BitVec.getLsbD_append]
  split <;> rfl

theorem append_or {n m : ℕ} (a c : BitVec n) (b d : BitVec m) : (a ++ b) ||| (c ++ d) = (a ||| c) ++ (b ||| d) := by
  apply BitVec.eq_of_getLsbD_eq
  intro i hi
  simp only [BitVec.getLsbD_or, BitVec.getLsbD_append]
  split <;> rfl

theorem toNat_app {n : ℕ} (a : BitVec n) (b : BitVec 4) : (a ++ b).toNat = 16 * a.toNat + b.toNat := by
  rw [BitVec.toNat_append, ← Nat.shiftLeft_add_eq_or_of_lt b.isLt, Nat.shiftLeft_eq]
  omega

theorem append_add {n : ℕ} (a c : BitVec n) (b d : BitVec 4) (h : b.toNat + d.toNat < 16) : (a ++ b) + (c ++ d) = (a + c) ++ (b + d) := by
  apply BitVec.eq_of_toNat_eq
  rw [toNat_app, BitVec.toNat_add, BitVec.toNat_add, BitVec.toNat_add, toNat_app, toNat_app, Nat.pow_add, Nat.mul_comm (2 ^ n), show 2 ^ 4 = 16 from rfl, Nat.mod_mul,
    Nat.mod_eq_of_lt h, show (16 * a.toNat + b.toNat + (16 * c.toNat + d.toNat)) % 16 = b.toNat + d.toNat by omega,
    show (16 * a.toNat + b.toNat + (16 * c.toNat + d.toNat)) / 16 = a.toNat + c.toNat by omega]
  omega

/-- A word without the negative zeros under the mask `m`. -/
def clrW {n : ℕ} (m w : BitVec n) : BitVec n := w &&& ((w &&& m) + m ||| m)

theorem clrW_append {n : ℕ} (m w : BitVec n) (c : BitVec 4) : clrW (m ++ 7#4) (w ++ c) = clrW m w ++ Nib.clr c := by
  unfold clrW Nib.clr
  rw [append_and, append_add _ _ _ _ (by revert c; decide), append_or, append_and]

/-- Eight codes as one word. -/
def eight (c : Fin 8 → BitVec 4) : BitVec 32 := c 7 ++ c 6 ++ c 5 ++ c 4 ++ c 3 ++ c 2 ++ c 1 ++ c 0

theorem clrW_eight (c : Fin 8 → BitVec 4) : clrW 2004318071#32 (eight c) = eight fun k => Nib.clr (c k) := by
  have e : (2004318071#32 : BitVec 32) = 7#4 ++ 7#4 ++ 7#4 ++ 7#4 ++ 7#4 ++ 7#4 ++ 7#4 ++ 7#4 := by decide
  rw [e]
  unfold eight
  rw [clrW_append, clrW_append, clrW_append, clrW_append, clrW_append, clrW_append, clrW_append]
  rfl

theorem shl_at (x : BitVec 4) (k : ℕ) (hk : k < 8) (i : ℕ) : (IntOp.shli ArithUnit.vector (x.setWidth 32) (BitVec.ofNat 32 (4 * k))).getLsbD i
    = (decide (i < 32) && decide (4 * k ≤ i) && x.getLsbD (i - 4 * k)) := by
  have e : IntOp.shli ArithUnit.vector (x.setWidth 32) (BitVec.ofNat 32 (4 * k)) = (x.setWidth 32) <<< (4 * k) := by
    interval_cases k <;> rfl
  rw [e, BitVec.getLsbD_shiftLeft, BitVec.getLsbD_setWidth]
  by_cases h1 : i < 32
  · have h3 : i - 4 * k < 32 := by omega
    by_cases h2 : 4 * k ≤ i
    · simp [h1, h2, h3, show ¬ i < 4 * k by omega]
    · simp [h1, h2, show i < 4 * k by omega]
  · simp [h1]

theorem eight_at (c : Fin 8 → BitVec 4) (i : ℕ) (hi : i < 32) : (eight c).getLsbD i = (c ⟨i / 4, by omega⟩).getLsbD (i % 4) := by
  unfold eight
  simp only [BitVec.getLsbD_append]
  interval_cases i <;> rfl

theorem words (c : Fin 8 → BitVec 4) :
    IntOp.ori (IntOp.ori (IntOp.ori (IntOp.ori (IntOp.ori (IntOp.ori (IntOp.ori (IntOp.shli ArithUnit.vector ((c 0).setWidth 32) 0#32) (IntOp.shli ArithUnit.vector ((c 1).setWidth 32) 4#32))
      (IntOp.shli ArithUnit.vector ((c 2).setWidth 32) 8#32)) (IntOp.shli ArithUnit.vector ((c 3).setWidth 32) 12#32)) (IntOp.shli ArithUnit.vector ((c 4).setWidth 32) 16#32))
      (IntOp.shli ArithUnit.vector ((c 5).setWidth 32) 20#32)) (IntOp.shli ArithUnit.vector ((c 6).setWidth 32) 24#32)) (IntOp.shli ArithUnit.vector ((c 7).setWidth 32) 28#32) = eight c := by
  apply BitVec.eq_of_getLsbD_eq
  intro i hi
  have past (x : BitVec 4) (n : ℕ) (h : 4 ≤ n) : x.getLsbD n = false := BitVec.getLsbD_of_ge x n h
  rw [eight_at c i hi]
  simp only [IntOp.ori, BitVec.getLsbD_or]
  rw [shl_at (c 0) 0 (by omega), shl_at (c 1) 1 (by omega), shl_at (c 2) 2 (by omega), shl_at (c 3) 3 (by omega), shl_at (c 4) 4 (by omega), shl_at (c 5) 5 (by omega),
    shl_at (c 6) 6 (by omega), shl_at (c 7) 7 (by omega)]
  interval_cases i <;> simp [past]

/-- A pair of cleared codes is the reference's byte. -/
theorem byte_eq : ∀ x y : BitVec 4, BitVec.setWidth 8 (IntOp.ori (x.setWidth 32) (IntOp.shli ArithUnit.vector (y.setWidth 32) 4#32)) = y ++ x := by
  decide +kernel

theorem bytes_at (W : IVec S16x128 32) (p : Fin 64) (t : Fin 128) (c : Fin 8 → BitVec 4) (h : W (ix2 ⟨p.val / 4, by omega⟩ t) = eight c) :
    bytes W (ix4 0 0 p t) = c ⟨2 * (p.val % 4) + 1, by omega⟩ ++ c ⟨2 * (p.val % 4), by omega⟩ := by
  have e : bytes W (ix4 0 0 p t) = bitcast S64x128 8 W bitcasts_S16x128_w32_S64x128_w8 (ix2 p t) := by
    unfold bytes
    generalize bitcast S64x128 8 W bitcasts_S16x128_w32_S64x128_w8 = B
    pointwise []
  rw [e]
  apply BitVec.eq_of_getLsbD_eq
  intro q hq
  rw [bitcast_getLsbD W bitcasts_S16x128_w32_S64x128_w8 (ix2 p t) q hq (by decide)]
  have hi : Shape.Bitcasts.srcIdx bitcasts_S16x128_w32_S64x128_w8 (ix2 p t) ((S64x128.row (ix2 p t) * 8 + q) / 32)
      (fun a ha => (Nat.div_lt_iff_lt_mul (by decide)).2 (Shape.Bitcasts.pos_lt bitcasts_S16x128_w32_S64x128_w8 (ix2 p t) q hq a ha)) = ix2 ⟨p.val / 4, by omega⟩ t := by
    funext a
    match a with
    | ⟨0, _⟩ =>
      refine Fin.ext ((Shape.Bitcasts.srcIdx_row _ _ _ _ ⟨0, Nat.zero_lt_two⟩ rfl).trans ?_)
      show (p.val * 8 + q) / 32 = p.val / 4
      omega
    | ⟨1, _⟩ => exact Fin.ext (Shape.Bitcasts.srcIdx_other _ _ _ _ ⟨1, Nat.one_lt_two⟩ (by show ¬ 1 + 2 = 2; omega))
  rw [hi, h, show S64x128.row (ix2 p t) = p.val from rfl, eight_at _ _ (by omega), BitVec.getLsbD_append]
  split
  · congr 1
    · congr 1; apply Fin.ext; simp only; omega
    · omega
  · congr 1
    · congr 1; apply Fin.ext; simp only; omega
    · omega

theorem pack_at (y : FVec Ideal S128x128 .f32) (p : Fin 64) (t : Fin 128) :
    pack y (ix4 0 0 p t) = BitVec.setWidth 8 (IntOp.ori (Nib.rc (clip y (ix2 ⟨2 * p.val, by omega⟩ t)))
      (IntOp.shli ArithUnit.vector (Nib.rc (clip y (ix2 ⟨2 * p.val + 1, by omega⟩ t))) 4#32)) := by
  have hc (r : Fin 128) : ∃ c : BitVec 4, Nib.kc (clip y (ix2 r t)) = c.setWidth 32 ∧ Nib.rc (clip y (ix2 r t)) = (Nib.clr c).setWidth 32 := by
    rw [clip_at]
    refine Nib.kc_rc _ (le_min ?_ (le_max_left _ _)) (min_le_left _ _)
    exact_mod_cast (by norm_num : (-6 : ℝ) ≤ 6)
  choose c h1 h2 using hc
  have hw : cleared (word (codes (clip y))) (ix2 ⟨p.val / 4, by omega⟩ t) = eight fun k => Nib.clr (c ⟨8 * (p.val / 4) + k.val, by omega⟩) := by
    rw [← clrW_eight, ← words]
    have hk (k : Fin 8) := codes_at (clip y) ⟨p.val / 4, by omega⟩ k t
    generalize codes (clip y) = D at hk ⊢
    simp only [h1] at hk
    simp only [← hk]
    unfold clrW cleared word slot
    pointwise []
    rfl
  unfold pack
  rw [bytes_at _ p t _ hw, h2, h2, byte_eq]
  congr 3 <;> (apply Fin.ext; simp only; omega)

/-- The rows of a head's tile. -/
def quo (X : FVec Ideal S256x256 .f32) (r0 r1 r2 r3 r4 r5 r6 r7 : Vec Ideal S1x1x128 .f32) : Fin 4 → FVec Ideal S128x128 .f32
  | 0 => stack ![row ![0, 0] slices_S256x256_o0_0_S16x128 X r0, row ![16, 0] slices_S256x256_o16_0_S16x128 X r1, row ![32, 0] slices_S256x256_o32_0_S16x128 X r2, row ![48, 0] slices_S256x256_o48_0_S16x128 X r3, row ![64, 0] slices_S256x256_o64_0_S16x128 X r4, row ![80, 0] slices_S256x256_o80_0_S16x128 X r5, row ![96, 0] slices_S256x256_o96_0_S16x128 X r6, row ![112, 0] slices_S256x256_o112_0_S16x128 X r7]
  | 1 => stack ![row ![0, 128] slices_S256x256_o0_128_S16x128 X r0, row ![16, 128] slices_S256x256_o16_128_S16x128 X r1, row ![32, 128] slices_S256x256_o32_128_S16x128 X r2, row ![48, 128] slices_S256x256_o48_128_S16x128 X r3, row ![64, 128] slices_S256x256_o64_128_S16x128 X r4, row ![80, 128] slices_S256x256_o80_128_S16x128 X r5, row ![96, 128] slices_S256x256_o96_128_S16x128 X r6, row ![112, 128] slices_S256x256_o112_128_S16x128 X r7]
  | 2 => stack ![row ![128, 0] slices_S256x256_o128_0_S16x128 X r0, row ![144, 0] slices_S256x256_o144_0_S16x128 X r1, row ![160, 0] slices_S256x256_o160_0_S16x128 X r2, row ![176, 0] slices_S256x256_o176_0_S16x128 X r3, row ![192, 0] slices_S256x256_o192_0_S16x128 X r4, row ![208, 0] slices_S256x256_o208_0_S16x128 X r5, row ![224, 0] slices_S256x256_o224_0_S16x128 X r6, row ![240, 0] slices_S256x256_o240_0_S16x128 X r7]
  | 3 => stack ![row ![128, 128] slices_S256x256_o128_128_S16x128 X r0, row ![144, 128] slices_S256x256_o144_128_S16x128 X r1, row ![160, 128] slices_S256x256_o160_128_S16x128 X r2, row ![176, 128] slices_S256x256_o176_128_S16x128 X r3, row ![192, 128] slices_S256x256_o192_128_S16x128 X r4, row ![208, 128] slices_S256x256_o208_128_S16x128 X r5, row ![224, 128] slices_S256x256_o224_128_S16x128 X r6, row ![240, 128] slices_S256x256_o240_128_S16x128 X r7]

section
variable (x : Vec Ideal S1x256x256 .fp8e4m3) (p : Vec Ideal S256x256 .fp8e4m3) (X : FVec Ideal S256x256 .f32) (r0 r1 r2 r3 r4 r5 r6 r7 : Vec Ideal S1x1x128 .f32)

/-! The four heads' packed bytes are one function of their codes and factors. -/

theorem codA_eq : codA x p r0 r1 r2 r3 r4 r5 r6 r7 = pack (quo (k0_pay38 x p) r0 r1 r2 r3 r4 r5 r6 r7 0) := by chain_rfl
theorem codB_eq : codB X r0 r1 r2 r3 r4 r5 r6 r7 = pack (quo X r0 r1 r2 r3 r4 r5 r6 r7 1) := by chain_rfl
theorem codC_eq : codC X r0 r1 r2 r3 r4 r5 r6 r7 = pack (quo X r0 r1 r2 r3 r4 r5 r6 r7 2) := by chain_rfl
theorem codD_eq : codD X r0 r1 r2 r3 r4 r5 r6 r7 = pack (quo X r0 r1 r2 r3 r4 r5 r6 r7 3) := by chain_rfl
end

end Cert.KernelIdeal.Pack
end
-- ==== Proof.Val3.lean ====
/-
  The third phase of one grid step read at an element, and what the step leaves in the three results: the bytes, the
  block scales and the per-head scales of its sixteen heads.
-/
module

public import proofs.«01_k».proof.Proof.Val2
public import proofs.«01_k».proof.Proof.Pack

@[expose] public section

set_option maxRecDepth 16384

noncomputable section

namespace Cert.KernelIdeal.Val

open Idealize.ShloMosaic Cert.KernelIdeal.Gen Cert.KernelIdeal.Spec Cert.KernelIdeal.Fill Cert.Quant Cert.KernelIdeal.Pack

/-- The regrouped codes of a tile: columns along rows. -/
theorem xp_at (W : Vec Ideal S1x256x256 .fp8e4m3) (P : Vec Ideal S256x256 .fp8e4m3) (hP : Sel2 P) (r s : Fin 256) : k0_pay38 W P (ix2 r s) = W (ix3 0 s r) := by
  unfold k0_pay38
  pointwise []
  exact sum_pick _ (fun x => W (ix3 0 s x)) r fun x => hP r x

theorem quo_at (X : FVec Ideal S256x256 .f32) (r : Fin 8 → Vec Ideal S1x1x128 .f32) (h : Fin 4) (n : Fin 8) (q : Fin 16) (t : Fin 128) :
    quo X (r 0) (r 1) (r 2) (r 3) (r 4) (r 5) (r 6) (r 7) h (ix2 ⟨16 * n.val + q.val, by omega⟩ t)
      = X (ix2 ⟨128 * (h.val / 2) + (16 * n.val + q.val), by omega⟩ ⟨128 * (h.val % 2) + t.val, by omega⟩) * r n (ix3 0 0 t) := by
  match h with
  | 0 =>
    refine (stack_at _ n q t).trans ?_
    match n with
    | 0 => exact row_at ![0, 0] _ X (r 0) q t _ _ (by simp <;> omega) (by simp)
    | 1 => exact row_at ![16, 0] _ X (r 1) q t _ _ (by simp <;> omega) (by simp)
    | 2 => exact row_at ![32, 0] _ X (r 2) q t _ _ (by simp <;> omega) (by simp)
    | 3 => exact row_at ![48, 0] _ X (r 3) q t _ _ (by simp <;> omega) (by simp)
    | 4 => exact row_at ![64, 0] _ X (r 4) q t _ _ (by simp <;> omega) (by simp)
    | 5 => exact row_at ![80, 0] _ X (r 5) q t _ _ (by simp <;> omega) (by simp)
    | 6 => exact row_at ![96, 0] _ X (r 6) q t _ _ (by simp <;> omega) (by simp)
    | 7 => exact row_at ![112, 0] _ X (r 7) q t _ _ (by simp <;> omega) (by simp)
  | 1 =>
    refine (stack_at _ n q t).trans ?_
    match n with
    | 0 => exact row_at ![0, 128] _ X (r 0) q t _ _ (by simp <;> omega) (by simp)
    | 1 => exact row_at ![16, 128] _ X (r 1) q t _ _ (by simp <;> omega) (by simp)
    | 2 => exact row_at ![32, 128] _ X (r 2) q t _ _ (by simp <;> omega) (by simp)
    | 3 => exact row_at ![48, 128] _ X (r 3) q t _ _ (by simp <;> omega) (by simp)
    | 4 => exact row_at ![64, 128] _ X (r 4) q t _ _ (by simp <;> omega) (by simp)
    | 5 => exact row_at ![80, 128] _ X (r 5) q t _ _ (by simp <;> omega) (by simp)
    | 6 => exact row_at ![96, 128] _ X (r 6) q t _ _ (by simp <;> omega) (by simp)
    | 7 => exact row_at ![112, 128] _ X (r 7) q t _ _ (by simp <;> omega) (by simp)
  | 2 =>
    refine (stack_at _ n q t).trans ?_
    match n with
    | 0 => exact row_at ![128, 0] _ X (r 0) q t _ _ (by simp <;> omega) (by simp)
    | 1 => exact row_at ![144, 0] _ X (r 1) q t _ _ (by simp <;> omega) (by simp)
    | 2 => exact row_at ![160, 0] _ X (r 2) q t _ _ (by simp <;> omega) (by simp)
    | 3 => exact row_at ![176, 0] _ X (r 3) q t _ _ (by simp <;> omega) (by simp)
    | 4 => exact row_at ![192, 0] _ X (r 4) q t _ _ (by simp <;> omega) (by simp)
    | 5 => exact row_at ![208, 0] _ X (r 5) q t _ _ (by simp <;> omega) (by simp)
    | 6 => exact row_at ![224, 0] _ X (r 6) q t _ _ (by simp <;> omega) (by simp)
    | 7 => exact row_at ![240, 0] _ X (r 7) q t _ _ (by simp <;> omega) (by simp)
  | 3 =>
    refine (stack_at _ n q t).trans ?_
    match n with
    | 0 => exact row_at ![128, 128] _ X (r 0) q t _ _ (by simp <;> omega) (by simp)
    | 1 => exact row_at ![144, 128] _ X (r 1) q t _ _ (by simp <;> omega) (by simp)
    | 2 => exact row_at ![160, 128] _ X (r 2) q t _ _ (by simp <;> omega) (by simp)
    | 3 => exact row_at ![176, 128] _ X (r 3) q t _ _ (by simp <;> omega) (by simp)
    | 4 => exact row_at ![192, 128] _ X (r 4) q t _ _ (by simp <;> omega) (by simp)
    | 5 => exact row_at ![208, 128] _ X (r 5) q t _ _ (by simp <;> omega) (by simp)
    | 6 => exact row_at ![224, 128] _ X (r 6) q t _ _ (by simp <;> omega) (by simp)
    | 7 => exact row_at ![240, 128] _ X (r 7) q t _ _ (by simp <;> omega) (by simp)

section
variable (i : grid0.Coords) (B : Vec Ideal S2x640x16x128 .fp8e4m3) (ST : Vec Ideal S5x112x128 .f32) (P1 P2 : Vec Ideal S256x256 .fp8e4m3)
variable (k7 : Fin k0_t7_loop.trips) (k : Fin k0_t8_loop.trips)

/-- The rows of factors as loaded. -/
def lr : Fin 4 → Fin 8 → Vec Ideal S1x1x128 .f32
  | 0, 0 => lR i B ST P1 k7 (k0_off40 k) (k0_off40_inb k)
  | 0, 1 => lR i B ST P1 k7 (k0_off41 k) (k0_off41_inb k)
  | 0, 2 => lR i B ST P1 k7 (k0_off42 k) (k0_off42_inb k)
  | 0, 3 => lR i B ST P1 k7 (k0_off43 k) (k0_off43_inb k)
  | 0, 4 => lR i B ST P1 k7 (k0_off44 k) (k0_off44_inb k)
  | 0, 5 => lR i B ST P1 k7 (k0_off45 k) (k0_off45_inb k)
  | 0, 6 => lR i B ST P1 k7 (k0_off46 k) (k0_off46_inb k)
  | 0, 7 => lR i B ST P1 k7 (k0_off47 k) (k0_off47_inb k)
  | 1, 0 => lR i B ST P1 k7 (k0_off49 k) (k0_off49_inb k)
  | 1, 1 => lR i B ST P1 k7 (k0_off50 k) (k0_off50_inb k)
  | 1, 2 => lR i B ST P1 k7 (k0_off51 k) (k0_off51_inb k)
  | 1, 3 => lR i B ST P1 k7 (k0_off52 k) (k0_off52_inb k)
  | 1, 4 => lR i B ST P1 k7 (k0_off53 k) (k0_off53_inb k)
  | 1, 5 => lR i B ST P1 k7 (k0_off54 k) (k0_off54_inb k)
  | 1, 6 => lR i B ST P1 k7 (k0_off55 k) (k0_off55_inb k)
  | 1, 7 => lR i B ST P1 k7 (k0_off56 k) (k0_off56_inb k)
  | 2, 0 => lR i B ST P1 k7 (k0_off57 k) (k0_off57_inb k)
  | 2, 1 => lR i B ST P1 k7 (k0_off58 k) (k0_off58_inb k)
  | 2, 2 => lR i B ST P1 k7 (k0_off59 k) (k0_off59_inb k)
  | 2, 3 => lR i B ST P1 k7 (k0_off60 k) (k0_off60_inb k)
  | 2, 4 => lR i B ST P1 k7 (k0_off61 k) (k0_off61_inb k)
  | 2, 5 => lR i B ST P1 k7 (k0_off62 k) (k0_off62_inb k)
  | 2, 6 => lR i B ST P1 k7 (k0_off63 k) (k0_off63_inb k)
  | 2, 7 => lR i B ST P1 k7 (k0_off64 k) (k0_off64_inb k)
  | 3, 0 => lR i B ST P1 k7 (k0_off65 k) (k0_off65_inb k)
  | 3, 1 => lR i B ST P1 k7 (k0_off66 k) (k0_off66_inb k)
  | 3, 2 => lR i B ST P1 k7 (k0_off67 k) (k0_off67_inb k)
  | 3, 3 => lR i B ST P1 k7 (k0_off68 k) (k0_off68_inb k)
  | 3, 4 => lR i B ST P1 k7 (k0_off69 k) (k0_off69_inb k)
  | 3, 5 => lR i B ST P1 k7 (k0_off70 k) (k0_off70_inb k)
  | 3, 6 => lR i B ST P1 k7 (k0_off71 k) (k0_off71_inb k)
  | 3, 7 => lR i B ST P1 k7 (k0_off72 k) (k0_off72_inb k)

theorem lr_at (h : Fin 4) (n : Fin 8) (t : Fin 128) : lr i B ST P1 k7 k h n (ix3 0 0 t) = RR i B ST P1 k7 (ix3 h n (tok k t)) := by
  match h, n with
  | 0, 0 => exact at3 (k0_off40_eq k) (RR i B ST P1 k7) (ix3 0 0 t) (ix3 0 0 (tok k t)) rfl rfl rfl
  | 0, 1 => exact at3 (k0_off41_eq k) (RR i B ST P1 k7) (ix3 0 0 t) (ix3 0 1 (tok k t)) rfl rfl rfl
  | 0, 2 => exact at3 (k0_off42_eq k) (RR i B ST P1 k7) (ix3 0 0 t) (ix3 0 2 (tok k t)) rfl rfl rfl
  | 0, 3 => exact at3 (k0_off43_eq k) (RR i B ST P1 k7) (ix3 0 0 t) (ix3 0 3 (tok k t)) rfl rfl rfl
  | 0, 4 => exact at3 (k0_off44_eq k) (RR i B ST P1 k7) (ix3 0 0 t) (ix3 0 4 (tok k t)) rfl rfl rfl
  | 0, 5 => exact at3 (k0_off45_eq k) (RR i B ST P1 k7) (ix3 0 0 t) (ix3 0 5 (tok k t)) rfl rfl rfl
  | 0, 6 => exact at3 (k0_off46_eq k) (RR i B ST P1 k7) (ix3 0 0 t) (ix3 0 6 (tok k t)) rfl rfl rfl
  | 0, 7 => exact at3 (k0_off47_eq k) (RR i B ST P1 k7) (ix3 0 0 t) (ix3 0 7 (tok k t)) rfl rfl rfl
  | 1, 0 => exact at3 (k0_off49_eq k) (RR i B ST P1 k7) (ix3 0 0 t) (ix3 1 0 (tok k t)) rfl rfl rfl
  | 1, 1 => exact at3 (k0_off50_eq k) (RR i B ST P1 k7) (ix3 0 0 t) (ix3 1 1 (tok k t)) rfl rfl rfl
  | 1, 2 => exact at3 (k0_off51_eq k) (RR i B ST P1 k7) (ix3 0 0 t) (ix3 1 2 (tok k t)) rfl rfl rfl
  | 1, 3 => exact at3 (k0_off52_eq k) (RR i B ST P1 k7) (ix3 0 0 t) (ix3 1 3 (tok k t)) rfl rfl rfl
  | 1, 4 => exact at3 (k0_off53_eq k) (RR i B ST P1 k7) (ix3 0 0 t) (ix3 1 4 (tok k t)) rfl rfl rfl
  | 1, 5 => exact at3 (k0_off54_eq k) (RR i B ST P1 k7) (ix3 0 0 t) (ix3 1 5 (tok k t)) rfl rfl rfl
  | 1, 6 => exact at3 (k0_off55_eq k) (RR i B ST P1 k7) (ix3 0 0 t) (ix3 1 6 (tok k t)) rfl rfl rfl
  | 1, 7 => exact at3 (k0_off56_eq k) (RR i B ST P1 k7) (ix3 0 0 t) (ix3 1 7 (tok k t)) rfl rfl rfl
  | 2, 0 => exact at3 (k0_off57_eq k) (RR i B ST P1 k7) (ix3 0 0 t) (ix3 2 0 (tok k t)) rfl rfl rfl
  | 2, 1 => exact at3 (k0_off58_eq k) (RR i B ST P1 k7) (ix3 0 0 t) (ix3 2 1 (tok k t)) rfl rfl rfl
  | 2, 2 => exact at3 (k0_off59_eq k) (RR i B ST P1 k7) (ix3 0 0 t) (ix3 2 2 (tok k t)) rfl rfl rfl
  | 2, 3 => exact at3 (k0_off60_eq k) (RR i B ST P1 k7) (ix3 0 0 t) (ix3 2 3 (tok k t)) rfl rfl rfl
  | 2, 4 => exact at3 (k0_off61_eq k) (RR i B ST P1 k7) (ix3 0 0 t) (ix3 2 4 (tok k t)) rfl rfl rfl
  | 2, 5 => exact at3 (k0_off62_eq k) (RR i B ST P1 k7) (ix3 0 0 t) (ix3 2 5 (tok k t)) rfl rfl rfl
  | 2, 6 => exact at3 (k0_off63_eq k) (RR i B ST P1 k7) (ix3 0 0 t) (ix3 2 6 (tok k t)) rfl rfl rfl
  | 2, 7 => exact at3 (k0_off64_eq k) (RR i B ST P1 k7) (ix3 0 0 t) (ix3 2 7 (tok k t)) rfl rfl rfl
  | 3, 0 => exact at3 (k0_off65_eq k) (RR i B ST P1 k7) (ix3 0 0 t) (ix3 3 0 (tok k t)) rfl rfl rfl
  | 3, 1 => exact at3 (k0_off66_eq k) (RR i B ST P1 k7) (ix3 0 0 t) (ix3 3 1 (tok k t)) rfl rfl rfl
  | 3, 2 => exact at3 (k0_off67_eq k) (RR i B ST P1 k7) (ix3 0 0 t) (ix3 3 2 (tok k t)) rfl rfl rfl
  | 3, 3 => exact at3 (k0_off68_eq k) (RR i B ST P1 k7) (ix3 0 0 t) (ix3 3 3 (tok k t)) rfl rfl rfl
  | 3, 4 => exact at3 (k0_off69_eq k) (RR i B ST P1 k7) (ix3 0 0 t) (ix3 3 4 (tok k t)) rfl rfl rfl
  | 3, 5 => exact at3 (k0_off70_eq k) (RR i B ST P1 k7) (ix3 0 0 t) (ix3 3 5 (tok k t)) rfl rfl rfl
  | 3, 6 => exact at3 (k0_off71_eq k) (RR i B ST P1 k7) (ix3 0 0 t) (ix3 3 6 (tok k t)) rfl rfl rfl
  | 3, 7 => exact at3 (k0_off72_eq k) (RR i B ST P1 k7) (ix3 0 0 t) (ix3 3 7 (tok k t)) rfl rfl rfl

theorem codT_eq (h : Fin 4) : codT i B ST P1 P2 k7 k h = pack (quo (xpT i B P2 k7 k) (lr i B ST P1 k7 k h 0) (lr i B ST P1 k7 k h 1) (lr i B ST P1 k7 k h 2)
    (lr i B ST P1 k7 k h 3) (lr i B ST P1 k7 k h 4) (lr i B ST P1 k7 k h 5) (lr i B ST P1 k7 k h 6) (lr i B ST P1 k7 k h 7) h) := by
  match h with
  | 0 => exact codA_eq _ _ _ _ _ _ _ _ _ _
  | 1 => exact codB_eq _ _ _ _ _ _ _ _ _
  | 2 => exact codC_eq _ _ _ _ _ _ _ _ _
  | 3 => exact codD_eq _ _ _ _ _ _ _ _ _

theorem xsT_at (r s : Fin 256) : xsT i B k7 k (ix3 0 r s) = XX i B k7 k (ix2 r s) := by
  rw [← XX_eq]
  unfold xsT k0_pay24
  generalize k0_pay23 (c188 i B k7 k) (c218 i B k7 k) (c248 i B k7 k) (c278 i B k7 k) (c279 i B k7 k) (c280 i B k7 k) (c281 i B k7 k) = W
  pointwise []

section
variable {cx : Fin 16 → Fin 640 → Fin 128 → EReal} {sx : Fin 112 → Fin 640 → EReal} (hB : ∀ j, B j = cx (j 2) (j 1) (j 3))
variable (hS : ∀ j, ST j = sx (j 1) (tk (j 0) (j 2)))
variable (hP : Sel1 P1) (hP2 : Sel2 P2)
include hB hP2

theorem xpT_at (h : Fin 4) (d t : Fin 128) :
    xpT i B P2 k7 k (ix2 ⟨128 * (h.val / 2) + d.val, by omega⟩ ⟨128 * (h.val % 2) + t.val, by omega⟩) = cx (hd k7 h) (tok k t) d := by
  unfold xpT
  rw [xp_at _ _ hP2]
  refine Eq.trans ?_ (XX_at i B k7 k hB h t d)
  refine Eq.trans ?_ (xsT_at i B k7 k _ _)
  exact at3 (k0_off39_eq k) (XS i B k7) (ix3 0 _ _) (ix3 ⟨k.val, k8_lt k⟩ _ _) rfl (Nat.zero_add _) (Nat.zero_add _)

include hS hP

/-- The bytes of head `h` in the tile. -/
theorem codT_at (h : Fin 4) (p : Fin 64) (t : Fin 128) : codT i B ST P1 P2 k7 k h (ix4 0 0 p t) = BY (cx (hd k7 h)) (sx (gh i k7 h)) p (tok k t) := by
  have hq (d : Fin 128) : quo (xpT i B P2 k7 k) (lr i B ST P1 k7 k h 0) (lr i B ST P1 k7 k h 1) (lr i B ST P1 k7 k h 2)
      (lr i B ST P1 k7 k h 3) (lr i B ST P1 k7 k h 4) (lr i B ST P1 k7 k h 5) (lr i B ST P1 k7 k h 6) (lr i B ST P1 k7 k h 7) h (ix2 d t)
      = Q (cx (hd k7 h)) (sx (gh i k7 h)) (tok k t) d := by
    have e := quo_at (xpT i B P2 k7 k) (lr i B ST P1 k7 k h) h (bl d) ⟨d.val % 16, by omega⟩ t
    have hd' : (⟨16 * (bl d).val + d.val % 16, by simp only [bl]; omega⟩ : Fin 128) = d := Fin.ext (by simp only [bl]; omega)
    rw [hd'] at e
    rw [e, lr_at, RR_at i B ST P1 k7 hB hS hP, ← mul_RF]
    congr 1
    refine Eq.trans ?_ (xpT_at i B P2 k7 k hB hP2 h d t)
    congr 2
    exact Fin.ext (by simp only [bl]; omega)
  rw [codT_eq, pack_at, clip_at, clip_at, hq, hq]
  rfl

end

section
variable {cx : Fin 16 → Fin 640 → Fin 128 → EReal} {sx : Fin 112 → Fin 640 → EReal} (hB : ∀ j, B j = cx (j 2) (j 1) (j 3))
variable (hS : ∀ j, ST j = sx (j 1) (tk (j 0) (j 2)))
variable (hP : Sel1 P1) (hP2 : Sel2 P2)

/-- Head `hh` of the step among all heads. -/
def gl (hh : Fin 16) : Fin 112 := ⟨16 * (i 1).val + hh.val, by have := i1_lt i; omega⟩

theorem hd_div (hh : Fin 16) : hd ⟨hh.val / 4, div4_lt hh⟩ ⟨hh.val % 4, mod4_lt hh⟩ = hh := Fin.ext (by simp only [hd]; omega)
theorem gh_div (hh : Fin 16) : gh i ⟨hh.val / 4, div4_lt hh⟩ ⟨hh.val % 4, mod4_lt hh⟩ = gl i hh := Fin.ext (by simp only [gh, gl]; omega)
theorem tok_div (t : Fin 640) : tok ⟨t.val / 128, div_lt t⟩ ⟨t.val % 128, mod_lt t⟩ = t := Fin.ext (by simp only [tok]; omega)

include hB hS hP in
theorem BS_at (hh : Fin 16) (n : Fin 8) (t : Fin 640) : BS i B ST P1 (ix4 0 hh n t) = SE (cx hh) (sx (gl i hh)) n t := by
  show bsT i B ST P1 ⟨hh.val / 4, div4_lt hh⟩ ⟨t.val / 128, div_lt t⟩ ⟨hh.val % 4, mod4_lt hh⟩ (ix4 0 0 n ⟨t.val % 128, mod_lt t⟩) = _
  rw [bsT_at i B ST P1 _ _ hB hS hP, hd_div, gh_div, tok_div]

include hB hS hP hP2 in
theorem COD_at (hh : Fin 16) (p : Fin 64) (t : Fin 640) : COD i B ST P1 P2 (ix4 0 hh p t) = BY (cx hh) (sx (gl i hh)) p t := by
  show codT i B ST P1 P2 ⟨hh.val / 4, div4_lt hh⟩ ⟨t.val / 128, div_lt t⟩ ⟨hh.val % 4, mod4_lt hh⟩ (ix4 0 0 p ⟨t.val % 128, mod_lt t⟩) = _
  rw [codT_at i B ST P1 P2 _ _ hB hS hP hP2, hd_div, gh_div, tok_div]

include hB hS hP in
theorem gS_at (Y : Vec Ideal S3x112 .f32) (b : Fin 3) (l : Fin 112) :
    gS i B ST P1 k7 Y (ix2 b l) = if h : b.val = (i 0).val ∧ l.val / 4 = 4 * (i 1).val + k7.val then G (cx ⟨4 * k7.val + l.val % 4, by have := k7_lt k7; omega⟩) (sx l) else Y (ix2 b l) := by
  unfold gS
  rw [gT_at i B ST P1 k7 hB hS hP, gT_at i B ST P1 k7 hB hS hP, gT_at i B ST P1 k7 hB hS hP, gT_at i B ST P1 k7 hB hS hP]
  have key (h : Fin 4) (hl : l.val = (gh i k7 h).val) : G (cx (hd k7 h)) (sx (gh i k7 h)) = G (cx ⟨4 * k7.val + l.val % 4, by have := k7_lt k7; omega⟩) (sx l) := by
    have e1 : gh i k7 h = l := Fin.ext hl.symm
    have e2 : hd k7 h = ⟨4 * k7.val + l.val % 4, by have := k7_lt k7; omega⟩ := Fin.ext (by simp only [hd, gh] at hl ⊢; omega)
    rw [e1, e2]
  have v (h : Fin 4) : (gh i k7 h).val = 16 * (i 1).val + 4 * k7.val + h.val := rfl
  have v0 := v 0; have v1 := v 1; have v2 := v 2; have v3 := v 3
  simp only [Fin.val_zero, Fin.val_one, Fin.val_two] at v0 v1 v2
  have v3 : (gh i k7 3).val = 16 * (i 1).val + 4 * k7.val + 3 := rfl
  by_cases h3 : b.val = (i 0).val ∧ l.val = (gh i k7 3).val
  · rw [if_pos h3, dif_pos ⟨h3.1, by omega⟩, key 3 h3.2]
  rw [if_neg h3]
  by_cases h2 : b.val = (i 0).val ∧ l.val = (gh i k7 2).val
  · rw [if_pos h2, dif_pos ⟨h2.1, by omega⟩, key 2 h2.2]
  rw [if_neg h2]
  by_cases h1 : b.val = (i 0).val ∧ l.val = (gh i k7 1).val
  · rw [if_pos h1, dif_pos ⟨h1.1, by omega⟩, key 1 h1.2]
  rw [if_neg h1]
  by_cases h0 : b.val = (i 0).val ∧ l.val = (gh i k7 0).val
  · rw [if_pos h0, dif_pos ⟨h0.1, by omega⟩, key 0 h0.2]
  rw [if_neg h0, dif_neg (by omega)]

include hB hS hP in
theorem gIt_at (Y : Vec Ideal S3x112 .f32) (b : Fin 3) (l : Fin 112) (n : ℕ) (hn : n ≤ 4) :
    gIt i B ST P1 Y n (ix2 b l) = if b.val = (i 0).val ∧ 4 * (i 1).val ≤ l.val / 4 ∧ l.val / 4 < 4 * (i 1).val + n then G (cx ⟨l.val % 16, by omega⟩) (sx l) else Y (ix2 b l) := by
  induction n with
  | zero => rw [if_neg (by omega)]; rfl
  | succ n ih =>
    have hn' : n < k0_t7_loop.trips := by rw [trips7]; omega
    unfold gIt
    rw [dif_pos hn', gS_at i B ST P1 ⟨n, hn'⟩ hB hS hP, ih (by omega)]
    by_cases h : b.val = (i 0).val ∧ l.val / 4 = 4 * (i 1).val + n
    · rw [dif_pos h, if_pos (by omega)]
      congr 2
      exact Fin.ext (by simp only; omega)
    · rw [dif_neg h]
      refine if_congr ?_ rfl rfl
      omega

end
end

end Cert.KernelIdeal.Val
end
-- ==== Proof.Outs.lean ====
/-
  What the grid leaves in the three results: the bytes, the block scales and the per-head scales of every head, from
  the page table and the two caches.
-/
module

public import proofs.«01_k».proof.Proof.Sel
public import proofs.«01_k».proof.Proof.Val3
public import Idealize.ShloMosaic.Lib.Pipeline.ValueKit

@[expose] public section

set_option maxRecDepth 16384

noncomputable section

namespace Cert.KernelIdeal.Outs

open Idealize.ShloMosaic Idealize.ShloMosaic.TcCoe Idealize.SL.Sem
open Idealize.ShloMosaic.Pipeline (RDat Cfg Window)
open Cert.KernelIdeal.Gen Cert.KernelIdeal.Spec Cert.KernelIdeal.Gather Cert.KernelIdeal.Compute Cert.KernelIdeal.Val Cert.KernelIdeal.Run Cert.Quant

section
variable (T : S3x20.Idx → BitVec 32) (C : S75x32x112x128.Idx → EReal) (S : S75x32x112.Idx → EReal)

/-- The codes and scales of head `h` of batch row `b`, by token. -/
def CX (b : Fin 3) (h : Fin 112) (t : Fin 640) (d : Fin 128) : EReal := C (ix4 ⟨pg T b.val (t.val / 32), pg_lt _ _ _⟩ ⟨t.val % 32, Nat.mod_lt _ (by decide)⟩ h d)
def SX (b : Fin 3) (h : Fin 112) (t : Fin 640) : EReal := S (ix3 ⟨pg T b.val (t.val / 32), pg_lt _ _ _⟩ ⟨t.val % 32, Nat.mod_lt _ (by decide)⟩ h)

def FC : S3x112x64x640.Idx → BitVec 8 := fun j => BY (CX T C (j 0) (j 1)) (SX T S (j 0) (j 1)) (j 2) (j 3)
def FS : S3x112x8x640.Idx → EReal := fun j => SE (CX T C (j 0) (j 1)) (SX T S (j 0) (j 1)) (j 2) (j 3)
def FG : S3x112.Idx → EReal := fun j => G (CX T C (j 0) (j 1)) (SX T S (j 0) (j 1))
end

variable (m : (ℓ : Loc nD τ sig) → Buf (Elt Ideal) ℓ) (c : Dev nD)

/-- The table and the two caches the launch reads. -/
def tt : S3x20.Idx → BitVec 32 := TT (F := Ideal) m c
def ca : S75x32x112x128.Idx → EReal := A3 (F := Ideal) m c
def sa : S75x32x112.Idx → EReal := A4 (F := Ideal) m c

theorem hB (i : grid0.Coords) (j : S2x640x16x128.Idx) : CB (F := Ideal) m c i j = CX (tt m c) (ca m c) (i 0) (gl i (j 2)) (j 1) (j 3) := by
  have h0 := i0_lt i
  have h1 := i1_lt i
  have h2 : (j 2).val < 16 := (j 2).isLt
  have e1 : (7 * (i 0).val + (i 1).val) / 7 = (i 0).val := by omega
  have e2 : (16 * ((7 * (i 0).val + (i 1).val) % 7) + (j 2).val) % 112 = 16 * (i 1).val + (j 2).val := by omega
  unfold CB codeAt CX
  refine congrArg (ca m c) ?_
  simp only [e1, e2]
  rfl

theorem hS (i : grid0.Coords) (j : S5x112x128.Idx) : SB (F := Ideal) m c i j = SX (tt m c) (sa m c) (i 0) (j 1) (tk (j 0) (j 2)) := by
  have h0 := i0_lt i
  have h1 : (j 0).val < 5 := (j 0).isLt
  have h2 : (j 2).val < 128 := (j 2).isLt
  have e1 : (i 0).val % 3 = (i 0).val := by omega
  have e2 : (128 * (j 0).val + (j 2).val) % 640 = 128 * (j 0).val + (j 2).val := by omega
  unfold SB STb scaleAt SX
  refine congrArg (sa m c) ?_
  simp only [ix3, e1, e2]
  rfl

theorem cod_at (i : grid0.Coords) (hh : Fin 16) (p : Fin 64) (t : Fin 640) :
    COD i (CB (F := Ideal) m c i) (SB (F := Ideal) m c i) (P1 (F := Ideal) m c) (P2 (F := Ideal) m c) (ix4 0 hh p t) = FC (tt m c) (ca m c) (sa m c) (ix4 (i 0) (gl i hh) p t) :=
  COD_at (cx := fun hh => CX (tt m c) (ca m c) (i 0) (gl i hh)) (sx := SX (tt m c) (sa m c) (i 0)) i _ _ _ _ (hB m c i) (hS m c i) (sel1 m c) (sel2 m c) hh p t

theorem bs_at (i : grid0.Coords) (hh : Fin 16) (n : Fin 8) (t : Fin 640) :
    BS i (CB (F := Ideal) m c i) (SB (F := Ideal) m c i) (P1 (F := Ideal) m c) (ix4 0 hh n t) = FS (tt m c) (ca m c) (sa m c) (ix4 (i 0) (gl i hh) n t) :=
  BS_at (cx := fun hh => CX (tt m c) (ca m c) (i 0) (gl i hh)) (sx := SX (tt m c) (sa m c) (i 0)) i _ _ _ (hB m c i) (hS m c i) (sel1 m c) hh n t

theorem g_step (i : grid0.Coords) (Y : Vec Ideal S3x112 .f32) (b : Fin 3) (l : Fin 112) :
    gIt i (CB (F := Ideal) m c i) (SB (F := Ideal) m c i) (P1 (F := Ideal) m c) Y k0_t7_loop.trips (ix2 b l) = if b.val = (i 0).val ∧ l.val / 16 = (i 1).val then FG (tt m c) (ca m c) (sa m c) (ix2 b l) else Y (ix2 b l) := by
  rw [trips7, gIt_at (cx := fun hh => CX (tt m c) (ca m c) (i 0) (gl i hh)) (sx := SX (tt m c) (sa m c) (i 0)) i _ _ _ (hB m c i) (hS m c i) (sel1 m c) Y b l 4 le_rfl]
  by_cases h : b.val = (i 0).val ∧ l.val / 16 = (i 1).val
  · rw [if_pos (by omega), if_pos h]
    have e1 : i 0 = b := Fin.ext h.1.symm
    have e2 : gl i ⟨l.val % 16, by omega⟩ = l := Fin.ext (by simp only [gl]; omega)
    rw [e1, e2]
    rfl
  · rw [if_neg (by omega), if_neg h]

/-! ## The arrays -/

theorem leaves2 (t : Fin (cfg0 (adm m 0)).N) (X) (h : (rdat m c).Leaves 2 t X) :
    X = COD (grid0.coords t) (CB (F := Ideal) m c (grid0.coords t)) (SB (F := Ideal) m c (grid0.coords t)) (P1 (F := Ideal) m c) (P2 (F := Ideal) m c) := by
  obtain ⟨Y, -, h⟩ := h
  exact h
theorem leaves3 (t : Fin (cfg0 (adm m 0)).N) (X) (h : (rdat m c).Leaves 3 t X) :
    X = BS (grid0.coords t) (CB (F := Ideal) m c (grid0.coords t)) (SB (F := Ideal) m c (grid0.coords t)) (P1 (F := Ideal) m c) := by
  obtain ⟨Y, -, h⟩ := h
  exact h

/-- A table to pin the grid at where the pinned contents do not matter. -/
def a0 : (pcfgs (F := Ideal) 0).Adm := ⟨fun k => match k with | ⟨0, _⟩ => fun _ => 0#32, trivial⟩

theorem cov2 (a : (pcfgs (F := Ideal) 0).Adm) : ((cfg0 a).win 2).Covers := (by decide +kernel : ((cfg0 a0).win 2).Covers)

theorem idx2 (a : (pcfgs (F := Ideal) 0).Adm) : ∀ t : Fin (cfg0 a).N, ((cfg0 a).win 2).index t = ![(grid0.coords t 0).val, (grid0.coords t 1).val, 0, 0] :=
  (by decide +kernel : ∀ t : Fin (cfg0 a0).N, ((cfg0 a0).win 2).index t = ![(grid0.coords t 0).val, (grid0.coords t 1).val, 0, 0])

theorem cod_emb (i : grid0.Coords) (y : S1x16x64x640.Idx) (z : S3x112x64x640.Idx) (h0 : (z 0).val = (i 0).val * 1 + (y 0).val) (h1 : (z 1).val = (i 1).val * 16 + (y 1).val)
    (h2 : (z 2).val = 0 * 64 + (y 2).val) (h3 : (z 3).val = 0 * 640 + (y 3).val) :
    COD i (CB (F := Ideal) m c i) (SB (F := Ideal) m c i) (P1 (F := Ideal) m c) (P2 (F := Ideal) m c) y = FC (tt m c) (ca m c) (sa m c) z := by
  have hy : (y 0).val = 0 := by have : (y 0).val < 1 := (y 0).isLt; omega
  have e : y = ix4 0 (y 1) (y 2) (y 3) := by
    funext a
    match a with
    | 0 => exact Fin.ext hy
    | 1 => rfl
    | 2 => rfl
    | 3 => rfl
  have e' : z = ix4 (i 0) (gl i (y 1)) (y 2) (y 3) := by
    funext a
    match a with
    | 0 => exact Fin.ext (h0.trans (by show _ = (i 0).val; omega))
    | 1 => exact Fin.ext (h1.trans (by show _ = 16 * (i 1).val + (y 1).val; omega))
    | 2 => exact Fin.ext (h2.trans (by show _ = (y 2).val; omega))
    | 3 => exact Fin.ext (h3.trans (by show _ = (y 3).val; omega))
  rw [e']
  exact (congrArg _ e).trans (cod_at m c _ (y 1) (y 2) (y 3))

theorem final2 (after : (w' : Fin (cfg0 (adm m 0)).W) → Fin (cfg0 (adm m 0)).N → (((cfg0 (adm m 0)).win w').block.Idx → Elt Ideal ((cfg0 (adm m 0)).win w').elt))
    (h : ∀ (w : Fin (cfg0 (adm m 0)).W) (u : Fin (cfg0 (adm m 0)).N), ((cfg0 (adm m 0)).win w).flush u = true → (rdat m c).Leaves w u (after w u)) :
    ((rdat m c).withAfter after).arrAt 2 (cfg0 (adm m 0)).N = FC (tt m c) (ca m c) (sa m c) := by
  refine Pipeline.Dat.arrAt_eq_of_covers _ 2 _ (cov2 (adm m 0)) fun t hf y => ?_
  blk_simp
  rw [show ((rdat m c).withAfter after).after 2 t = after 2 t from rfl, leaves2 m c t _ (h 2 t hf)]
  have hi := idx2 (adm m 0) t
  have k (a : Fin 4) := (Pipeline.Window.rect_emb_val ((cfg0 (adm m 0)).win 2) t y a).trans (congrArg (fun f : Fin 4 → ℕ => f a * ((cfg0 (adm m 0)).win 2).size a + (y a).val) hi)
  exact cod_emb m c (grid0.coords t) y _ (k 0) (k 1) (k 2) (k 3)

theorem cov3 (a : (pcfgs (F := Ideal) 0).Adm) : ((cfg0 a).win 3).Covers := (by decide +kernel : ((cfg0 a0).win 3).Covers)

theorem idx3 (a : (pcfgs (F := Ideal) 0).Adm) : ∀ t : Fin (cfg0 a).N, ((cfg0 a).win 3).index t = ![(grid0.coords t 0).val, (grid0.coords t 1).val, 0, 0] :=
  (by decide +kernel : ∀ t : Fin (cfg0 a0).N, ((cfg0 a0).win 3).index t = ![(grid0.coords t 0).val, (grid0.coords t 1).val, 0, 0])

theorem bs_emb (i : grid0.Coords) (y : S1x16x8x640.Idx) (z : S3x112x8x640.Idx) (h0 : (z 0).val = (i 0).val * 1 + (y 0).val) (h1 : (z 1).val = (i 1).val * 16 + (y 1).val)
    (h2 : (z 2).val = 0 * 8 + (y 2).val) (h3 : (z 3).val = 0 * 80 + (y 3).val) :
    BS i (CB (F := Ideal) m c i) (SB (F := Ideal) m c i) (P1 (F := Ideal) m c) y = FS (tt m c) (ca m c) (sa m c) z := by
  have hy : (y 0).val = 0 := by have : (y 0).val < 1 := (y 0).isLt; omega
  have e : y = ix4 0 (y 1) (y 2) (y 3) := by
    funext a
    match a with
    | 0 => exact Fin.ext hy
    | 1 => rfl
    | 2 => rfl
    | 3 => rfl
  have e' : z = ix4 (i 0) (gl i (y 1)) (y 2) (y 3) := by
    funext a
    match a with
    | 0 => exact Fin.ext (h0.trans (by show _ = (i 0).val; omega))
    | 1 => exact Fin.ext (h1.trans (by show _ = 16 * (i 1).val + (y 1).val; omega))
    | 2 => exact Fin.ext (h2.trans (by show _ = (y 2).val; omega))
    | 3 => exact Fin.ext (h3.trans (by show _ = (y 3).val; omega))
  rw [e']
  exact (congrArg _ e).trans (bs_at m c _ (y 1) (y 2) (y 3))

theorem final3 (after : (w' : Fin (cfg0 (adm m 0)).W) → Fin (cfg0 (adm m 0)).N → (((cfg0 (adm m 0)).win w').block.Idx → Elt Ideal ((cfg0 (adm m 0)).win w').elt))
    (h : ∀ (w : Fin (cfg0 (adm m 0)).W) (u : Fin (cfg0 (adm m 0)).N), ((cfg0 (adm m 0)).win w).flush u = true → (rdat m c).Leaves w u (after w u)) :
    ((rdat m c).withAfter after).arrAt 3 (cfg0 (adm m 0)).N = FS (tt m c) (ca m c) (sa m c) := by
  refine Pipeline.Dat.arrAt_eq_of_covers _ 3 _ (cov3 (adm m 0)) fun t hf y => ?_
  blk_simp
  rw [show ((rdat m c).withAfter after).after 3 t = after 3 t from rfl, leaves3 m c t _ (h 3 t hf)]
  have hi := idx3 (adm m 0) t
  have k (a : Fin 4) := (Pipeline.Window.rect_emb_val ((cfg0 (adm m 0)).win 3) t y a).trans (congrArg (fun f : Fin 4 → ℕ => f a * ((cfg0 (adm m 0)).win 3).size a + (y a).val) hi)
  exact bs_emb m c (grid0.coords t) y _ (k 0) (k 1) (k 2) (k 3)

theorem fl4 (a : (pcfgs (F := Ideal) 0).Adm) : ∀ u : Fin (cfg0 a).N, ((cfg0 a).win 4).flush u = true → u.val = 20 :=
  (by decide +kernel : ∀ u : Fin (cfg0 a0).N, ((cfg0 a0).win 4).flush u = true → u.val = 20)

theorem leaves4 (n : ℕ) (hn : n < (cfg0 (adm m 0)).N) (X) (h : (rdat m c).Leaves 4 ⟨n, hn⟩ X) (b : Fin 3) (l : Fin 112) (hl : 7 * b.val + l.val / 16 ≤ n) :
    X (ix2 b l) = FG (tt m c) (ca m c) (sa m c) (ix2 b l) := by
  induction n generalizing X with
  | zero =>
    obtain ⟨Y, -, h⟩ := h
    have h : X (ix2 b l) = gIt (F := Ideal) _ _ _ _ _ _ _ := congrFun h _
    have ht := coords_val ⟨0, hn⟩
    refine h.trans ((g_step m c _ Y b l).trans (if_pos (by simp only at ht; omega)))
  | succ n ih =>
    obtain ⟨Y, hY, h⟩ := h
    have h : X (ix2 b l) = gIt (F := Ideal) _ _ _ _ _ _ _ := congrFun h _
    have ht := coords_val ⟨n + 1, hn⟩
    have h1 := i1_lt (grid0.coords ⟨n + 1, hn⟩)
    refine h.trans ((g_step m c _ Y b l).trans ?_)
    by_cases e : 7 * b.val + l.val / 16 = n + 1
    · exact if_pos (by simp only at ht; omega)
    · refine (if_neg (by simp only at ht; omega)).trans ?_
      refine ih (by omega) Y ?_ (by omega)
      have hfl := fl4 (adm m 0)
      have := ((rdat m c).finds_of_pos (w := 4) (t := ⟨n + 1, hn⟩) (by rfl) (by simp) Y).mp hY
      rcases this with h | h
      · have := hfl _ h
        change n + 1 < 21 at hn
        simp only at this
        omega
      · exact h

/-- The last step. -/
def last (a : (pcfgs (F := Ideal) 0).Adm) : Fin (cfg0 a).N := ⟨20, show 20 < 21 by decide⟩

theorem whole4 (a : (pcfgs (F := Ideal) 0).Adm) : ((cfg0 a).win 4).WholeAt (last a) := (by decide +kernel : ((cfg0 a0).win 4).WholeAt (last a0))

theorem leaves_last (X) (h : (rdat m c).Leaves 4 (last (adm m 0)) X) (y : S3x112.Idx) : X y = FG (tt m c) (ca m c) (sa m c) y := by
  have hb : (y 0).val < 3 := (y 0).isLt
  have hl : (y 1).val < 112 := (y 1).isLt
  have e : y = ix2 (y 0) (y 1) := by
    funext a
    match a with
    | 0 => rfl
    | 1 => rfl
  have k := leaves4 m c 20 (last (adm m 0)).isLt X h (y 0) (y 1) (by omega)
  exact (congrArg X e).trans (k.trans (congrArg _ e.symm))

theorem final4 (after : (w' : Fin (cfg0 (adm m 0)).W) → Fin (cfg0 (adm m 0)).N → (((cfg0 (adm m 0)).win w').block.Idx → Elt Ideal ((cfg0 (adm m 0)).win w').elt))
    (h : ∀ (w : Fin (cfg0 (adm m 0)).W) (u : Fin (cfg0 (adm m 0)).N), ((cfg0 (adm m 0)).win w).flush u = true → (rdat m c).Leaves w u (after w u)) :
    ((rdat m c).withAfter after).arrAt 4 (cfg0 (adm m 0)).N = FG (tt m c) (ca m c) (sa m c) := by
  refine Pipeline.Dat.arrAt_eq_of_after_last _ 4 (last (adm m 0)) (whole4 (adm m 0)) _ fun j => ?_
  blk_simp
  exact leaves_last m c _ (h 4 (last (adm m 0)) (whole4 (adm m 0)).1) j

/-- THE RUN'S RESULTS: the three result arrays and the arguments at the end. -/
theorem values (ρ : Dev nD → PrngReg) (hT : ∀ c j, (tt m c j).toNat < 75) :
    θ_run defs (onTc (τ := τ) (main (F := Ideal))) ⟨m, fun _ => 0, ρ⟩ (fun r => ∀ c : Dev nD,
      (r.2.mem ((c.tc : Thread nD τ).loc main_v26_0) = FC (tt m c) (ca m c) (sa m c)
      ∧ r.2.mem ((c.tc : Thread nD τ).loc main_v26_1) = FS (tt m c) (ca m c) (sa m c)
      ∧ r.2.mem ((c.tc : Thread nD τ).loc main_v26_2) = FG (tt m c) (ca m c) (sa m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain ⟨after, hL, hA⟩ := h.1.exists_exact c
    exact ⟨⟨(hA 2).trans (final2 m c after hL), (hA 3).trans (final3 m c after hL), (hA 4).trans (final4 m c after hL)⟩,
      ((h.1 c).2 main_arg0 (rest0 m)).trans (V_main_arg0 m c), ((h.1 c).2 main_arg1 (rest1 m)).trans (V_main_arg1 m c),
      ((h.1 c).2 main_arg2 (rest2 m)).trans (V_main_arg2 m c)⟩) (run m ρ hT)

end Cert.KernelIdeal.Outs
end
-- ==== Proof.Ref.lean ====
/-
  The reference's body read at an element: each value it stores is the quantization of the head it belongs to.
-/
module

public import proofs.«01_k».proof.Proof.Math
public import proofs.«01_k».proof.Proof.Gen.ReferenceIdeal.Skeleton

@[expose] public section

set_option maxRecDepth 16384

noncomputable section

namespace Cert.ReferenceIdeal.Ref

open Idealize.ShloMosaic Cert.ReferenceIdeal.Gen Cert.Quant

variable (v : Vec Ideal S3x640x112x128 .fp8e4m3) (s : Vec Ideal S3x640x112 .f32)

/-- The codes and the scales of head `h` of row `b`. -/
def cc (b : Fin 3) (h : Fin 112) : Fin 640 → Fin 128 → EReal := fun t d => v (ix4 b t h d)
def ss (b : Fin 3) (h : Fin 112) : Fin 640 → EReal := fun t => s (ix3 b t h)

theorem p1 (b : Fin 3) (t : Fin 640) (h : Fin 112) (d : Fin 128) : k0_pay1 v s (ix4 b t h d) = v (ix4 b t h d) * s (ix3 b t h) := by
  unfold k0_pay1
  pointwise []

theorem p3 (b : Fin 3) (t : Fin 640) (h : Fin 112) (p : Fin 8) (j : Fin 16) :
    k0_pay3 v s (ix5 b t h p j) = cc v b h t (col p j) * ss s b h t := by
  unfold k0_pay3
  rw [show cc v b h t (col p j) * ss s b h t = k0_pay1 v s (ix4 b t h (col p j)) from (p1 v s b t h (col p j)).symm]
  generalize k0_pay1 v s = V1
  pointwise []
  rfl

theorem dropped (i : S3x640x112x128.Idx) : reduces_S3x640x112x128_S3x112.drop i = ix2 (i 0) (i 2) := by
  funext a
  fin_cases a <;> rfl

theorem max2 (V : FVec Ideal S3x640x112x128 .f32) (b : Fin 3) (h : Fin 112) :
    multiReduction .maximumf [1, 3] S3x112 V 0xFF800000#32 reduces_S3x640x112x128_S3x112 (.inl rfl) rfl (ix2 b h)
      = Finset.univ.sup fun t : Fin 640 => Finset.univ.sup fun d : Fin 128 => V (ix4 b t h d) := by
  refine (multiReduction_maximumf_eq_fold V _ _ _ _ _).trans ?_
  have e : ∀ S : Finset S3x640x112x128.Idx, S.fold FloatOps.maximumf (FloatOps.ofBits (F := Ideal) .f32 0xFF800000#32) V = S.sup V := by
    intro S
    rw [show FloatOps.ofBits (F := Ideal) .f32 0xFF800000#32 = (⊥ : EReal) from ninf]
    rfl
  rw [e]
  apply le_antisymm
  · refine Finset.sup_le fun i hi => ?_
    have hi := (Finset.mem_filter.mp hi).2
    rw [dropped] at hi
    have h0 : i 0 = b := congrFun hi 0
    have h2 : i 2 = h := congrFun hi 1
    have ei : i = ix4 b (i 1) h (i 3) := by
      funext a; match a with
      | ⟨0, _⟩ => exact h0
      | ⟨1, _⟩ => rfl
      | ⟨2, _⟩ => exact h2
      | ⟨3, _⟩ => rfl
    rw [ei]
    exact le_trans (Finset.le_sup (f := fun d : Fin 128 => V (ix4 b (i 1) h d)) (Finset.mem_univ (i 3)))
      (Finset.le_sup (f := fun t : Fin 640 => Finset.univ.sup fun d : Fin 128 => V (ix4 b t h d)) (Finset.mem_univ (i 1)))
  · refine Finset.sup_le fun t _ => Finset.sup_le fun d _ => Finset.le_sup (f := V) (Finset.mem_filter.mpr ⟨Finset.mem_univ _, ?_⟩)
    rw [dropped]; rfl

def p2M (M : FVec Ideal S3x112 .f32) : FVec Ideal S3x112 .f32 :=
  select (cmpf .oeq M (broadcast S3x112 (Scalar.ofBits .f32 0x00000000#32))) (broadcast S3x112 (Scalar.ofBits .f32 0x3F800000#32))
    (divf M (broadcast S3x112 (Scalar.ofBits .f32 0x45280000#32)))

theorem p2M_at (M : FVec Ideal S3x112 .f32) (b : Fin 3) (h : Fin 112) (c : Fin 640 → Fin 128 → EReal) (s : Fin 640 → EReal)
    (hm : M (ix2 b h) = am c s) : p2M M (ix2 b h) = G c s := by
  unfold p2M
  pointwise []
  rw [hm, Nib.c2688]
  unfold G
  split
  · rfl
  · rw [Ideal.div_coe (by norm_num)]

theorem p2 (b : Fin 3) (h : Fin 112) : k0_pay2 v s (ix2 b h) = G (cc v b h) (ss s b h) := by
  show p2M (multiReduction .maximumf [1, 3] S3x112 (absf (k0_pay1 v s)) 0xFF800000#32 reduces_S3x640x112x128_S3x112 (.inl rfl) rfl) (ix2 b h) = _
  refine p2M_at _ b h _ _ ((max2 (absf (k0_pay1 v s)) b h).trans ?_)
  unfold am
  refine congrArg _ (funext fun t => congrArg _ (funext fun d => ?_))
  show ab (k0_pay1 v s (ix4 b t h d)) = _
  rw [p1]; rfl

def p4M (A : FVec Ideal S3x640x112x8x16 .f32) (g : FVec Ideal S3x112 .f32) : FVec Ideal S3x640x112x8 .f32 :=
  minimumf (divf (multiReduction .maximumf [4] S3x640x112x8 (absf A) 0xFF800000#32 reduces_S3x640x112x8x16_S3x640x112x8 (.inl rfl) rfl)
    (broadcastTo S3x640x112x8 (shapeCast S3x1x112x1 (mulf g (broadcast S3x112 (Scalar.ofBits .f32 0x40C00000#32))) shapeCasts_S3x112_S3x1x112x1) broadcasts_S3x1x112x1_S3x640x112x8))
    (broadcast S3x640x112x8 (Scalar.ofBits .f32 0x43E00000#32))

theorem p4M_at (A : FVec Ideal S3x640x112x8x16 .f32) (g : FVec Ideal S3x112 .f32) (b : Fin 3) (t : Fin 640) (h : Fin 112) (p : Fin 8)
    (c : Fin 640 → Fin 128 → EReal) (s : Fin 640 → EReal)
    (h3 : ∀ j, A (ix5 b t h p j) = c t (col p j) * s t) (h2 : g (ix2 b h) = G c s) : p4M A g (ix4 b t h p) = SE c s p t := by
  unfold p4M
  pointwise []
  rw [fold_sup, h2, Nib.c6, Nib.c448]
  simp only [h3]
  rw [div_ne (G6_ne _ _)]
  rfl

theorem p4 (b : Fin 3) (t : Fin 640) (h : Fin 112) (p : Fin 8) : k0_pay4 v s (ix4 b t h p) = SE (cc v b h) (ss s b h) p t := by
  show p4M (k0_pay3 v s) (k0_pay2 v s) (ix4 b t h p) = _
  exact p4M_at _ _ b t h p _ _ (fun j => p3 v s b t h p j) (p2 v s b h)

def p5M (A : FVec Ideal S3x640x112x8x16 .f32) (e : FVec Ideal S3x640x112x8 .f32) (g : FVec Ideal S3x112 .f32) : FVec Ideal S3x640x112x8x16 .f32 :=
  have v28 : FVec Ideal S3x1x112x1 .f32 := shapeCast S3x1x112x1 g shapeCasts_S3x112_S3x1x112x1
  have v29 : FVec Ideal S3x640x112x8 .f32 := broadcastTo S3x640x112x8 v28 broadcasts_S3x1x112x1_S3x640x112x8
  have v30 : FVec Ideal S3x640x112x8 .f32 := mulf e v29
  have v32 : IVec S3x640x112x8 1 := cmpf .ogt v30 (broadcast S3x640x112x8 (Scalar.ofBits .f32 0x00000000#32))
  have v35 : FVec Ideal S3x640x112x8 .f32 := select v32 v30 (broadcast S3x640x112x8 (Scalar.ofBits .f32 0x3F800000#32))
  select (broadcastTo S3x640x112x8x16 (shapeCast S3x640x112x8x1 (shapeCast S3x640x112x8x1 v32 shapeCasts_S3x640x112x8_S3x640x112x8x1) shapeCasts_S3x640x112x8x1_S3x640x112x8x1) broadcasts_S3x640x112x8x1_S3x640x112x8x16)
    (divf A (broadcastTo S3x640x112x8x16 (shapeCast S3x640x112x8x1 v35 shapeCasts_S3x640x112x8_S3x640x112x8x1) broadcasts_S3x640x112x8x1_S3x640x112x8x16))
    (broadcast S3x640x112x8x16 (Scalar.ofBits .f32 0x00000000#32))

theorem p5M_at (A : FVec Ideal S3x640x112x8x16 .f32) (e : FVec Ideal S3x640x112x8 .f32) (g : FVec Ideal S3x112 .f32)
    (b : Fin 3) (t : Fin 640) (h : Fin 112) (p : Fin 8) (j : Fin 16) (c : Fin 640 → Fin 128 → EReal) (s : Fin 640 → EReal)
    (h3 : A (ix5 b t h p j) = c t (col p j) * s t) (h4 : e (ix4 b t h p) = SE c s p t) (h2 : g (ix2 b h) = G c s) :
    p5M A e g (ix5 b t h p j) = Q c s t (col p j) := by
  unfold p5M
  pointwise []
  rw [h3, h4, h2]
  have hb : bl (col p j) = p := Fin.ext (by simp only [bl, col]; omega)
  unfold Q
  rw [hb]
  split
  · next h => rw [div_ne (ne_of_gt h)]
  · rfl

theorem p5 (b : Fin 3) (t : Fin 640) (h : Fin 112) (p : Fin 8) (j : Fin 16) :
    k0_pay5 v s (ix5 b t h p j) = Q (cc v b h) (ss s b h) t (col p j) := by
  show p5M (k0_pay3 v s) (k0_pay4 v s) (k0_pay2 v s) (ix5 b t h p j) = _
  exact p5M_at _ _ _ b t h p j _ _ (p3 v s b t h p j) (p4 v s b t h p) (p2 v s b h)

theorem nib_rc (z : EReal) :
    Scalar.select (IntOp.andi (BitVec.ofBool (decide (z < 0))) (IntOp.cmpi .sgt (Nib.rnd (max z (-z))) 0#32))
      (IntOp.ori (Nib.rnd (max z (-z))) 8#32) (Nib.rnd (max z (-z))) = Nib.rc z := by
  unfold Nib.rc
  generalize Nib.rnd (max z (-z)) = r
  generalize IntOp.cmpi .sgt r 0#32 = q
  have hq : q = 0#1 ∨ q = 1#1 := by revert q; decide
  by_cases h : z < 0 <;> rcases hq with rfl | rfl <;> simp [h, Scalar.select, IntOp.andi]

/-- The codes read back from the clipped quotient. -/
theorem p6 (w : FVec Ideal S3x640x112x8x16 .f32) (b : Fin 3) (h : Fin 112) (p : Fin 64) (t : Fin 640) (y0 y1 : EReal)
    (h0 : w (ix5 b t h ⟨p.val / 8, by omega⟩ ⟨p.val % 8 * 2, by omega⟩) = y0) (h1 : w (ix5 b t h ⟨p.val / 8, by omega⟩ ⟨p.val % 8 * 2 + 1, by omega⟩) = y1) :
    k0_pay6 w (ix4 b h p t) = BitVec.setWidth 8 (IntOp.ori (Nib.rc (min ((6 : ℝ) : EReal) (max ((-6 : ℝ) : EReal) y0)))
      (IntOp.shli ArithUnit.vector (Nib.rc (min ((6 : ℝ) : EReal) (max ((-6 : ℝ) : EReal) y1))) 4#32)) := by
  pointwise [k0_pay6]
  rw [h0, h1, Nib.c6, Nib.cn6]
  generalize min ((6 : ℝ) : EReal) (max ((-6 : ℝ) : EReal) y0) = z0
  generalize min ((6 : ℝ) : EReal) (max ((-6 : ℝ) : EReal) y1) = z1
  exact congrArg (BitVec.setWidth 8) (congrArg₂ IntOp.ori (nib_rc z0) (congrArg (fun a => IntOp.shli ArithUnit.vector a 4#32) (nib_rc z1)))

theorem p7 (w : FVec Ideal S3x640x112x8 .fp8e4m3) (b : Fin 3) (h : Fin 112) (p : Fin 8) (t : Fin 640) :
    k0_pay7 w (ix4 b h p t) = w (ix4 b t h p) := by
  pointwise [k0_pay7]

end Cert.ReferenceIdeal.Ref
end
-- ==== Proof.RefOut.lean ====
module

public import proofs.«01_k».proof.Proof.Ref
public import proofs.«01_k».proof.Proof.Gen.ReferenceIdeal.Frame
public import Idealize.ShloMosaic.Lib.Pipeline.ValueKit
public import Idealize.ShloMosaic.Lib.Pipeline.Regions
public import Idealize.ShloMosaic.Lib.ValueIdx

@[expose] public section

set_option maxRecDepth 16384

noncomputable section

namespace Cert.ReferenceIdeal.Ref

open Idealize.ShloMosaic Idealize.ShloMosaic.TcCoe Idealize.SL.Sem Cert.ReferenceIdeal Cert.ReferenceIdeal.Gen Cert.Quant

theorem gather4 {α : Type} (x : S75x32x112x128.Idx → α) (idx : IVec S3x20x1 32) (y : S3x20x32x112x128.Idx) :
    Host.gather gather_S75x32x112x128_S3x20x1_S3x20x32x112x128_234_0_n_n_0_2_132112128 x idx y
      = x (ix4 ⟨min (idx (ix3 (y 0) (y 1) 0)).toInt.toNat 74, by omega⟩ (y 2) (y 3) (y 4)) := by
  unfold Host.gather
  congr 1
  funext a
  refine Fin.ext ?_
  match a with
  | 0 =>
    show GatherDims.start _ y idx 0 + GatherDims.batchCoord _ y 0 + GatherDims.offCoord _ y 0 = _
    rw [GatherDims.batchCoord_eq_zero _ _ _ (by decide), GatherDims.offCoord_eq_zero _ _ _ (by decide)]
    unfold GatherDims.start
    rw [dif_pos (by decide)]
    show min (idx _).toInt.toNat _ = min (idx _).toInt.toNat _
    congr 4
    funext b
    refine Fin.ext ?_
    match b with
    | 0 => show _ = _; chain_rfl
    | 1 => show _ = _; chain_rfl
    | 2 => show _ = _; chain_rfl
  | 1 =>
    show GatherDims.start _ y idx 1 + GatherDims.batchCoord _ y 1 + GatherDims.offCoord _ y 1 = _
    rw [GatherDims.batchCoord_eq_zero _ _ _ (by decide), show GatherDims.start gather_S75x32x112x128_S3x20x1_S3x20x32x112x128_234_0_n_n_0_2_132112128 y idx 1 = 0 from dif_neg (by decide),
      Nat.add_zero, Nat.zero_add]
    show _ = _
    chain_rfl
  | 2 =>
    show GatherDims.start _ y idx 2 + GatherDims.batchCoord _ y 2 + GatherDims.offCoord _ y 2 = _
    rw [GatherDims.batchCoord_eq_zero _ _ _ (by decide), show GatherDims.start gather_S75x32x112x128_S3x20x1_S3x20x32x112x128_234_0_n_n_0_2_132112128 y idx 2 = 0 from dif_neg (by decide),
      Nat.add_zero, Nat.zero_add]
    show _ = _
    chain_rfl
  | 3 =>
    show GatherDims.start _ y idx 3 + GatherDims.batchCoord _ y 3 + GatherDims.offCoord _ y 3 = _
    rw [GatherDims.batchCoord_eq_zero _ _ _ (by decide), show GatherDims.start gather_S75x32x112x128_S3x20x1_S3x20x32x112x128_234_0_n_n_0_2_132112128 y idx 3 = 0 from dif_neg (by decide),
      Nat.add_zero, Nat.zero_add]
    show _ = _
    chain_rfl

theorem gather3 {α : Type} (x : S75x32x112.Idx → α) (idx : IVec S3x20x1 32) (y : S3x20x32x112.Idx) :
    Host.gather gather_S75x32x112_S3x20x1_S3x20x32x112_23_0_n_n_0_2_132112 x idx y
      = x (ix3 ⟨min (idx (ix3 (y 0) (y 1) 0)).toInt.toNat 74, by omega⟩ (y 2) (y 3)) := by
  unfold Host.gather
  congr 1
  funext a
  refine Fin.ext ?_
  match a with
  | 0 =>
    show GatherDims.start _ y idx 0 + GatherDims.batchCoord _ y 0 + GatherDims.offCoord _ y 0 = _
    rw [GatherDims.batchCoord_eq_zero _ _ _ (by decide), GatherDims.offCoord_eq_zero _ _ _ (by decide)]
    unfold GatherDims.start
    rw [dif_pos (by decide)]
    show min (idx _).toInt.toNat _ = min (idx _).toInt.toNat _
    congr 4
    funext b
    refine Fin.ext ?_
    match b with
    | 0 => show _ = _; chain_rfl
    | 1 => show _ = _; chain_rfl
    | 2 => show _ = _; chain_rfl
  | 1 =>
    show GatherDims.start _ y idx 1 + GatherDims.batchCoord _ y 1 + GatherDims.offCoord _ y 1 = _
    rw [GatherDims.batchCoord_eq_zero _ _ _ (by decide), show GatherDims.start gather_S75x32x112_S3x20x1_S3x20x32x112_23_0_n_n_0_2_132112 y idx 1 = 0 from dif_neg (by decide),
      Nat.add_zero, Nat.zero_add]
    show _ = _
    chain_rfl
  | 2 =>
    show GatherDims.start _ y idx 2 + GatherDims.batchCoord _ y 2 + GatherDims.offCoord _ y 2 = _
    rw [GatherDims.batchCoord_eq_zero _ _ _ (by decide), show GatherDims.start gather_S75x32x112_S3x20x1_S3x20x32x112_23_0_n_n_0_2_132112 y idx 2 = 0 from dif_neg (by decide),
      Nat.add_zero, Nat.zero_add]
    show _ = _
    chain_rfl

variable (m : (ℓ : Loc nD τ sig) → Buf (Elt Ideal) ℓ) (c : Dev nD)

/-- The table with negative entries moved up by the number of pages, as a gather reads it. -/
def wrap (T : IVec S3x20 32) : IVec S3x20x1 32 :=
  broadcastInDim S3x20x1 ![0, 1] bcast_S3x20_S3x20x1_0_1
    (select (cmpi .slt T (broadcastInDim S3x20 ![] bcast_S_S3x20 (constantI S_ 32 0#32)))
      (addi T (broadcastInDim S3x20 ![] bcast_S_S3x20 (constantI S_ 32 75#32))) T)

theorem main_v7_eq : V m c main_v7 = shapeCast S3x640x112x128 (Host.gather gather_S75x32x112x128_S3x20x1_S3x20x32x112x128_234_0_n_n_0_2_132112128 (V m c main_arg0) (wrap (V m c main_arg2))) shapeCasts_S3x20x32x112x128_S3x640x112x128 := by
  chain_rfl

theorem main_v15_eq : V m c main_v15 = shapeCast S3x640x112 (Host.gather gather_S75x32x112_S3x20x1_S3x20x32x112_23_0_n_n_0_2_132112 (V m c main_arg1) (wrap (V m c main_arg2))) shapeCasts_S3x20x32x112_S3x640x112 := by
  chain_rfl

theorem wrap_at (T : IVec S3x20 32) (hT : ∀ j, (T j).toNat < 75) (b : Fin 3) (k : Fin 20) : wrap T (ix3 b k 0) = T (ix2 b k) := by
  have h := hT (ix2 b k)
  unfold wrap
  pointwise []
  generalize T (ix2 b k) = x at h
  have e : IntOp.cmpi .slt x 0#32 = 0#1 := by
    have : x.slt 0#32 = false := by
      rw [BitVec.slt, decide_eq_false_iff_not, BitVec.toInt_eq_toNat_of_lt (by omega)]
      show ¬ (x.toNat : ℤ) < 0
      omega
    show BitVec.ofBool _ = _
    rw [this]
    rfl
  rw [e]
  rfl

theorem toInt_small (x : BitVec 32) (h : x.toNat < 75) : x.toInt.toNat = x.toNat := by
  rw [BitVec.toInt_eq_toNat_of_lt (by omega)]
  rfl

/-- The page a token of a row lies on. -/
def page (T : IVec S3x20 32) (b : Fin 3) (t : Fin 640) : Fin 75 := ⟨min (T (ix2 b ⟨t.val / 32, by omega⟩)).toNat 74, by omega⟩

theorem rs7 (X : S3x20x32x112x128.Idx → EReal) (b : Fin 3) (t : Fin 640) (h : Fin 112) (d : Fin 128) :
    shapeCast S3x640x112x128 X shapeCasts_S3x20x32x112x128_S3x640x112x128 (ix4 b t h d) = X (ix5 b ⟨t.val / 32, by omega⟩ ⟨t.val % 32, Nat.mod_lt _ (by decide)⟩ h d) := by
  pointwise []

theorem rs15 (X : S3x20x32x112.Idx → EReal) (b : Fin 3) (t : Fin 640) (h : Fin 112) :
    shapeCast S3x640x112 X shapeCasts_S3x20x32x112_S3x640x112 (ix3 b t h) = X (ix4 b ⟨t.val / 32, by omega⟩ ⟨t.val % 32, Nat.mod_lt _ (by decide)⟩ h) := by
  pointwise []

theorem wrap_page (T : IVec S3x20 32) (hT : ∀ j, (T j).toNat < 75) (b : Fin 3) (t : Fin 640) (k : Fin 20) (hk : k.val = t.val / 32) :
    min (wrap T (ix3 b k 0)).toInt.toNat 74 = (page T b t).val := by
  rw [wrap_at T hT, toInt_small _ (hT _), show k = ⟨t.val / 32, by omega⟩ from Fin.ext hk]
  rfl

theorem v7_at (hT : ∀ j, (V (F := Ideal) m c main_arg2 j).toNat < 75) (b : Fin 3) (t : Fin 640) (h : Fin 112) (d : Fin 128) :
    (V (F := Ideal) m c main_v7 : S3x640x112x128.Idx → EReal) (ix4 b t h d)
      = (V (F := Ideal) m c main_arg0 : S75x32x112x128.Idx → EReal) (ix4 (page (V (F := Ideal) m c main_arg2) b t) ⟨t.val % 32, Nat.mod_lt _ (by decide)⟩ h d) := by
  rw [main_v7_eq]
  refine (rs7 _ b t h d).trans ((gather4 _ _ _).trans ?_)
  refine congrArg (V (F := Ideal) m c main_arg0 : S75x32x112x128.Idx → EReal) ?_
  exact congrArg (fun p => ix4 p ⟨t.val % 32, Nat.mod_lt _ (by decide)⟩ h d) (Fin.ext (wrap_page _ hT b t ⟨t.val / 32, by omega⟩ rfl))

theorem v15_at (hT : ∀ j, (V (F := Ideal) m c main_arg2 j).toNat < 75) (b : Fin 3) (t : Fin 640) (h : Fin 112) :
    (V (F := Ideal) m c main_v15 : S3x640x112.Idx → EReal) (ix3 b t h)
      = (V (F := Ideal) m c main_arg1 : S75x32x112.Idx → EReal) (ix3 (page (V (F := Ideal) m c main_arg2) b t) ⟨t.val % 32, Nat.mod_lt _ (by decide)⟩ h) := by
  rw [main_v15_eq]
  refine (rs15 _ b t h).trans ((gather3 _ _ _).trans ?_)
  refine congrArg (V (F := Ideal) m c main_arg1 : S75x32x112.Idx → EReal) ?_
  exact congrArg (fun p => ix3 p ⟨t.val % 32, Nat.mod_lt _ (by decide)⟩ h) (Fin.ext (wrap_page _ hT b t ⟨t.val / 32, by omega⟩ rfl))

theorem iblk0 (t : Fin cfg0.N) : iblk m c 0 t = V (F := Ideal) m c main_v7 := by
  funext x
  blk_simp [iblk]
  refine congrArg (V (F := Ideal) m c main_v7) (funext fun a => Fin.ext ?_)
  exact Pipeline.Window.rect_emb_val_of_index_zero win0_0 t a ((by decide +kernel : ∀ (t : Fin cfg0.N) a, win0_0.index t a = 0) t a) x

theorem iblk1 (t : Fin cfg0.N) : iblk m c 1 t = V (F := Ideal) m c main_v15 := by
  funext x
  blk_simp [iblk]
  refine congrArg (V (F := Ideal) m c main_v15) (funext fun a => Fin.ext ?_)
  exact Pipeline.Window.rect_emb_val_of_index_zero win0_1 t a ((by decide +kernel : ∀ (t : Fin cfg0.N) a, win0_1.index t a = 0) t a) x

theorem final2 : (dats m 0 c).arrAt 2 cfg0.N = k0_pay6 (k0_pay5 (V (F := Ideal) m c main_v7) (V (F := Ideal) m c main_v15)) := by
  refine Pipeline.Dat.arrAt_eq_of_after_last _ 2 t0_0 (by decide +kernel) _ fun j => ?_
  blk_simp
  rw [after0_2, iblk0, iblk1]
  frame_out

theorem final3 : (dats m 0 c).arrAt 3 cfg0.N = k0_pay7 (k0_pay4 (V (F := Ideal) m c main_v7) (V (F := Ideal) m c main_v15)) := by
  refine Pipeline.Dat.arrAt_eq_of_after_last _ 3 t0_0 (by decide +kernel) _ fun j => ?_
  blk_simp
  rw [after0_3, iblk0, iblk1]
  frame_out

theorem final4 : (dats m 0 c).arrAt 4 cfg0.N = k0_pay2 (V (F := Ideal) m c main_v7) (V (F := Ideal) m c main_v15) := by
  refine Pipeline.Dat.arrAt_eq_of_after_last _ 4 t0_0 (by decide +kernel) _ fun j => ?_
  blk_simp
  rw [after0_4, iblk0, iblk1]
  frame_out

section
variable (v : Vec Ideal S3x640x112x128 .fp8e4m3) (s : Vec Ideal S3x640x112 .f32)

/-- The bytes at an element. -/
theorem bytes (b : Fin 3) (h : Fin 112) (p : Fin 64) (t : Fin 640) : k0_pay6 (k0_pay5 v s) (ix4 b h p t) = BY (cc v b h) (ss s b h) p t := by
  have e0 : col ⟨p.val / 8, by omega⟩ ⟨p.val % 8 * 2, by omega⟩ = lo p := Fin.ext (by simp only [col, lo]; omega)
  have e1 : col ⟨p.val / 8, by omega⟩ ⟨p.val % 8 * 2 + 1, by omega⟩ = hi p := Fin.ext (by simp only [col, hi]; omega)
  refine (p6 _ b h p t _ _ (p5 v s b t h _ _) (p5 v s b t h _ _)).trans ?_
  rw [e0, e1]
  rfl

theorem scales (b : Fin 3) (h : Fin 112) (n : Fin 8) (t : Fin 640) : k0_pay7 (k0_pay4 v s) (ix4 b h n t) = SE (cc v b h) (ss s b h) n t :=
  (p7 _ b h n t).trans (p4 v s b t h n)
end

/-- THE RUN'S RESULTS: the three result arrays and the arguments at the end. -/
theorem values (ρ : Dev nD → PrngReg) :
    θ_run defs (onTc (τ := τ) (main (F := Ideal))) ⟨m, fun _ => 0, ρ⟩ (fun r => ∀ c : Dev nD,
      (r.2.mem ((c.tc : Thread nD τ).loc main_v16_0) = k0_pay6 (k0_pay5 (V (F := Ideal) m c main_v7) (V (F := Ideal) m c main_v15))
      ∧ r.2.mem ((c.tc : Thread nD τ).loc main_v16_1) = k0_pay7 (k0_pay4 (V (F := Ideal) m c main_v7) (V (F := Ideal) m c main_v15))
      ∧ r.2.mem ((c.tc : Thread nD τ).loc main_v16_2) = k0_pay2 (V (F := Ideal) m c main_v7) (V (F := Ideal) m c main_v15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨⟨(h.1.out_eq c 2).trans (final2 m c), (h.1.out_eq c 3).trans (final3 m c), (h.1.out_eq c 4).trans (final4 m c)⟩, h.2 c⟩)
    (θ_run_and (run_main m ρ) (unchanged m ρ))

end Cert.ReferenceIdeal.Ref
end
-- ==== Proof.Equal.lean ====
/-
  The kernel and the reference leave the same results: what each leaves is one function of the page table and the two
  caches.
-/
module

public import proofs.«01_k».proof.Proof.Outs
public import proofs.«01_k».proof.Proof.RefOut

@[expose] public section

set_option maxRecDepth 16384

noncomputable section

namespace Cert.ReferenceIdeal.Ref

open Idealize.ShloMosaic Idealize.ShloMosaic.TcCoe Idealize.SL.Sem Cert.ReferenceIdeal Cert.ReferenceIdeal.Gen Cert.Quant
open Cert.KernelIdeal.Outs (CX SX FC FS FG)

variable (m : (ℓ : Loc nD τ sig) → Buf (Elt Ideal) ℓ) (c : Dev nD)

/-- The table and the two caches the launch reads. -/
def tt : S3x20.Idx → BitVec 32 := V (F := Ideal) m c main_arg2
def ca : S75x32x112x128.Idx → EReal := V (F := Ideal) m c main_arg0
def sa : S75x32x112.Idx → EReal := V (F := Ideal) m c main_arg1

theorem page_eq (T : IVec S3x20 32) (b : Fin 3) (t : Fin 640) : page T b t = ⟨Cert.KernelIdeal.Gather.pg T b.val (t.val / 32), Cert.KernelIdeal.Gather.pg_lt _ _ _⟩ := by
  refine Fin.ext ?_
  have e0 : (⟨b.val % 3, Nat.mod_lt _ (by decide)⟩ : Fin 3) = b := Fin.ext (by simp only; omega)
  have e1 : (⟨t.val / 32 % 20, Nat.mod_lt _ (by decide)⟩ : Fin 20) = ⟨t.val / 32, by omega⟩ := Fin.ext (by simp only; omega)
  show min (T (ix2 b ⟨t.val / 32, by omega⟩)).toNat 74 = min (T (ix2 ⟨b.val % 3, Nat.mod_lt _ (by decide)⟩ ⟨t.val / 32 % 20, Nat.mod_lt _ (by decide)⟩)).toNat 74
  rw [e0, e1]

theorem cc_eq (hT : ∀ j, (tt m c j).toNat < 75) (b : Fin 3) (h : Fin 112) : cc (V (F := Ideal) m c main_v7) b h = CX (tt m c) (ca m c) b h := by
  funext t d
  refine (v7_at m c hT b t h d).trans ?_
  rw [page_eq]
  rfl

theorem ss_eq (hT : ∀ j, (tt m c j).toNat < 75) (b : Fin 3) (h : Fin 112) : ss (V (F := Ideal) m c main_v15) b h = SX (tt m c) (sa m c) b h := by
  funext t
  refine (v15_at m c hT b t h).trans ?_
  rw [page_eq]
  rfl

theorem codes_eq (hT : ∀ j, (tt m c j).toNat < 75) :
    k0_pay6 (k0_pay5 (V (F := Ideal) m c main_v7) (V (F := Ideal) m c main_v15)) = FC (tt m c) (ca m c) (sa m c) := by
  funext j
  have e : j = ix4 (j 0) (j 1) (j 2) (j 3) := by
    funext a
    match a with
    | 0 => rfl
    | 1 => rfl
    | 2 => rfl
    | 3 => rfl
  refine (congrArg _ e).trans ((bytes _ _ (j 0) (j 1) (j 2) (j 3)).trans ?_)
  exact congrArg₂ (fun x y => BY x y (j 2) (j 3)) (cc_eq m c hT (j 0) (j 1)) (ss_eq m c hT (j 0) (j 1))

theorem scales_eq (hT : ∀ j, (tt m c j).toNat < 75) :
    k0_pay7 (k0_pay4 (V (F := Ideal) m c main_v7) (V (F := Ideal) m c main_v15)) = FS (tt m c) (ca m c) (sa m c) := by
  funext j
  have e : j = ix4 (j 0) (j 1) (j 2) (j 3) := by
    funext a
    match a with
    | 0 => rfl
    | 1 => rfl
    | 2 => rfl
    | 3 => rfl
  refine (congrArg _ e).trans ((scales _ _ (j 0) (j 1) (j 2) (j 3)).trans ?_)
  exact congrArg₂ (fun x y => SE x y (j 2) (j 3)) (cc_eq m c hT (j 0) (j 1)) (ss_eq m c hT (j 0) (j 1))

theorem globals_eq (hT : ∀ j, (tt m c j).toNat < 75) :
    k0_pay2 (V (F := Ideal) m c main_v7) (V (F := Ideal) m c main_v15) = FG (tt m c) (ca m c) (sa m c) := by
  funext j
  have e : j = ix2 (j 0) (j 1) := by
    funext a
    match a with
    | 0 => rfl
    | 1 => rfl
  refine (congrArg _ e).trans ((p2 _ _ (j 0) (j 1)).trans ?_)
  exact congrArg₂ (fun x y => G x y) (cc_eq m c hT (j 0) (j 1)) (ss_eq m c hT (j 0) (j 1))

end Cert.ReferenceIdeal.Ref
end
-- ==== Proof.lean ====
/-
  The certificate: each claim's proof, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_pool
public import proofs.«01_k».proof.Proof.Pool
public import proofs.«01_k».proof.Proof.Same
public import proofs.«01_k».proof.Proof.Equal

@[expose] public section

noncomputable section

namespace Cert.Proof

open Idealize.ShloMosaic Idealize.SL.Sem

/-- The page table of a memory the precondition holds of names pages of the pool. -/
theorem table (m : (ℓ : Loc Cert.KernelIdeal.nD Cert.KernelIdeal.τ Cert.KernelIdeal.sig) → Buf (Elt Ideal) ℓ) (h : Cert.Pre_KernelIdeal m)
    (c : Dev Cert.KernelIdeal.nD) (j : Cert.KernelIdeal.S3x20.Idx) : (Cert.KernelIdeal.Run.TT m c j).toNat < 75 := by
  have e : Cert.KernelIdeal.Run.TT m c j = (m ((c.tc : Thread Cert.KernelIdeal.nD Cert.KernelIdeal.τ).loc Cert.KernelIdeal.main_arg2) : Cert.KernelIdeal.S3x20.Idx → BitVec 32) j :=
    congrFun (Cert.KernelIdeal.Run.V_main_arg2 m c) j
  rw [e]
  exact Cert.Pool.lt_of_fn _ _ _ (h c) j

theorem kernel : Cert.quiescent_Kernel := fun m g h => Cert.Same.B_holds m g fun c j => Cert.Pool.lt_of_fn _ _ _ (h c) j

theorem kernelIdeal : Cert.quiescent_KernelIdeal := fun m g h => Cert.KernelIdeal.Run.frame m g (table m h)

theorem referenceIdeal : Cert.quiescent_ReferenceIdeal := fun m g _ => Cert.ReferenceIdeal.Gen.frame m g

theorem preserves : Cert.preserves_Kernel_KernelIdeal :=
  IdealRules.named_const.statement Cert.KernelIdeal.κ "inv_global_div" .f32 0x39C30C31#32 _ rfl

/-- The kernel and the reference, started from the same table and caches, leave the same three results: each result as a
    function of the table and the caches. -/
theorem algebraic : Cert.algebraic_KernelIdeal_ReferenceIdeal := fun m g m' g' h hm => by
  have hT := table m h
  have e0 (c) : Cert.ReferenceIdeal.Ref.ca m' c = Cert.KernelIdeal.Outs.ca m c :=
    (Cert.ReferenceIdeal.Gen.V_main_arg0 m' c).trans ((hm c).1.trans (Cert.KernelIdeal.Run.V_main_arg0 m c).symm)
  have e1 (c) : Cert.ReferenceIdeal.Ref.sa m' c = Cert.KernelIdeal.Outs.sa m c :=
    (Cert.ReferenceIdeal.Gen.V_main_arg1 m' c).trans ((hm c).2.1.trans (Cert.KernelIdeal.Run.V_main_arg1 m c).symm)
  have e2 (c) : Cert.ReferenceIdeal.Ref.tt m' c = Cert.KernelIdeal.Outs.tt m c :=
    (Cert.ReferenceIdeal.Gen.V_main_arg2 m' c).trans ((hm c).2.2.trans (Cert.KernelIdeal.Run.V_main_arg2 m c).symm)
  have hT' (c) : ∀ j, (Cert.ReferenceIdeal.Ref.tt m' c j).toNat < 75 := by
    rw [e2 c]
    exact hT c
  refine ⟨fun c => Cert.KernelIdeal.Outs.FC (Cert.KernelIdeal.Outs.tt m c) (Cert.KernelIdeal.Outs.ca m c) (Cert.KernelIdeal.Outs.sa m c),
    fun c => Cert.KernelIdeal.Outs.FS (Cert.KernelIdeal.Outs.tt m c) (Cert.KernelIdeal.Outs.ca m c) (Cert.KernelIdeal.Outs.sa m c),
    fun c => Cert.KernelIdeal.Outs.FG (Cert.KernelIdeal.Outs.tt m c) (Cert.KernelIdeal.Outs.ca m c) (Cert.KernelIdeal.Outs.sa m c), ?_, ?_⟩
  · exact (θ_run _ _ _).mono (fun _ k c => ⟨(k c).1.1, (k c).1.2.1, (k c).1.2.2, (k c).2⟩) (Cert.KernelIdeal.Outs.values m g hT)
  · refine (θ_run _ _ _).mono (fun _ k c => ⟨(k c).1.1.trans ?_, (k c).1.2.1.trans ?_, (k c).1.2.2.trans ?_, (k c).2⟩) (Cert.ReferenceIdeal.Ref.values m' g')
    · rw [Cert.ReferenceIdeal.Ref.codes_eq m' c (hT' c), e0 c, e1 c, e2 c]
    · rw [Cert.ReferenceIdeal.Ref.scales_eq m' c (hT' c), e0 c, e1 c, e2 c]
    · rw [Cert.ReferenceIdeal.Ref.globals_eq m' c (hT' c), e0 c, e1 c, e2 c]

theorem claim : Cert.Claim := ⟨Cert.Kernel.Gen.facts, Cert.KernelIdeal.Gen.facts, Cert.ReferenceIdeal.Gen.facts, Cert.Pre_in_pool.Gen.facts,
  kernel, kernelIdeal, referenceIdeal, preserves, algebraic⟩

end Cert.Proof

end
